-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x4096 : Shape := ⟨2, ![1024, 4096]⟩
abbrev S8192x4096 : Shape := ⟨2, ![8192, 4096]⟩
abbrev S2x1024x2048 : Shape := ⟨3, ![2, 1024, 2048]⟩
abbrev S2x2x1024x2048 : Shape := ⟨4, ![2, 2, 1024, 2048]⟩
abbrev S2x2x1024x1024 : Shape := ⟨4, ![2, 2, 1024, 1024]⟩
abbrev S1024x2048 : Shape := ⟨2, ![1024, 2048]⟩
abbrev S2x2x2 : Shape := ⟨3, ![2, 2, 2]⟩
abbrev S2x2 : Shape := ⟨2, ![2, 2]⟩
abbrev S_ : Shape := ⟨0, ![]⟩
abbrev S1x1 : Shape := ⟨2, ![1, 1]⟩
abbrev S1x1x1024x1024 : Shape := ⟨4, ![1, 1, 1024, 1024]⟩
abbrev S1024x1024 : Shape := ⟨2, ![1024, 1024]⟩
abbrev S1x1024x2048 : Shape := ⟨3, ![1, 1024, 2048]⟩
abbrev S1x1x1 : Shape := ⟨3, ![1, 1, 1]⟩
abbrev S1x1x512x2048 : Shape := ⟨4, ![1, 1, 512, 2048]⟩
abbrev S512x2048 : Shape := ⟨2, ![512, 2048]⟩
abbrev S1x512x2048 : Shape := ⟨3, ![1, 512, 2048]⟩
abbrev S2x1x512x2048 : Shape := ⟨4, ![2, 1, 512, 2048]⟩
abbrev S2x512x2048 : Shape := ⟨3, ![2, 512, 2048]⟩
abbrev S1x1x1024x2048 : Shape := ⟨4, ![1, 1, 1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .bf16⟩
  | .hbm, ⟨2, _⟩ => ⟨S8192x4096, .bf16⟩
  | .local _ .vmem, ⟨0, _⟩ => ⟨S1024x4096, .bf16⟩
  | .local _ .vmem, ⟨1, _⟩ => ⟨S2x1024x2048, .bf16⟩
  | .local _ .vmem, ⟨2, _⟩ => ⟨S2x2x1024x2048, .bf16⟩
  | .local _ .vmem, ⟨3, _⟩ => ⟨S2x1024x2048, .bf16⟩
  | .local _ .vmem, ⟨4, _⟩ => ⟨S2x2x1024x1024, .f32⟩
  | .local _ .vmem, ⟨5, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 3 22 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 2

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v26 : BitVec 32 := Scalar.muli v2 c1024_i32
  let c0_i32_20 : BitVec 32 := 0#32
  ![v26.toNat, 0]
def k0_off2 (d0 : Dev nD) (c0_i32_21 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.subi v2 c0_i32_21
  let c1_i32_22 : BitVec 32 := 1#32
  let v33 : BitVec 32 := Scalar.subi v32 c1_i32_22
  let c8_i32_23 : BitVec 32 := 8#32
  let c0_i32_24 : BitVec 32 := 0#32
  let v34 : BitVec 1 := Scalar.cmpi .eq c8_i32_23 c0_i32_24
  let c1_i32_25 : BitVec 32 := 1#32
  let v35 : BitVec 32 := Scalar.select v34 c1_i32_25 c8_i32_23
  let v36 : BitVec 32 := Scalar.remsi v33 v35
  let c0_i32_27 : BitVec 32 := 0#32
  let v38 : BitVec 1 := Scalar.cmpi .slt v36 c0_i32_27
  let c0_i32_28 : BitVec 32 := 0#32
  let v39 : BitVec 1 := Scalar.cmpi .slt v35 c0_i32_28
  let v40 : BitVec 1 := Scalar.xori v38 v39
  let c0_i32_26 : BitVec 32 := 0#32
  let v37 : BitVec 1 := Scalar.cmpi .ne v36 c0_i32_26
  let v41 : BitVec 1 := Scalar.andi v40 v37
  let v42 : BitVec 32 := Scalar.addi v36 v35
  let v43 : BitVec 32 := Scalar.select v41 v42 v36
  let c1024_i32_29 : BitVec 32 := 1024#32
  let v44 : BitVec 32 := Scalar.muli v43 c1024_i32_29
  let c0_i32_36 : BitVec 32 := 0#32
  ![v44.toNat, 0]
def k0_off3 (d0 : Dev nD) (c0_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v50 : BitVec 32 := Scalar.addi v2 c0_i32_37
  let c1_i32_38 : BitVec 32 := 1#32
  let v51 : BitVec 32 := Scalar.addi v50 c1_i32_38
  let c8_i32_39 : BitVec 32 := 8#32
  let c0_i32_40 : BitVec 32 := 0#32
  let v52 : BitVec 1 := Scalar.cmpi .eq c8_i32_39 c0_i32_40
  let c1_i32_41 : BitVec 32 := 1#32
  let v53 : BitVec 32 := Scalar.select v52 c1_i32_41 c8_i32_39
  let v54 : BitVec 32 := Scalar.remsi v51 v53
  let c0_i32_43 : BitVec 32 := 0#32
  let v56 : BitVec 1 := Scalar.cmpi .slt v54 c0_i32_43
  let c0_i32_44 : BitVec 32 := 0#32
  let v57 : BitVec 1 := Scalar.cmpi .slt v53 c0_i32_44
  let v58 : BitVec 1 := Scalar.xori v56 v57
  let c0_i32_42 : BitVec 32 := 0#32
  let v55 : BitVec 1 := Scalar.cmpi .ne v54 c0_i32_42
  let v59 : BitVec 1 := Scalar.andi v58 v55
  let v60 : BitVec 32 := Scalar.addi v54 v53
  let v61 : BitVec 32 := Scalar.select v59 v60 v54
  let c1024_i32_45 : BitVec 32 := 1024#32
  let v62 : BitVec 32 := Scalar.muli v61 c1024_i32_45
  let c0_i32_52 : BitVec 32 := 0#32
  ![v62.toNat, 0]
def k0_dev1 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_54 : BitVec 32 := 1#32
  let v69 : BitVec 32 := Scalar.muli v25 c1_i32_54
  let v70 : BitVec 32 := Scalar.addi c0_i32_55 v69
  v70.toNat
def k0_dev2 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_57 : BitVec 32 := 1#32
  let v71 : BitVec 32 := Scalar.muli v13 c1_i32_57
  let v72 : BitVec 32 := Scalar.addi c0_i32_58 v71
  v72.toNat
def k0_dev3 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_85 : BitVec 32 := 1#32
  let v94 : BitVec 32 := Scalar.muli v13 c1_i32_85
  let v95 : BitVec 32 := Scalar.addi c0_i32_86 v94
  v95.toNat
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_100 : BitVec 32 := 1#32
  let v104 : BitVec 32 := Scalar.muli v25 c1_i32_100
  let v105 : BitVec 32 := Scalar.addi c0_i32_101 v104
  v105.toNat
def k0_dev5 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_115 : BitVec 32 := 1#32
  let v114 : BitVec 32 := Scalar.muli v13 c1_i32_115
  let v115 : BitVec 32 := Scalar.addi c0_i32_116 v114
  v115.toNat
def k0_dev6 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_129 : BitVec 32 := 1#32
  let v124 : BitVec 32 := Scalar.muli v25 c1_i32_129
  let v125 : BitVec 32 := Scalar.addi c0_i32_130 v124
  v125.toNat
def k0_dev7 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_295 : BitVec 32 := 1#32
  let v264 : BitVec 32 := Scalar.muli v13 c1_i32_295
  let v265 : BitVec 32 := Scalar.addi c0_i32_296 v264
  v265.toNat
def k0_dev8 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_310 : BitVec 32 := 1#32
  let v274 : BitVec 32 := Scalar.muli v25 c1_i32_310
  let v275 : BitVec 32 := Scalar.addi c0_i32_311 v274
  v275.toNat
def k0_dev9 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_317 : BitVec 32 := 1#32
  let v284 : BitVec 32 := Scalar.muli v25 c1_i32_317
  let v285 : BitVec 32 := Scalar.addi c0_i32_318 v284
  v285.toNat
def k0_dev10 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_320 : BitVec 32 := 1#32
  let v286 : BitVec 32 := Scalar.muli v13 c1_i32_320
  let v287 : BitVec 32 := Scalar.addi c0_i32_321 v286
  v287.toNat
def k0_dev11 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_398 : BitVec 32 := 1#32
  let v326 : BitVec 32 := Scalar.muli v13 c1_i32_398
  let v327 : BitVec 32 := Scalar.addi c0_i32_399 v326
  v327.toNat
def k0_dev12 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_413 : BitVec 32 := 1#32
  let v336 : BitVec 32 := Scalar.muli v25 c1_i32_413
  let v337 : BitVec 32 := Scalar.addi c0_i32_414 v336
  v337.toNat
def k0_dev13 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_420 : BitVec 32 := 1#32
  let v346 : BitVec 32 := Scalar.muli v25 c1_i32_420
  let v347 : BitVec 32 := Scalar.addi c0_i32_421 v346
  v347.toNat
def k0_dev14 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_423 : BitVec 32 := 1#32
  let v348 : BitVec 32 := Scalar.muli v13 c1_i32_423
  let v349 : BitVec 32 := Scalar.addi c0_i32_424 v348
  v349.toNat
def k0_dev15 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_588 : BitVec 32 := 1#32
  let v480 : BitVec 32 := Scalar.muli v13 c1_i32_588
  let v481 : BitVec 32 := Scalar.addi c0_i32_589 v480
  v481.toNat
def k0_dev16 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_605 : BitVec 32 := 1#32
  let v490 : BitVec 32 := Scalar.muli v25 c1_i32_605
  let v491 : BitVec 32 := Scalar.addi c0_i32_606 v490
  v491.toNat
def k0_dev17 (d0 : Dev nD) : Nat :=
  let c0_i32_613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_612 : BitVec 32 := 1#32
  let v500 : BitVec 32 := Scalar.muli v25 c1_i32_612
  let v501 : BitVec 32 := Scalar.addi c0_i32_613 v500
  v501.toNat
def k0_dev18 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_615 : BitVec 32 := 1#32
  let v502 : BitVec 32 := Scalar.muli v13 c1_i32_615
  let v503 : BitVec 32 := Scalar.addi c0_i32_616 v502
  v503.toNat
def k0_dev19 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_696 : BitVec 32 := 1#32
  let v542 : BitVec 32 := Scalar.muli v13 c1_i32_696
  let v543 : BitVec 32 := Scalar.addi c0_i32_697 v542
  v543.toNat
def k0_dev20 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_713 : BitVec 32 := 1#32
  let v552 : BitVec 32 := Scalar.muli v25 c1_i32_713
  let v553 : BitVec 32 := Scalar.addi c0_i32_714 v552
  v553.toNat
def k0_dev21 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_720 : BitVec 32 := 1#32
  let v562 : BitVec 32 := Scalar.muli v25 c1_i32_720
  let v563 : BitVec 32 := Scalar.addi c0_i32_721 v562
  v563.toNat
def k0_dev22 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_723 : BitVec 32 := 1#32
  let v564 : BitVec 32 := Scalar.muli v13 c1_i32_723
  let v565 : BitVec 32 := Scalar.addi c0_i32_724 v564
  v565.toNat
def k0_dev23 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_887 : BitVec 32 := 1#32
  let v696 : BitVec 32 := Scalar.muli v13 c1_i32_887
  let v697 : BitVec 32 := Scalar.addi c0_i32_888 v696
  v697.toNat
def k0_dev24 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_904 : BitVec 32 := 1#32
  let v706 : BitVec 32 := Scalar.muli v25 c1_i32_904
  let v707 : BitVec 32 := Scalar.addi c0_i32_905 v706
  v707.toNat
def k0_dev25 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_911 : BitVec 32 := 1#32
  let v716 : BitVec 32 := Scalar.muli v25 c1_i32_911
  let v717 : BitVec 32 := Scalar.addi c0_i32_912 v716
  v717.toNat
def k0_dev26 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_914 : BitVec 32 := 1#32
  let v718 : BitVec 32 := Scalar.muli v13 c1_i32_914
  let v719 : BitVec 32 := Scalar.addi c0_i32_915 v718
  v719.toNat
def k0_dev27 (d0 : Dev nD) : Nat :=
  let c0_i32_996 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_995 : BitVec 32 := 1#32
  let v758 : BitVec 32 := Scalar.muli v13 c1_i32_995
  let v759 : BitVec 32 := Scalar.addi c0_i32_996 v758
  v759.toNat
def k0_dev28 (d0 : Dev nD) : Nat :=
  let c0_i32_1013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1012 : BitVec 32 := 1#32
  let v768 : BitVec 32 := Scalar.muli v25 c1_i32_1012
  let v769 : BitVec 32 := Scalar.addi c0_i32_1013 v768
  v769.toNat
def k0_dev29 (d0 : Dev nD) : Nat :=
  let c0_i32_1020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1019 : BitVec 32 := 1#32
  let v778 : BitVec 32 := Scalar.muli v25 c1_i32_1019
  let v779 : BitVec 32 := Scalar.addi c0_i32_1020 v778
  v779.toNat
def k0_dev30 (d0 : Dev nD) : Nat :=
  let c0_i32_1023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1022 : BitVec 32 := 1#32
  let v780 : BitVec 32 := Scalar.muli v13 c1_i32_1022
  let v781 : BitVec 32 := Scalar.addi c0_i32_1023 v780
  v781.toNat
def k0_dev31 (d0 : Dev nD) : Nat :=
  let c0_i32_1187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1186 : BitVec 32 := 1#32
  let v912 : BitVec 32 := Scalar.muli v13 c1_i32_1186
  let v913 : BitVec 32 := Scalar.addi c0_i32_1187 v912
  v913.toNat
def k0_dev32 (d0 : Dev nD) : Nat :=
  let c0_i32_1204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1203 : BitVec 32 := 1#32
  let v922 : BitVec 32 := Scalar.muli v25 c1_i32_1203
  let v923 : BitVec 32 := Scalar.addi c0_i32_1204 v922
  v923.toNat
def k0_dev33 (d0 : Dev nD) : Nat :=
  let c0_i32_1211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1210 : BitVec 32 := 1#32
  let v932 : BitVec 32 := Scalar.muli v25 c1_i32_1210
  let v933 : BitVec 32 := Scalar.addi c0_i32_1211 v932
  v933.toNat
def k0_dev34 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1213 : BitVec 32 := 1#32
  let v934 : BitVec 32 := Scalar.muli v13 c1_i32_1213
  let v935 : BitVec 32 := Scalar.addi c0_i32_1214 v934
  v935.toNat
def k0_dev35 (d0 : Dev nD) : Nat :=
  let c0_i32_1295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1294 : BitVec 32 := 1#32
  let v974 : BitVec 32 := Scalar.muli v13 c1_i32_1294
  let v975 : BitVec 32 := Scalar.addi c0_i32_1295 v974
  v975.toNat
def k0_dev36 (d0 : Dev nD) : Nat :=
  let c0_i32_1312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1311 : BitVec 32 := 1#32
  let v984 : BitVec 32 := Scalar.muli v25 c1_i32_1311
  let v985 : BitVec 32 := Scalar.addi c0_i32_1312 v984
  v985.toNat
def k0_dev37 (d0 : Dev nD) : Nat :=
  let c0_i32_1319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1318 : BitVec 32 := 1#32
  let v994 : BitVec 32 := Scalar.muli v25 c1_i32_1318
  let v995 : BitVec 32 := Scalar.addi c0_i32_1319 v994
  v995.toNat
def k0_dev38 (d0 : Dev nD) : Nat :=
  let c0_i32_1322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1321 : BitVec 32 := 1#32
  let v996 : BitVec 32 := Scalar.muli v13 c1_i32_1321
  let v997 : BitVec 32 := Scalar.addi c0_i32_1322 v996
  v997.toNat
def k0_dev39 (d0 : Dev nD) : Nat :=
  let c0_i32_1486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1485 : BitVec 32 := 1#32
  let v1128 : BitVec 32 := Scalar.muli v13 c1_i32_1485
  let v1129 : BitVec 32 := Scalar.addi c0_i32_1486 v1128
  v1129.toNat
def k0_dev40 (d0 : Dev nD) : Nat :=
  let c0_i32_1503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1502 : BitVec 32 := 1#32
  let v1138 : BitVec 32 := Scalar.muli v25 c1_i32_1502
  let v1139 : BitVec 32 := Scalar.addi c0_i32_1503 v1138
  v1139.toNat
def k0_dev41 (d0 : Dev nD) : Nat :=
  let c0_i32_1510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1509 : BitVec 32 := 1#32
  let v1148 : BitVec 32 := Scalar.muli v25 c1_i32_1509
  let v1149 : BitVec 32 := Scalar.addi c0_i32_1510 v1148
  v1149.toNat
def k0_dev42 (d0 : Dev nD) : Nat :=
  let c0_i32_1513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1512 : BitVec 32 := 1#32
  let v1150 : BitVec 32 := Scalar.muli v13 c1_i32_1512
  let v1151 : BitVec 32 := Scalar.addi c0_i32_1513 v1150
  v1151.toNat
def k0_dev43 (d0 : Dev nD) : Nat :=
  let c0_i32_1594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1593 : BitVec 32 := 1#32
  let v1190 : BitVec 32 := Scalar.muli v13 c1_i32_1593
  let v1191 : BitVec 32 := Scalar.addi c0_i32_1594 v1190
  v1191.toNat
def k0_dev44 (d0 : Dev nD) : Nat :=
  let c0_i32_1611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1610 : BitVec 32 := 1#32
  let v1200 : BitVec 32 := Scalar.muli v25 c1_i32_1610
  let v1201 : BitVec 32 := Scalar.addi c0_i32_1611 v1200
  v1201.toNat
def k0_dev45 (d0 : Dev nD) : Nat :=
  let c0_i32_1618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1617 : BitVec 32 := 1#32
  let v1210 : BitVec 32 := Scalar.muli v25 c1_i32_1617
  let v1211 : BitVec 32 := Scalar.addi c0_i32_1618 v1210
  v1211.toNat
def k0_dev46 (d0 : Dev nD) : Nat :=
  let c0_i32_1621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1620 : BitVec 32 := 1#32
  let v1212 : BitVec 32 := Scalar.muli v13 c1_i32_1620
  let v1213 : BitVec 32 := Scalar.addi c0_i32_1621 v1212
  v1213.toNat
def k0_dev47 (d0 : Dev nD) : Nat :=
  let c0_i32_1785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1784 : BitVec 32 := 1#32
  let v1344 : BitVec 32 := Scalar.muli v13 c1_i32_1784
  let v1345 : BitVec 32 := Scalar.addi c0_i32_1785 v1344
  v1345.toNat
def k0_dev48 (d0 : Dev nD) : Nat :=
  let c0_i32_1802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1801 : BitVec 32 := 1#32
  let v1354 : BitVec 32 := Scalar.muli v25 c1_i32_1801
  let v1355 : BitVec 32 := Scalar.addi c0_i32_1802 v1354
  v1355.toNat
def k0_dev49 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1808 : BitVec 32 := 1#32
  let v1364 : BitVec 32 := Scalar.muli v25 c1_i32_1808
  let v1365 : BitVec 32 := Scalar.addi c0_i32_1809 v1364
  v1365.toNat
def k0_dev50 (d0 : Dev nD) : Nat :=
  let c0_i32_1812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1811 : BitVec 32 := 1#32
  let v1366 : BitVec 32 := Scalar.muli v13 c1_i32_1811
  let v1367 : BitVec 32 := Scalar.addi c0_i32_1812 v1366
  v1367.toNat
def k0_dev51 (d0 : Dev nD) : Nat :=
  let c0_i32_1893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1892 : BitVec 32 := 1#32
  let v1406 : BitVec 32 := Scalar.muli v13 c1_i32_1892
  let v1407 : BitVec 32 := Scalar.addi c0_i32_1893 v1406
  v1407.toNat
def k0_dev52 (d0 : Dev nD) : Nat :=
  let c0_i32_1910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1909 : BitVec 32 := 1#32
  let v1416 : BitVec 32 := Scalar.muli v25 c1_i32_1909
  let v1417 : BitVec 32 := Scalar.addi c0_i32_1910 v1416
  v1417.toNat
def k0_dev53 (d0 : Dev nD) : Nat :=
  let c0_i32_1917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1916 : BitVec 32 := 1#32
  let v1426 : BitVec 32 := Scalar.muli v25 c1_i32_1916
  let v1427 : BitVec 32 := Scalar.addi c0_i32_1917 v1426
  v1427.toNat
def k0_dev54 (d0 : Dev nD) : Nat :=
  let c0_i32_1920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1919 : BitVec 32 := 1#32
  let v1428 : BitVec 32 := Scalar.muli v13 c1_i32_1919
  let v1429 : BitVec 32 := Scalar.addi c0_i32_1920 v1428
  v1429.toNat
def k0_dev55 (d0 : Dev nD) : Nat :=
  let c0_i32_2053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2052 : BitVec 32 := 1#32
  let v1524 : BitVec 32 := Scalar.muli v13 c1_i32_2052
  let v1525 : BitVec 32 := Scalar.addi c0_i32_2053 v1524
  v1525.toNat
def k0_dev56 (d0 : Dev nD) : Nat :=
  let c0_i32_2070 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2069 : BitVec 32 := 1#32
  let v1534 : BitVec 32 := Scalar.muli v25 c1_i32_2069
  let v1535 : BitVec 32 := Scalar.addi c0_i32_2070 v1534
  v1535.toNat
def k0_dev57 (d0 : Dev nD) : Nat :=
  let c0_i32_2077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2076 : BitVec 32 := 1#32
  let v1544 : BitVec 32 := Scalar.muli v25 c1_i32_2076
  let v1545 : BitVec 32 := Scalar.addi c0_i32_2077 v1544
  v1545.toNat
def k0_dev58 (d0 : Dev nD) : Nat :=
  let c0_i32_2080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2079 : BitVec 32 := 1#32
  let v1546 : BitVec 32 := Scalar.muli v13 c1_i32_2079
  let v1547 : BitVec 32 := Scalar.addi c0_i32_2080 v1546
  v1547.toNat
def k0_dev59 (d0 : Dev nD) : Nat :=
  let c0_i32_2161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2160 : BitVec 32 := 1#32
  let v1586 : BitVec 32 := Scalar.muli v13 c1_i32_2160
  let v1587 : BitVec 32 := Scalar.addi c0_i32_2161 v1586
  v1587.toNat
def k0_dev60 (d0 : Dev nD) : Nat :=
  let c0_i32_2178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2177 : BitVec 32 := 1#32
  let v1596 : BitVec 32 := Scalar.muli v25 c1_i32_2177
  let v1597 : BitVec 32 := Scalar.addi c0_i32_2178 v1596
  v1597.toNat
def k0_dev61 (d0 : Dev nD) : Nat :=
  let c0_i32_2185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2184 : BitVec 32 := 1#32
  let v1606 : BitVec 32 := Scalar.muli v25 c1_i32_2184
  let v1607 : BitVec 32 := Scalar.addi c0_i32_2185 v1606
  v1607.toNat
def k0_dev62 (d0 : Dev nD) : Nat :=
  let c0_i32_2188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2187 : BitVec 32 := 1#32
  let v1608 : BitVec 32 := Scalar.muli v13 c1_i32_2187
  let v1609 : BitVec 32 := Scalar.addi c0_i32_2188 v1608
  v1609.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2189 : BitVec 32 := 6#32
  let v1610 : BitVec 32 := Scalar.subi v2 c6_i32_2189
  let c1_i32_2190 : BitVec 32 := 1#32
  let v1611 : BitVec 32 := Scalar.subi v1610 c1_i32_2190
  let c8_i32_2191 : BitVec 32 := 8#32
  let c0_i32_2192 : BitVec 32 := 0#32
  let v1612 : BitVec 1 := Scalar.cmpi .eq c8_i32_2191 c0_i32_2192
  let c1_i32_2193 : BitVec 32 := 1#32
  let v1613 : BitVec 32 := Scalar.select v1612 c1_i32_2193 c8_i32_2191
  let v1614 : BitVec 32 := Scalar.remsi v1611 v1613
  let c0_i32_2195 : BitVec 32 := 0#32
  let v1616 : BitVec 1 := Scalar.cmpi .slt v1614 c0_i32_2195
  let c0_i32_2196 : BitVec 32 := 0#32
  let v1617 : BitVec 1 := Scalar.cmpi .slt v1613 c0_i32_2196
  let v1618 : BitVec 1 := Scalar.xori v1616 v1617
  let c0_i32_2194 : BitVec 32 := 0#32
  let v1615 : BitVec 1 := Scalar.cmpi .ne v1614 c0_i32_2194
  let v1619 : BitVec 1 := Scalar.andi v1618 v1615
  let v1620 : BitVec 32 := Scalar.addi v1614 v1613
  let v1621 : BitVec 32 := Scalar.select v1619 v1620 v1614
  let c1024_i32_2211 : BitVec 32 := 1024#32
  let v1641 : BitVec 32 := Scalar.muli v1621 c1024_i32_2211
  let c0_i32_2212 : BitVec 32 := 0#32
  ![v1641.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2197 : BitVec 32 := 6#32
  let v1622 : BitVec 32 := Scalar.addi v2 c6_i32_2197
  let c1_i32_2198 : BitVec 32 := 1#32
  let v1623 : BitVec 32 := Scalar.addi v1622 c1_i32_2198
  let c8_i32_2199 : BitVec 32 := 8#32
  let c0_i32_2200 : BitVec 32 := 0#32
  let v1624 : BitVec 1 := Scalar.cmpi .eq c8_i32_2199 c0_i32_2200
  let c1_i32_2201 : BitVec 32 := 1#32
  let v1625 : BitVec 32 := Scalar.select v1624 c1_i32_2201 c8_i32_2199
  let v1626 : BitVec 32 := Scalar.remsi v1623 v1625
  let c0_i32_2203 : BitVec 32 := 0#32
  let v1628 : BitVec 1 := Scalar.cmpi .slt v1626 c0_i32_2203
  let c0_i32_2204 : BitVec 32 := 0#32
  let v1629 : BitVec 1 := Scalar.cmpi .slt v1625 c0_i32_2204
  let v1630 : BitVec 1 := Scalar.xori v1628 v1629
  let c0_i32_2202 : BitVec 32 := 0#32
  let v1627 : BitVec 1 := Scalar.cmpi .ne v1626 c0_i32_2202
  let v1631 : BitVec 1 := Scalar.andi v1630 v1627
  let v1632 : BitVec 32 := Scalar.addi v1626 v1625
  let v1633 : BitVec 32 := Scalar.select v1631 v1632 v1626
  let c1024_i32_2220 : BitVec 32 := 1024#32
  let v1651 : BitVec 32 := Scalar.muli v1633 c1024_i32_2220
  let c2048_i32 : BitVec 32 := 2048#32
  ![v1651.toNat, 2048]
def k0_dev63 (d0 : Dev nD) : Nat :=
  let c0_i32_2298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2297 : BitVec 32 := 1#32
  let v1686 : BitVec 32 := Scalar.muli v13 c1_i32_2297
  let v1687 : BitVec 32 := Scalar.addi c0_i32_2298 v1686
  v1687.toNat
def k0_dev64 (d0 : Dev nD) : Nat :=
  let c0_i32_2315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2314 : BitVec 32 := 1#32
  let v1696 : BitVec 32 := Scalar.muli v25 c1_i32_2314
  let v1697 : BitVec 32 := Scalar.addi c0_i32_2315 v1696
  v1697.toNat
def k0_dev65 (d0 : Dev nD) : Nat :=
  let c0_i32_2397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2396 : BitVec 32 := 1#32
  let v1739 : BitVec 32 := Scalar.muli v13 c1_i32_2396
  let v1740 : BitVec 32 := Scalar.addi c0_i32_2397 v1739
  v1740.toNat
def k0_dev66 (d0 : Dev nD) : Nat :=
  let c0_i32_2414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2413 : BitVec 32 := 1#32
  let v1749 : BitVec 32 := Scalar.muli v25 c1_i32_2413
  let v1750 : BitVec 32 := Scalar.addi c0_i32_2414 v1749
  v1750.toNat
def k0_off6 (d0 : Dev nD) (c0_i32_2419 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1759 : BitVec 32 := Scalar.subi v2 c0_i32_2419
  let c8_i32_2420 : BitVec 32 := 8#32
  let c0_i32_2421 : BitVec 32 := 0#32
  let v1760 : BitVec 1 := Scalar.cmpi .eq c8_i32_2420 c0_i32_2421
  let c1_i32_2422 : BitVec 32 := 1#32
  let v1761 : BitVec 32 := Scalar.select v1760 c1_i32_2422 c8_i32_2420
  let v1762 : BitVec 32 := Scalar.remsi v1759 v1761
  let c0_i32_2424 : BitVec 32 := 0#32
  let v1764 : BitVec 1 := Scalar.cmpi .slt v1762 c0_i32_2424
  let c0_i32_2425 : BitVec 32 := 0#32
  let v1765 : BitVec 1 := Scalar.cmpi .slt v1761 c0_i32_2425
  let v1766 : BitVec 1 := Scalar.xori v1764 v1765
  let c0_i32_2423 : BitVec 32 := 0#32
  let v1763 : BitVec 1 := Scalar.cmpi .ne v1762 c0_i32_2423
  let v1767 : BitVec 1 := Scalar.andi v1766 v1763
  let v1768 : BitVec 32 := Scalar.addi v1762 v1761
  let v1769 : BitVec 32 := Scalar.select v1767 v1768 v1762
  let c1024_i32_2441 : BitVec 32 := 1024#32
  let v1789 : BitVec 32 := Scalar.muli v1769 c1024_i32_2441
  let c0_i32_2442 : BitVec 32 := 0#32
  ![v1789.toNat, 0]
def k0_dev67 (d0 : Dev nD) : Nat :=
  let c0_i32_2445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2444 : BitVec 32 := 1#32
  let v1791 : BitVec 32 := Scalar.muli v25 c1_i32_2444
  let v1792 : BitVec 32 := Scalar.addi c0_i32_2445 v1791
  v1792.toNat
def k0_off7 (d0 : Dev nD) (c0_i32_2426 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1770 : BitVec 32 := Scalar.addi v2 c0_i32_2426
  let c8_i32_2427 : BitVec 32 := 8#32
  let c0_i32_2428 : BitVec 32 := 0#32
  let v1771 : BitVec 1 := Scalar.cmpi .eq c8_i32_2427 c0_i32_2428
  let c1_i32_2429 : BitVec 32 := 1#32
  let v1772 : BitVec 32 := Scalar.select v1771 c1_i32_2429 c8_i32_2427
  let v1773 : BitVec 32 := Scalar.remsi v1770 v1772
  let c0_i32_2431 : BitVec 32 := 0#32
  let v1775 : BitVec 1 := Scalar.cmpi .slt v1773 c0_i32_2431
  let c0_i32_2432 : BitVec 32 := 0#32
  let v1776 : BitVec 1 := Scalar.cmpi .slt v1772 c0_i32_2432
  let v1777 : BitVec 1 := Scalar.xori v1775 v1776
  let c0_i32_2430 : BitVec 32 := 0#32
  let v1774 : BitVec 1 := Scalar.cmpi .ne v1773 c0_i32_2430
  let v1778 : BitVec 1 := Scalar.andi v1777 v1774
  let v1779 : BitVec 32 := Scalar.addi v1773 v1772
  let v1780 : BitVec 32 := Scalar.select v1778 v1779 v1773
  let c1024_i32_2454 : BitVec 32 := 1024#32
  let v1801 : BitVec 32 := Scalar.muli v1780 c1024_i32_2454
  let c2048_i32_2455 : BitVec 32 := 2048#32
  ![v1801.toNat, 2048]
def k0_dev68 (d0 : Dev nD) : Nat :=
  let c0_i32_2458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2457 : BitVec 32 := 1#32
  let v1803 : BitVec 32 := Scalar.muli v13 c1_i32_2457
  let v1804 : BitVec 32 := Scalar.addi c0_i32_2458 v1803
  v1804.toNat
def k0_dev69 (d0 : Dev nD) : Nat :=
  let c0_i32_2536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2535 : BitVec 32 := 1#32
  let v1838 : BitVec 32 := Scalar.muli v13 c1_i32_2535
  let v1839 : BitVec 32 := Scalar.addi c0_i32_2536 v1838
  v1839.toNat
def k0_dev70 (d0 : Dev nD) : Nat :=
  let c0_i32_2553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2552 : BitVec 32 := 1#32
  let v1848 : BitVec 32 := Scalar.muli v25 c1_i32_2552
  let v1849 : BitVec 32 := Scalar.addi c0_i32_2553 v1848
  v1849.toNat
def k0_dev71 (d0 : Dev nD) : Nat :=
  let c0_i32_2635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2634 : BitVec 32 := 1#32
  let v1891 : BitVec 32 := Scalar.muli v13 c1_i32_2634
  let v1892 : BitVec 32 := Scalar.addi c0_i32_2635 v1891
  v1892.toNat
def k0_dev72 (d0 : Dev nD) : Nat :=
  let c0_i32_2652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2651 : BitVec 32 := 1#32
  let v1901 : BitVec 32 := Scalar.muli v25 c1_i32_2651
  let v1902 : BitVec 32 := Scalar.addi c0_i32_2652 v1901
  v1902.toNat
def k0_dev73 (d0 : Dev nD) : Nat :=
  let c0_i32_2683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2682 : BitVec 32 := 1#32
  let v1943 : BitVec 32 := Scalar.muli v25 c1_i32_2682
  let v1944 : BitVec 32 := Scalar.addi c0_i32_2683 v1943
  v1944.toNat
def k0_dev74 (d0 : Dev nD) : Nat :=
  let c0_i32_2696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2695 : BitVec 32 := 1#32
  let v1955 : BitVec 32 := Scalar.muli v13 c1_i32_2695
  let v1956 : BitVec 32 := Scalar.addi c0_i32_2696 v1955
  v1956.toNat
def k0_dev75 (d0 : Dev nD) : Nat :=
  let c0_i32_2774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2773 : BitVec 32 := 1#32
  let v1990 : BitVec 32 := Scalar.muli v13 c1_i32_2773
  let v1991 : BitVec 32 := Scalar.addi c0_i32_2774 v1990
  v1991.toNat
def k0_dev76 (d0 : Dev nD) : Nat :=
  let c0_i32_2791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2790 : BitVec 32 := 1#32
  let v2000 : BitVec 32 := Scalar.muli v25 c1_i32_2790
  let v2001 : BitVec 32 := Scalar.addi c0_i32_2791 v2000
  v2001.toNat
def k0_dev77 (d0 : Dev nD) : Nat :=
  let c0_i32_2873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2872 : BitVec 32 := 1#32
  let v2043 : BitVec 32 := Scalar.muli v13 c1_i32_2872
  let v2044 : BitVec 32 := Scalar.addi c0_i32_2873 v2043
  v2044.toNat
def k0_dev78 (d0 : Dev nD) : Nat :=
  let c0_i32_2890 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2889 : BitVec 32 := 1#32
  let v2053 : BitVec 32 := Scalar.muli v25 c1_i32_2889
  let v2054 : BitVec 32 := Scalar.addi c0_i32_2890 v2053
  v2054.toNat
def k0_dev79 (d0 : Dev nD) : Nat :=
  let c0_i32_2921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2920 : BitVec 32 := 1#32
  let v2095 : BitVec 32 := Scalar.muli v25 c1_i32_2920
  let v2096 : BitVec 32 := Scalar.addi c0_i32_2921 v2095
  v2096.toNat
def k0_dev80 (d0 : Dev nD) : Nat :=
  let c0_i32_2934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2933 : BitVec 32 := 1#32
  let v2107 : BitVec 32 := Scalar.muli v13 c1_i32_2933
  let v2108 : BitVec 32 := Scalar.addi c0_i32_2934 v2107
  v2108.toNat
def k0_dev81 (d0 : Dev nD) : Nat :=
  let c0_i32_3012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3011 : BitVec 32 := 1#32
  let v2142 : BitVec 32 := Scalar.muli v13 c1_i32_3011
  let v2143 : BitVec 32 := Scalar.addi c0_i32_3012 v2142
  v2143.toNat
def k0_dev82 (d0 : Dev nD) : Nat :=
  let c0_i32_3029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3028 : BitVec 32 := 1#32
  let v2152 : BitVec 32 := Scalar.muli v25 c1_i32_3028
  let v2153 : BitVec 32 := Scalar.addi c0_i32_3029 v2152
  v2153.toNat
def k0_dev83 (d0 : Dev nD) : Nat :=
  let c0_i32_3111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3110 : BitVec 32 := 1#32
  let v2195 : BitVec 32 := Scalar.muli v13 c1_i32_3110
  let v2196 : BitVec 32 := Scalar.addi c0_i32_3111 v2195
  v2196.toNat
def k0_dev84 (d0 : Dev nD) : Nat :=
  let c0_i32_3128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3127 : BitVec 32 := 1#32
  let v2205 : BitVec 32 := Scalar.muli v25 c1_i32_3127
  let v2206 : BitVec 32 := Scalar.addi c0_i32_3128 v2205
  v2206.toNat
def k0_dev85 (d0 : Dev nD) : Nat :=
  let c0_i32_3159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3158 : BitVec 32 := 1#32
  let v2247 : BitVec 32 := Scalar.muli v25 c1_i32_3158
  let v2248 : BitVec 32 := Scalar.addi c0_i32_3159 v2247
  v2248.toNat
def k0_dev86 (d0 : Dev nD) : Nat :=
  let c0_i32_3172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3171 : BitVec 32 := 1#32
  let v2259 : BitVec 32 := Scalar.muli v13 c1_i32_3171
  let v2260 : BitVec 32 := Scalar.addi c0_i32_3172 v2259
  v2260.toNat
def k0_dev87 (d0 : Dev nD) : Nat :=
  let c0_i32_3250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3249 : BitVec 32 := 1#32
  let v2294 : BitVec 32 := Scalar.muli v13 c1_i32_3249
  let v2295 : BitVec 32 := Scalar.addi c0_i32_3250 v2294
  v2295.toNat
def k0_dev88 (d0 : Dev nD) : Nat :=
  let c0_i32_3267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3266 : BitVec 32 := 1#32
  let v2304 : BitVec 32 := Scalar.muli v25 c1_i32_3266
  let v2305 : BitVec 32 := Scalar.addi c0_i32_3267 v2304
  v2305.toNat
def k0_dev89 (d0 : Dev nD) : Nat :=
  let c0_i32_3349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3348 : BitVec 32 := 1#32
  let v2347 : BitVec 32 := Scalar.muli v13 c1_i32_3348
  let v2348 : BitVec 32 := Scalar.addi c0_i32_3349 v2347
  v2348.toNat
def k0_dev90 (d0 : Dev nD) : Nat :=
  let c0_i32_3366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3365 : BitVec 32 := 1#32
  let v2357 : BitVec 32 := Scalar.muli v25 c1_i32_3365
  let v2358 : BitVec 32 := Scalar.addi c0_i32_3366 v2357
  v2358.toNat
def k0_dev91 (d0 : Dev nD) : Nat :=
  let c0_i32_3397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3396 : BitVec 32 := 1#32
  let v2399 : BitVec 32 := Scalar.muli v25 c1_i32_3396
  let v2400 : BitVec 32 := Scalar.addi c0_i32_3397 v2399
  v2400.toNat
def k0_dev92 (d0 : Dev nD) : Nat :=
  let c0_i32_3410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3409 : BitVec 32 := 1#32
  let v2411 : BitVec 32 := Scalar.muli v13 c1_i32_3409
  let v2412 : BitVec 32 := Scalar.addi c0_i32_3410 v2411
  v2412.toNat
def k0_dev93 (d0 : Dev nD) : Nat :=
  let c0_i32_3488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3487 : BitVec 32 := 1#32
  let v2446 : BitVec 32 := Scalar.muli v13 c1_i32_3487
  let v2447 : BitVec 32 := Scalar.addi c0_i32_3488 v2446
  v2447.toNat
def k0_dev94 (d0 : Dev nD) : Nat :=
  let c0_i32_3505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3504 : BitVec 32 := 1#32
  let v2456 : BitVec 32 := Scalar.muli v25 c1_i32_3504
  let v2457 : BitVec 32 := Scalar.addi c0_i32_3505 v2456
  v2457.toNat
def k0_dev95 (d0 : Dev nD) : Nat :=
  let c0_i32_3587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3586 : BitVec 32 := 1#32
  let v2499 : BitVec 32 := Scalar.muli v13 c1_i32_3586
  let v2500 : BitVec 32 := Scalar.addi c0_i32_3587 v2499
  v2500.toNat
def k0_dev96 (d0 : Dev nD) : Nat :=
  let c0_i32_3604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3603 : BitVec 32 := 1#32
  let v2509 : BitVec 32 := Scalar.muli v25 c1_i32_3603
  let v2510 : BitVec 32 := Scalar.addi c0_i32_3604 v2509
  v2510.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .bf16⟩
  | .hbm, ⟨2, _⟩ => ⟨S8192x8192, .bf16⟩
  | .hbm, ⟨3, _⟩ => ⟨S8192x4096, .f32⟩
  | .hbm, ⟨4, _⟩ => ⟨S8192x4096, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Steps.lean ====
/-
  The kernel body as a sequence of its steps: every step is written once, over the direction `d` (0: to the right,
  1: to the left), the slot and the half `s` it is about, and the body is the entry, fourteen hops and the last wait.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic Idealize.SL.Sem

variable {F : FTy → Type} [FloatOps F]

/-! ## The buffers and their pieces -/

abbrev M0 : Memref sig .tc .hbm S8192x1024 .f32 := Memref.whole main_arg0
abbrev M1 : Memref sig .tc .vmem S1024x4096 .bf16 := Memref.whole cc0_stg0_0
abbrev M2 : Memref sig .tc .hbm S8192x4096 .bf16 := Memref.whole main_v1
abbrev M3 : Memref sig .tc .vmem S2x1024x2048 .bf16 := Memref.whole cc0_scratch0
abbrev M4 : Memref sig .tc .vmem S2x2x1024x2048 .bf16 := Memref.whole cc0_scratch1
abbrev M5 : Memref sig .tc .vmem S2x1024x2048 .bf16 := Memref.whole cc0_scratch2
abbrev M6 : Memref sig .tc .vmem S2x2x1024x1024 .f32 := Memref.whole cc0_scratch3
abbrev M7 : Memref sig .tc .vmem S1024x2048 .bf16 := Memref.whole cc0_scratch4

/-- Half `s` of direction `d` of the sending buffer. -/
abbrev rS (d s : Fin 2) : Rect S2x1024x2048 :=
  Rect.unit (s := S2x1024x2048) ![d.val, 512 * s.val, 0] S1x512x2048.size (by revert d s; decide)
/-- Half `s` of a slot of direction `d` of the receiving buffer. -/
abbrev rR (d sl s : Fin 2) : Rect S2x2x1024x2048 :=
  Rect.unit (s := S2x2x1024x2048) ![d.val, sl.val, 512 * s.val, 0] S1x1x512x2048.size (by revert d sl s; decide)
/-- Half `s` of a slot, both directions. -/
abbrev rRB (sl s : Fin 2) : Rect S2x2x1024x2048 :=
  Rect.unit (s := S2x2x1024x2048) ![0, sl.val, 512 * s.val, 0] S2x1x512x2048.size (by revert sl s; decide)
/-- A whole slot of one direction. -/
abbrev rRW (d sl : Fin 2) : Rect S2x2x1024x2048 :=
  Rect.unit (s := S2x2x1024x2048) ![d.val, sl.val, 0, 0] S1x1x1024x2048.size (by revert d sl; decide)
/-- Half `s`, both directions, of the sending buffer or the buffer of local products. -/
abbrev rSB (s : Fin 2) : Rect S2x1024x2048 :=
  Rect.unit (s := S2x1024x2048) ![0, 512 * s.val, 0] S2x512x2048.size (by revert s; decide)
/-- One direction of either. -/
abbrev rSW (d : Fin 2) : Rect S2x1024x2048 :=
  Rect.unit (s := S2x1024x2048) ![d.val, 0, 0] S1x1024x2048.size (by revert d; decide)
/-- A slot of the staged rows of `x`. -/
abbrev rX (d sl : Fin 2) : Rect S2x2x1024x1024 :=
  Rect.unit (s := S2x2x1024x1024) ![d.val, sl.val, 0, 0] S1x1x1024x1024.size (by revert d sl; decide)
/-- The columns of the weights of direction `d`. -/
abbrev rW (d : Fin 2) : Rect S1024x4096 :=
  Rect.unit (s := S1024x4096) ![0, 2048 * d.val] S1024x2048.size (by revert d; decide)
abbrev rWA : Rect S1024x4096 := Rect.unit (s := S1024x4096) ![0, 0] S1024x4096.size inb_S1024x4096_S1024x4096_0_0
abbrev rB : Rect S1024x2048 := Rect.unit (s := S1024x2048) ![0, 0] S1024x2048.size inb_S1024x2048_S1024x2048_0_0
abbrev rIn (off : Fin 2 → ℕ) (h : ∀ a, off a + S1024x1024.size a ≤ S8192x1024.size a) : Rect S8192x1024 :=
  Rect.unit (s := S8192x1024) off S1024x1024.size h
abbrev rOut (off : Fin 2 → ℕ) (h : ∀ a, off a + S1024x2048.size a ≤ S8192x4096.size a) : Rect S8192x4096 :=
  Rect.unit (s := S8192x4096) off S1024x2048.size h

abbrev mS (d s : Fin 2) : Memref sig .tc .vmem S512x2048 .bf16 :=
  (M3.slice (rS d s) (fun _ => rfl)).squeeze S512x2048 squeezes_S1x512x2048_S512x2048
abbrev mR (d sl s : Fin 2) : Memref sig .tc .vmem S512x2048 .bf16 :=
  (M4.slice (rR d sl s) (fun _ => rfl)).squeeze S512x2048 squeezes_S1x1x512x2048_S512x2048
abbrev mX (d sl : Fin 2) : Memref sig .tc .vmem S1024x1024 .f32 :=
  (M6.slice (rX d sl) (fun _ => rfl)).squeeze S1024x1024 squeezes_S1x1x1024x1024_S1024x1024
abbrev mIn (off : Fin 2 → ℕ) (h : ∀ a, off a + S1024x1024.size a ≤ S8192x1024.size a) : Memref sig .tc .hbm S1024x1024 .f32 :=
  M0.slice (rIn off h) (fun _ => rfl)
abbrev mOut (off : Fin 2 → ℕ) (h : ∀ a, off a + S1024x2048.size a ≤ S8192x4096.size a) : Memref sig .tc .hbm S1024x2048 .bf16 :=
  M2.slice (rOut off h) (fun _ => rfl)

theorem inb3 : ∀ d sl s : Fin 2, ∀ a, (![d.val, sl.val, s.val] : Fin 3 → ℕ) a + S1x1x1.size a ≤ S2x2x2.size a := by decide
theorem inb2 : ∀ d sl : Fin 2, ∀ a, (![d.val, sl.val] : Fin 2 → ℕ) a + S1x1.size a ≤ S2x2.size a := by decide

/-! ## The semaphores -/

abbrev qS (d sl s : Fin 2) : DmaSem sig :=
  (((cc0_scratch5 : DmaSems sig S2x2x2).slice (Rect.unit (s := S2x2x2) ![d.val, sl.val, s.val] S1x1x1.size (inb3 d sl s))).squeeze S_ squeezes_S1x1x1_S_).sem
abbrev qR (d sl s : Fin 2) : DmaSem sig :=
  (((cc0_scratch6 : DmaSems sig S2x2x2).slice (Rect.unit (s := S2x2x2) ![d.val, sl.val, s.val] S1x1x1.size (inb3 d sl s))).squeeze S_ squeezes_S1x1x1_S_).sem
abbrev qX (d sl : Fin 2) : DmaSem sig :=
  (((cc0_scratch7 : DmaSems sig S2x2).slice (Rect.unit (s := S2x2) ![d.val, sl.val] S1x1.size (inb2 d sl))).squeeze S_ squeezes_S1x1_S_).sem
abbrev qO : DmaSem sig := (cc0_scratch8 : DmaSems sig S_).sem
abbrev qC (d : Fin 2) : Sem sig := match d with
  | 0 => (cc0_scratch9 : Sems sig S_).sem
  | 1 => (cc0_scratch10 : Sems sig S_).sem
abbrev qB : Sem sig := (SemArray.scalar (sig.barrier 0 rfl) : Sems sig S_).sem

theorem words_S : ∀ d s : Fin 2, (rS d s).WholeWords (EltTy.packing .bf16) := by decide +kernel
theorem words_R : ∀ d sl s : Fin 2, (rR d sl s).WholeWords (EltTy.packing .bf16) := by decide +kernel
theorem packed_SB : ∀ s : Fin 2, (rSB s).PackedRows (EltTy.packing .bf16) := by decide +kernel
theorem packed_SW : ∀ d : Fin 2, (rSW d).PackedRows (EltTy.packing .bf16) := by decide +kernel

theorem exact_S (d s : Fin 2) : (mS d s).view.WordExact := ((Memref.isWhole_whole cc0_scratch0).wordExact_slice rfl _ (words_S d s)).reshape _ _
theorem exact_R (d sl s : Fin 2) : (mR d sl s).view.WordExact := ((Memref.isWhole_whole cc0_scratch1).wordExact_slice rfl _ (words_R d sl s)).reshape _ _

/-- The devices the printed signals and transfers name, in the order of the text. -/
def devAt (c : Dev nD) : ℕ → Dev nD
  | 1 => ⟨k0_dev1 c, k0_dev1_lt c⟩
  | 2 => ⟨k0_dev2 c, k0_dev2_lt c⟩
  | 3 => ⟨k0_dev3 c, k0_dev3_lt c⟩
  | 4 => ⟨k0_dev4 c, k0_dev4_lt c⟩
  | 5 => ⟨k0_dev5 c, k0_dev5_lt c⟩
  | 6 => ⟨k0_dev6 c, k0_dev6_lt c⟩
  | 7 => ⟨k0_dev7 c, k0_dev7_lt c⟩
  | 8 => ⟨k0_dev8 c, k0_dev8_lt c⟩
  | 9 => ⟨k0_dev9 c, k0_dev9_lt c⟩
  | 10 => ⟨k0_dev10 c, k0_dev10_lt c⟩
  | 11 => ⟨k0_dev11 c, k0_dev11_lt c⟩
  | 12 => ⟨k0_dev12 c, k0_dev12_lt c⟩
  | 13 => ⟨k0_dev13 c, k0_dev13_lt c⟩
  | 14 => ⟨k0_dev14 c, k0_dev14_lt c⟩
  | 15 => ⟨k0_dev15 c, k0_dev15_lt c⟩
  | 16 => ⟨k0_dev16 c, k0_dev16_lt c⟩
  | 17 => ⟨k0_dev17 c, k0_dev17_lt c⟩
  | 18 => ⟨k0_dev18 c, k0_dev18_lt c⟩
  | 19 => ⟨k0_dev19 c, k0_dev19_lt c⟩
  | 20 => ⟨k0_dev20 c, k0_dev20_lt c⟩
  | 21 => ⟨k0_dev21 c, k0_dev21_lt c⟩
  | 22 => ⟨k0_dev22 c, k0_dev22_lt c⟩
  | 23 => ⟨k0_dev23 c, k0_dev23_lt c⟩
  | 24 => ⟨k0_dev24 c, k0_dev24_lt c⟩
  | 25 => ⟨k0_dev25 c, k0_dev25_lt c⟩
  | 26 => ⟨k0_dev26 c, k0_dev26_lt c⟩
  | 27 => ⟨k0_dev27 c, k0_dev27_lt c⟩
  | 28 => ⟨k0_dev28 c, k0_dev28_lt c⟩
  | 29 => ⟨k0_dev29 c, k0_dev29_lt c⟩
  | 30 => ⟨k0_dev30 c, k0_dev30_lt c⟩
  | 31 => ⟨k0_dev31 c, k0_dev31_lt c⟩
  | 32 => ⟨k0_dev32 c, k0_dev32_lt c⟩
  | 33 => ⟨k0_dev33 c, k0_dev33_lt c⟩
  | 34 => ⟨k0_dev34 c, k0_dev34_lt c⟩
  | 35 => ⟨k0_dev35 c, k0_dev35_lt c⟩
  | 36 => ⟨k0_dev36 c, k0_dev36_lt c⟩
  | 37 => ⟨k0_dev37 c, k0_dev37_lt c⟩
  | 38 => ⟨k0_dev38 c, k0_dev38_lt c⟩
  | 39 => ⟨k0_dev39 c, k0_dev39_lt c⟩
  | 40 => ⟨k0_dev40 c, k0_dev40_lt c⟩
  | 41 => ⟨k0_dev41 c, k0_dev41_lt c⟩
  | 42 => ⟨k0_dev42 c, k0_dev42_lt c⟩
  | 43 => ⟨k0_dev43 c, k0_dev43_lt c⟩
  | 44 => ⟨k0_dev44 c, k0_dev44_lt c⟩
  | 45 => ⟨k0_dev45 c, k0_dev45_lt c⟩
  | 46 => ⟨k0_dev46 c, k0_dev46_lt c⟩
  | 47 => ⟨k0_dev47 c, k0_dev47_lt c⟩
  | 48 => ⟨k0_dev48 c, k0_dev48_lt c⟩
  | 49 => ⟨k0_dev49 c, k0_dev49_lt c⟩
  | 50 => ⟨k0_dev50 c, k0_dev50_lt c⟩
  | 51 => ⟨k0_dev51 c, k0_dev51_lt c⟩
  | 52 => ⟨k0_dev52 c, k0_dev52_lt c⟩
  | 53 => ⟨k0_dev53 c, k0_dev53_lt c⟩
  | 54 => ⟨k0_dev54 c, k0_dev54_lt c⟩
  | 55 => ⟨k0_dev55 c, k0_dev55_lt c⟩
  | 56 => ⟨k0_dev56 c, k0_dev56_lt c⟩
  | 57 => ⟨k0_dev57 c, k0_dev57_lt c⟩
  | 58 => ⟨k0_dev58 c, k0_dev58_lt c⟩
  | 59 => ⟨k0_dev59 c, k0_dev59_lt c⟩
  | 60 => ⟨k0_dev60 c, k0_dev60_lt c⟩
  | 61 => ⟨k0_dev61 c, k0_dev61_lt c⟩
  | 62 => ⟨k0_dev62 c, k0_dev62_lt c⟩
  | 63 => ⟨k0_dev63 c, k0_dev63_lt c⟩
  | 64 => ⟨k0_dev64 c, k0_dev64_lt c⟩
  | 65 => ⟨k0_dev65 c, k0_dev65_lt c⟩
  | 66 => ⟨k0_dev66 c, k0_dev66_lt c⟩
  | 67 => ⟨k0_dev67 c, k0_dev67_lt c⟩
  | 68 => ⟨k0_dev68 c, k0_dev68_lt c⟩
  | 69 => ⟨k0_dev69 c, k0_dev69_lt c⟩
  | 70 => ⟨k0_dev70 c, k0_dev70_lt c⟩
  | 71 => ⟨k0_dev71 c, k0_dev71_lt c⟩
  | 72 => ⟨k0_dev72 c, k0_dev72_lt c⟩
  | 73 => ⟨k0_dev73 c, k0_dev73_lt c⟩
  | 74 => ⟨k0_dev74 c, k0_dev74_lt c⟩
  | 75 => ⟨k0_dev75 c, k0_dev75_lt c⟩
  | 76 => ⟨k0_dev76 c, k0_dev76_lt c⟩
  | 77 => ⟨k0_dev77 c, k0_dev77_lt c⟩
  | 78 => ⟨k0_dev78 c, k0_dev78_lt c⟩
  | 79 => ⟨k0_dev79 c, k0_dev79_lt c⟩
  | 80 => ⟨k0_dev80 c, k0_dev80_lt c⟩
  | 81 => ⟨k0_dev81 c, k0_dev81_lt c⟩
  | 82 => ⟨k0_dev82 c, k0_dev82_lt c⟩
  | 83 => ⟨k0_dev83 c, k0_dev83_lt c⟩
  | 84 => ⟨k0_dev84 c, k0_dev84_lt c⟩
  | 85 => ⟨k0_dev85 c, k0_dev85_lt c⟩
  | 86 => ⟨k0_dev86 c, k0_dev86_lt c⟩
  | 87 => ⟨k0_dev87 c, k0_dev87_lt c⟩
  | 88 => ⟨k0_dev88 c, k0_dev88_lt c⟩
  | 89 => ⟨k0_dev89 c, k0_dev89_lt c⟩
  | 90 => ⟨k0_dev90 c, k0_dev90_lt c⟩
  | 91 => ⟨k0_dev91 c, k0_dev91_lt c⟩
  | 92 => ⟨k0_dev92 c, k0_dev92_lt c⟩
  | 93 => ⟨k0_dev93 c, k0_dev93_lt c⟩
  | 94 => ⟨k0_dev94 c, k0_dev94_lt c⟩
  | 95 => ⟨k0_dev95 c, k0_dev95_lt c⟩
  | 96 => ⟨k0_dev96 c, k0_dev96_lt c⟩
  | _ => c

/-! ## The steps -/

abbrev TProg (F : FTy → Type) [FloatOps F] (A : Type) := Prog (TpuEff nD τ sig (Elt F) Λ₀ .tc) A

/-- Start the copy of rows of `x` into a staging slot. -/
def xload (off : Fin 2 → ℕ) (h : ∀ a, off a + S1024x1024.size a ≤ S8192x1024.size a) (d sl : Fin 2) : TProg F PUnit :=
  Prog.lift (.enqueueDma (mIn off h) (.here (mX d sl)) (.dma (qX d sl)) (View.wordExact_bits rfl) ((View.wordExact_bits rfl).reshape _ _) ⟨Or.inl rfl, trivial⟩)

/-- Wait for it. -/
def xwait (off : Fin 2 → ℕ) (h : ∀ a, off a + S1024x1024.size a ≤ S8192x1024.size a) (d sl : Fin 2) : TProg F PUnit :=
  Prog.lift (.waitDma2 (qX d sl) (mIn off h) (mX d sl) (View.wordExact_bits rfl) ((View.wordExact_bits rfl).reshape _ _))

/-- Wait for the own send of a half and then for the neighbour's. -/
def waitSub (d sl s : Fin 2) : TProg F PUnit := do
  Prog.lift (.waitDma2 (qS d sl s) (mR d sl s) (mS d s) (exact_R d sl s) (exact_S d s))
  Prog.lift (.waitDma2 (qR d sl s) (mS d s) (mR d sl s) (exact_S d s) (exact_R d sl s))

/-- Start the send of a half to device `n`. -/
def sendSub (n : Dev nD) (d sl s : Fin 2) : TProg F PUnit :=
  Prog.lift (.enqueueDma (mS d s) (.remote (Dev.tc n) (mR d sl s) (.dma (qS d sl s))) (.dma (qR d sl s)) (exact_S d s) (exact_R d sl s) ⟨⟨rfl, Or.inl rfl⟩, trivial⟩)

/-- The received half plus the local product, into the sending buffer. -/
def accStep (sl s : Fin 2) : TProg F PUnit := do
  let v : Vec F S2x1x512x2048 .bf16 ← Prog.lift (.load M4 (rRB sl s).toLoadRect (View.loadsAt_vmem h_S2x1x512x2048))
  let l : Vec F S2x512x2048 .bf16 ← Prog.lift (.load M5 (rSB s).toLoadRect (View.loadsAt_vmem h_S2x512x2048))
  let _o : Vec F S2x512x2048 .bf16 ← Prog.lift (.load M3 (rSB s).toLoadRect (View.loadsAt_vmem h_S2x512x2048))
  Prog.lift (.store M3 (rSB s) (k0_pay6 v l) Finset.univ (View.stores_vmem h_S2x512x2048 ((Memref.isWhole_whole cc0_scratch0).storeExact_slice rfl _ (packed_SB s)) (fun _ => rfl)) (.inl rfl))

/-- The received half into the sending buffer. -/
def fwdStep (sl s : Fin 2) : TProg F PUnit := do
  let v : Vec F S2x1x512x2048 .bf16 ← Prog.lift (.load M4 (rRB sl s).toLoadRect (View.loadsAt_vmem h_S2x1x512x2048))
  let _o : Vec F S2x512x2048 .bf16 ← Prog.lift (.load M3 (rSB s).toLoadRect (View.loadsAt_vmem h_S2x512x2048))
  Prog.lift (.store M3 (rSB s) (k0_pay36 v) Finset.univ (View.stores_vmem h_S2x512x2048 ((Memref.isWhole_whole cc0_scratch0).storeExact_slice rfl _ (packed_SB s)) (fun _ => rfl)) (.inl rfl))

/-- The product of staged rows of `x` with the weights' columns of direction `d`. -/
def gemmStep (d sl : Fin 2) : TProg F PUnit := do
  let x : Vec F S1x1x1024x1024 .f32 ← Prog.lift (.load M6 (rX d sl).toLoadRect (View.loadsAt_vmem h_S1x1x1024x1024))
  let w : Vec F S1024x2048 .bf16 ← Prog.lift (.load M1 (rW d).toLoadRect (View.loadsAt_vmem h_S1024x2048))
  let _o : Vec F S1x1024x2048 .bf16 ← Prog.lift (.load M5 (rSW d).toLoadRect (View.loadsAt_vmem h_S1x1024x2048))
  Prog.lift (.store M5 (rSW d) (k0_pay4 x w) Finset.univ (View.stores_vmem h_S1x1024x2048 ((Memref.isWhole_whole cc0_scratch2).storeExact_slice rfl _ (packed_SW d)) (fun _ => rfl)) (.inl rfl))

/-- The product of the device's own rows, both directions, into the sending buffer. -/
def ownStep : TProg F PUnit := do
  let x : Vec F S1x1x1024x1024 .f32 ← Prog.lift (.load M6 (rX 1 1).toLoadRect (View.loadsAt_vmem h_S1x1x1024x1024))
  let w : Vec F S1024x4096 .bf16 ← Prog.lift (.load M1 rWA.toLoadRect (View.loadsAt_vmem h_S1024x4096))
  let _o : Vec F S1x1024x2048 .bf16 ← Prog.lift (.load M3 (rSW 0).toLoadRect (View.loadsAt_vmem h_S1x1024x2048))
  Prog.lift (.store M3 (rSW 0) (k0_pay2 x w) Finset.univ (View.stores_vmem h_S1x1024x2048 ((Memref.isWhole_whole cc0_scratch0).storeExact_slice rfl _ (packed_SW 0)) (fun _ => rfl)) (.inl rfl))
  let _o : Vec F S1x1024x2048 .bf16 ← Prog.lift (.load M3 (rSW 1).toLoadRect (View.loadsAt_vmem h_S1x1024x2048))
  Prog.lift (.store M3 (rSW 1) (k0_pay3 (k0_pay1 x w)) Finset.univ (View.stores_vmem h_S1x1024x2048 ((Memref.isWhole_whole cc0_scratch0).storeExact_slice rfl _ (packed_SW 1)) (fun _ => rfl)) (.inl rfl))

/-- Start the copy of the staged result into its place. -/
def outStart (off : Fin 2 → ℕ) (h : ∀ a, off a + S1024x2048.size a ≤ S8192x4096.size a)
    (hw : (rOut off h).WholeWords (EltTy.packing .bf16)) : TProg F PUnit :=
  Prog.lift (.enqueueDma M7 (.here (mOut off h)) (.dma qO) (Memref.isWhole_whole cc0_scratch4).wordExact ((Memref.isWhole_whole main_v1).wordExact_slice rfl _ hw) ⟨Or.inl rfl, trivial⟩)

/-- Wait for it. -/
def outWait (off : Fin 2 → ℕ) (h : ∀ a, off a + S1024x2048.size a ≤ S8192x4096.size a)
    (hw : (rOut off h).WholeWords (EltTy.packing .bf16)) : TProg F PUnit :=
  Prog.lift (.waitDma2 qO M7 (mOut off h) (Memref.isWhole_whole cc0_scratch4).wordExact ((Memref.isWhole_whole main_v1).wordExact_slice rfl _ hw))

/-- Stage the rectified sum of direction `d` from the sending buffer, -/
def stageSend (d : Fin 2) : TProg F PUnit := do
  let v : Vec F S1x1024x2048 .bf16 ← Prog.lift (.load M3 (rSW d).toLoadRect (View.loadsAt_vmem h_S1x1024x2048))
  let _o : Vec F S1024x2048 .bf16 ← Prog.lift (.load M7 rB.toLoadRect (View.loadsAt_vmem h_S1024x2048))
  Prog.lift (.store M7 rB (k0_pay32 v) Finset.univ (View.stores_vmem h_S1024x2048 ((Memref.isWhole_whole cc0_scratch4).storeExact_slice rfl _ packedbf16_S1024x2048_S1024x2048_0_0) (fun _ => rfl)) (.inl rfl))

/-- or from a slot of the receiving buffer. -/
def stageRecv (d sl : Fin 2) : TProg F PUnit := do
  let v : Vec F S1x1x1024x2048 .bf16 ← Prog.lift (.load M4 (rRW d sl).toLoadRect (View.loadsAt_vmem h_S1x1x1024x2048))
  let _o : Vec F S1024x2048 .bf16 ← Prog.lift (.load M7 rB.toLoadRect (View.loadsAt_vmem h_S1024x2048))
  Prog.lift (.store M7 rB (k0_pay37 v) Finset.univ (View.stores_vmem h_S1024x2048 ((Memref.isWhole_whole cc0_scratch4).storeExact_slice rfl _ packedbf16_S1024x2048_S1024x2048_0_0) (fun _ => rfl)) (.inl rfl))

/-! ## The rows of a transfer, as the text computes them -/

/-- The rows of `x` that direction `d` multiplies at hop `h`. -/
def xoff (c : Dev nD) (d : Fin 2) (h : Fin 7) : Fin 2 → ℕ := match d with
  | 0 => k0_off2 c (BitVec.ofNat 32 h.val)
  | 1 => k0_off3 c (BitVec.ofNat 32 h.val)
theorem xoff_inb (c : Dev nD) (d : Fin 2) (h : Fin 7) : ∀ a, xoff c d h a + S1024x1024.size a ≤ S8192x1024.size a := match d with
  | 0 => k0_off2_inb c h
  | 1 => k0_off3_inb c h

/-- The place of the result that direction `d` writes at step `k`: the own chunk's first, the others as they arrive. -/
def ooff (c : Dev nD) (d : Fin 2) (k : Fin 8) : Fin 2 → ℕ := match d, k with
  | 0, ⟨0, _⟩ => k0_off4 c
  | 1, ⟨0, _⟩ => k0_off5 c
  | 0, ⟨k + 1, _⟩ => k0_off6 c (BitVec.ofNat 32 k)
  | 1, ⟨k + 1, _⟩ => k0_off7 c (BitVec.ofNat 32 k)
theorem ooff_inb (c : Dev nD) (d : Fin 2) (k : Fin 8) : ∀ a, ooff c d k a + S1024x2048.size a ≤ S8192x4096.size a := match d, k with
  | 0, ⟨0, _⟩ => k0_off4_inb c
  | 1, ⟨0, _⟩ => k0_off5_inb c
  | 0, ⟨k + 1, h⟩ => k0_off6_inb c ⟨k, by omega⟩
  | 1, ⟨k + 1, h⟩ => k0_off7_inb c ⟨k, by omega⟩
theorem ooff_words (c : Dev nD) (d : Fin 2) (k : Fin 8) : (rOut (ooff c d k) (ooff_inb c d k)).WholeWords (EltTy.packing .bf16) := match d, k with
  | 0, ⟨0, _⟩ => k0_off4_wordsbf16 c
  | 1, ⟨0, _⟩ => k0_off5_wordsbf16 c
  | 0, ⟨k + 1, h⟩ => k0_off6_wordsbf16 c ⟨k, by omega⟩
  | 1, ⟨k + 1, h⟩ => k0_off7_wordsbf16 c ⟨k, by omega⟩

/-! ## A hop -/

def slot (h : ℕ) : Fin 2 := ⟨h % 2, Nat.mod_lt _ (by decide)⟩

/-- The number, in `devAt`, of hop `h`'s first send in half `s`. -/
def devNo (h : ℕ) (s : Fin 2) : ℕ := if h < 7 then 7 + 8 * h + 4 * s.val else if h < 12 then 63 + 6 * (h - 7) + 2 * s.val else 93 + 2 * s.val

/-- The next send of one direction's half, for which from the second hop on the receiver must have granted a credit. -/
def sendNext (c : Dev nD) (h : ℕ) (d s : Fin 2) : TProg F PUnit := do
  let _u ← (if 1 ≤ h then semWaitWord (qC d) 1#32 else pure ⟨⟩ : TProg F PUnit)
  sendSub (devAt c (devNo h s + d.val)) d (slot (h + 1)) s

def half (c : Dev nD) (h : ℕ) (s : Fin 2) : TProg F PUnit := do
  waitSub 0 (slot h) s
  waitSub 1 (slot h) s
  let _u ← (if h < 7 then accStep (slot h) s else if h < 13 then fwdStep (slot h) s else pure ⟨⟩ : TProg F PUnit)
  let _u ← (if h < 13 then do
      sendNext c h 0 s
      sendNext c h 1 s
    else pure ⟨⟩ : TProg F PUnit)
  (if h < 7 then do
      semSignalWord (devAt c (devNo h s + 2)) (qC 0) 1#32
      semSignalWord (devAt c (devNo h s + 3)) (qC 1) 1#32
    else pure ⟨⟩ : TProg F PUnit)

/-- Direction `d`'s product for the next hop. -/
def nextGemm (c : Dev nD) (h : ℕ) (d : Fin 2) (hh : h < 7) : TProg F PUnit := do
  xwait (xoff c d ⟨h, hh⟩) (xoff_inb c d ⟨h, hh⟩) d (slot h)
  gemmStep d (slot h)

def nextLoad (c : Dev nD) (h : ℕ) (d : Fin 2) (hh : h < 7) : TProg F PUnit :=
  xload (xoff c d ⟨h, hh⟩) (xoff_inb c d ⟨h, hh⟩) d (slot h)

/-- Put out what direction `d` has at step `k` after the first, and grant the credit of both halves. -/
def flush (c : Dev nD) (h : ℕ) (d pd : Fin 2) (k pk : Fin 8) : TProg F PUnit := do
  outWait (ooff c pd pk) (ooff_inb c pd pk) (ooff_words c pd pk)
  stageRecv d (slot h)
  outStart (ooff c d k) (ooff_inb c d k) (ooff_words c d k)
  (if h < 12 then semSignalWord (devAt c (devNo h 0 + 4 + d.val)) (qC d) 2#32 else pure ⟨⟩ : TProg F PUnit)

/-- Put out the device's own chunk, both directions. -/
def flushOwn (c : Dev nD) : TProg F PUnit := do
  stageSend 0
  outStart (ooff c 0 0) (ooff_inb c 0 0) (ooff_words c 0 0)
  outWait (ooff c 0 0) (ooff_inb c 0 0) (ooff_words c 0 0)
  stageSend 1
  outStart (ooff c 1 0) (ooff_inb c 1 0) (ooff_words c 1 0)

/-- A hop of the reduction, `h < 7`. -/
def hopSum (c : Dev nD) (h : ℕ) (hh : h < 7) : TProg F PUnit := do
  half c h 0
  half c h 1
  let _u ← (if h6 : h + 1 < 7 then do
      nextGemm c (h + 1) 0 h6
      nextGemm c (h + 1) 1 h6
    else pure ⟨⟩ : TProg F PUnit)
  (if h5 : h + 2 < 7 then do
      nextLoad c (h + 2) 0 h5
      nextLoad c (h + 2) 1 h5
    else pure ⟨⟩ : TProg F PUnit)

/-- A hop of the gathering, `h = k + 7`. -/
def hopGather (c : Dev nD) (k : ℕ) (hk : k < 7) : TProg F PUnit := do
  half c (k + 7) 0
  half c (k + 7) 1
  flush c (k + 7) 0 1 ⟨k + 1, by omega⟩ ⟨k, by omega⟩
  flush c (k + 7) 1 0 ⟨k + 1, by omega⟩ ⟨k + 1, by omega⟩

def hopsSum (c : Dev nD) : (n h : ℕ) → h + n = 7 → TProg F PUnit
  | 0, _, _ => pure ⟨⟩
  | n + 1, h, e => do
      hopSum c h (by omega)
      hopsSum c n (h + 1) (by omega)
def hopsGather (c : Dev nD) : (n k : ℕ) → k + n = 7 → TProg F PUnit
  | 0, _, _ => pure ⟨⟩
  | n + 1, k, e => do
      hopGather c k (by omega)
      hopsGather c n (k + 1) (by omega)

/-- Up to the first four sends. -/
def entry (c : Dev nD) : TProg F PUnit := do
  xload (k0_off1 c) (k0_off1_inb c) 1 1
  nextLoad c 0 0 (by decide)
  nextLoad c 0 1 (by decide)
  semSignalWord (devAt c 1) qB 1#32
  semSignalWord (devAt c 2) qB 1#32
  semWaitWord qB 2#32
  xwait (k0_off1 c) (k0_off1_inb c) 1 1
  ownStep
  sendSub (devAt c 3) 0 0 0
  sendSub (devAt c 4) 1 0 0
  sendSub (devAt c 5) 0 0 1
  sendSub (devAt c 6) 1 0 1
  nextGemm c 0 0 (by decide)
  nextGemm c 0 1 (by decide)
  nextLoad c 1 0 (by decide)
  nextLoad c 1 1 (by decide)

def body : TProg F PUnit := do
  let c : Dev nD ← Prog.lift .deviceId
  entry c
  hopsSum c 7 0 rfl
  flushOwn c
  hopsGather c 7 0 rfl
  outWait (ooff c 1 7) (ooff_inb c 1 7) (ooff_words c 1 7)

set_option maxRecDepth 65536 in
theorem body_eq : bodyAt0 (F := F) t0_0 = body := by chain_rfl

end Cert.Proof

end
-- ==== Proof.Common.lean ====
/-
  What the proof speaks of: the ring of eight devices, the semaphore cells of a device, what every buffer holds at
  every hop, and which elements the pieces of the buffers are.
-/
module

public import proofs.«01_k».proof.Proof.Steps
public import Idealize.ShloMosaic.Lib.Pipeline.Launch
public import Idealize.ShloMosaic.Lib.Pipeline.Kit
public import Idealize.ShloMosaic.Lib.Release
public import Idealize.ShloMosaic.Lib.ValueLayout
public import Idealize.ShloMosaic.Lib.Tactic

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device `n` places before `c` along direction `d`: what arrives at `c` in direction `d` was there `n` hops ago. -/
def mv (d : Fin 2) (n : ℕ) (c : Dev nD) : Dev nD :=
  ⟨(c.val + (if d = 0 then 8 - n % 8 else n)) % 8, Nat.mod_lt _ (by decide)⟩

/-- The sender to `c`, and the device `c` sends to. -/
abbrev up (d : Fin 2) (c : Dev nD) : Dev nD := mv d 1 c
abbrev dst (d : Fin 2) (c : Dev nD) : Dev nD := mv d 7 c

theorem mv_mv (d : Fin 2) (n k : ℕ) (c : Dev nD) : mv d n (mv d k c) = mv d (n + k) c := by
  have := c.isLt
  apply Fin.ext
  simp only [mv]
  split <;> omega
theorem mv_zero (d : Fin 2) (c : Dev nD) : mv d 0 c = c := by revert d c; decide
theorem mv_eight (d : Fin 2) (n : ℕ) (c : Dev nD) : mv d (n + 8) c = mv d n c := by
  apply Fin.ext; simp only [mv]; split <;> omega
theorem up_dst (d : Fin 2) (c : Dev nD) : up d (dst d c) = c := by revert d c; decide
theorem dst_up (d : Fin 2) (c : Dev nD) : dst d (up d c) = c := by revert d c; decide
/-- Going round as a permutation of the devices. -/
def dstEquiv (d : Fin 2) : Dev nD ≃ Dev nD := ⟨dst d, up d, up_dst d, dst_up d⟩
def upEquiv (d : Fin 2) : Dev nD ≃ Dev nD := ⟨up d, dst d, dst_up d, up_dst d⟩

/-- The direction other than `d`; a device's two neighbours are `dst 0` and `dst 1`. -/
theorem dev_bar0 (c : Dev nD) : devAt c 1 = dst 1 c := by revert c; decide +kernel
theorem dev_bar1 (c : Dev nD) : devAt c 2 = dst 0 c := by revert c; decide +kernel
theorem dev_first (c : Dev nD) (d s : Fin 2) : devAt c (3 + 2 * s.val + d.val) = dst d c := by revert c d s; decide +kernel
theorem dev_send (c : Dev nD) (h : Fin 13) (d s : Fin 2) : devAt c (devNo h.val s + d.val) = dst d c := by
  revert c h d s; decide +kernel
theorem dev_cred (c : Dev nD) (h : Fin 7) (d s : Fin 2) : devAt c (devNo h.val s + 2 + d.val) = up d c := by
  revert c h d s; decide +kernel
theorem dev_flush (c : Dev nD) (h : Fin 5) (d : Fin 2) : devAt c (devNo (h.val + 7) 0 + 4 + d.val) = up d c := by
  revert c h d; decide +kernel

theorem xoff_eq (c : Dev nD) (d : Fin 2) (h : Fin 7) : xoff c d h = ![1024 * (mv d (h.val + 1) c).val, 0] := by
  revert c d h; decide +kernel
theorem ooff_eq (c : Dev nD) (d : Fin 2) (k : Fin 8) : ooff c d k = ![1024 * (mv d (k.val + 7) c).val, 2048 * d.val] := by
  revert c d k; decide +kernel
theorem off1_eq (c : Dev nD) : k0_off1 c = ![1024 * (mv 1 0 c).val, 0] := by rw [mv_zero, k0_off1_eq]

/-! ## Events

In each direction a device sends and receives twenty-eight halves: event `i` is half `i % 2` of hop `i / 2`, in slot
`i / 2 % 2`. Its semaphore cells are in their round `i / 4`. -/

abbrev eS (i : ℕ) : Fin 2 := slot (i / 2)
abbrev eH (i : ℕ) : Fin 2 := ⟨i % 2, Nat.mod_lt _ (by decide)⟩

theorem eS_add4 (i : ℕ) : eS (i + 4) = eS i := by apply Fin.ext; simp only [slot]; omega
theorem eH_add4 (i : ℕ) : eH (i + 4) = eH i := by apply Fin.ext; show (i + 4) % 2 = i % 2; omega

/-! ## The cells -/

/-- A device's own cells: sends, receives, the copies of `x`, the credits, and the copies of the result; -/
abbrev CK0 : Type := (Fin 2 × Fin 2 × Fin 2) ⊕ (Fin 2 × Fin 2 × Fin 2) ⊕ (Fin 2 × Fin 2) ⊕ Fin 2 ⊕ Unit
/-- and the barrier. -/
abbrev CK : Type := CK0 ⊕ Unit

instance instDecEqCK0 : DecidableEq CK0 := inferInstance
instance instDecEqCK : DecidableEq CK := @instDecidableEqSum CK0 Unit instDecEqCK0 inferInstance

abbrev kS (d sl s : Fin 2) : CK := .inl (.inl (d, sl, s))
abbrev kR (d sl s : Fin 2) : CK := .inl (.inr (.inl (d, sl, s)))
abbrev kX (d sl : Fin 2) : CK := .inl (.inr (.inr (.inl (d, sl))))
abbrev kC (d : Fin 2) : CK := .inl (.inr (.inr (.inr (.inl d))))
abbrev kO : CK := .inl (.inr (.inr (.inr (.inr ()))))
abbrev kB : CK := .inr ()

def osem : CK0 → SemLoc sig
  | .inl (d, sl, s) => .dma (qS d sl s)
  | .inr (.inl (d, sl, s)) => .dma (qR d sl s)
  | .inr (.inr (.inl (d, sl))) => .dma (qX d sl)
  | .inr (.inr (.inr (.inl d))) => .reg (qC d)
  | .inr (.inr (.inr (.inr _))) => .dma qO
def semOf : CK → SemLoc sig
  | .inl k => osem k
  | .inr _ => .reg qB

theorem semOf_inj : Function.Injective semOf := by decide +kernel

open Classical in
/-- The cell a semaphore is, if it is one of these. -/
def kindOf (x : SemLoc sig) : Option CK := if h : ∃ k, semOf k = x then some h.choose else none
theorem kindOf_semOf (k : CK) : kindOf (semOf k) = some k := by
  have h : ∃ k', semOf k' = semOf k := ⟨k, rfl⟩
  unfold kindOf; rw [dif_pos h]; exact congrArg some (semOf_inj h.choose_spec)

abbrev cell (c : Dev nD) (k : CK) : GSem nD τ sig := ((c : Thread nD τ), semOf k)
theorem cell_inj : Function.Injective (fun ck : Dev nD × CK => cell ck.1 ck.2) := by
  rintro ⟨c, k⟩ ⟨c', k'⟩ h
  have h1 : c = c' := congrArg (fun g : GSem nD τ sig => g.1.1) h
  subst h1
  have h2 : k = k' := semOf_inj (congrArg Prod.snd h)
  rw [h2]

/-! ## What the buffers hold -/

section Contents

variable (m : (ℓ : Loc nD τ sig) → Buf (Elt F) ℓ)

abbrev C0 : Type := S8192x1024.Idx → Elt F .f32
abbrev C1 : Type := S1024x4096.Idx → Elt F .bf16
abbrev C2 : Type := S8192x4096.Idx → Elt F .bf16
abbrev C3 : Type := S2x1024x2048.Idx → Elt F .bf16
abbrev C4 : Type := S2x2x1024x2048.Idx → Elt F .bf16
abbrev C5 : Type := S2x1024x2048.Idx → Elt F .bf16
abbrev C6 : Type := S2x2x1024x1024.Idx → Elt F .f32
abbrev C7 : Type := S1024x2048.Idx → Elt F .bf16

/-- The columns of `x` and the rows of the weights that device `c` has. -/
def xC (c : Dev nD) : C0 (F := F) := m ((c : Thread nD τ).loc main_arg0)
def wC (c : Dev nD) : C1 (F := F) := (win0_0.blk (0 : Fin 1)).view.read (Elt F) (m ((c : Thread nD τ).loc main_arg1))

/-- The staging buffer as load `e` of either direction leaves it: load 0 brings the device's own rows, load `h + 1`
    those multiplied at hop `h`. -/
def XC (e : ℕ) (c : Dev nD) : C6 (F := F) := fun i =>
  xC m c (ix2 ⟨1024 * (mv (i 0) e c).val + (i 2).val, by
    have h1 : (mv (i 0) e c).val < 8 := (mv (i 0) e c).isLt
    have h2 : (i 2).val < 1024 := (i 2).isLt
    omega⟩ (i 3))

/-- The local products of hop `h`, both directions. -/
def locC (h : ℕ) (c : Dev nD) : C5 (F := F) := fun i =>
  k0_pay4 (M6.view.readAt (Elt F) (rX (i 0) (slot h)).toLoadRect (XC m (h + 1) c)) (M1.view.readAt (Elt F) (rW (i 0)).toLoadRect (wC m c))
    (ix3 (0 : Fin 1) (i 1) (i 2))

/-- The products of the device's own rows. -/
def ownC (c : Dev nD) : C3 (F := F) := fun i =>
  if (i 0).val = 0 then
    k0_pay2 (M6.view.readAt (Elt F) (rX 1 1).toLoadRect (XC m 0 c)) (M1.view.readAt (Elt F) rWA.toLoadRect (wC m c)) (ix3 (0 : Fin 1) (i 1) (i 2))
  else
    k0_pay3 (k0_pay1 (M6.view.readAt (Elt F) (rX 1 1).toLoadRect (XC m 0 c)) (M1.view.readAt (Elt F) rWA.toLoadRect (wC m c)))
      (ix3 (0 : Fin 1) (i 1) (i 2))

/-- What arrives at `c` when every device sends `f` of itself. -/
def arrive (f : Dev nD → C3 (F := F)) (c : Dev nD) : C4 (F := F) := fun i => f (up (i 0) c) (ix3 (i 0) (i 2) (i 3))

abbrev hf (i : S2x1024x2048.Idx) : Fin 2 := ⟨(i 1).val / 512, by have h : (i 1).val < 1024 := (i 1).isLt; omega⟩
abbrev hix (i : S2x1024x2048.Idx) : S2x512x2048.Idx := ix3 (i 0) (⟨(i 1).val % 512, Nat.mod_lt _ (by decide)⟩ : Fin 512) (i 2)

/-- A buffer of two halves, from what is stored into each. -/
def halves (P : Fin 2 → Vec F S2x512x2048 .bf16) : C3 (F := F) := fun i => P (hf i) (hix i)

/-- The half that hop `h` stores into the sending buffer, from what has arrived. -/
def nextHalf (h : ℕ) (c : Dev nD) (fr : C4 (F := F)) (s : Fin 2) : Vec F S2x512x2048 .bf16 :=
  if h < 7 then k0_pay6 (M4.view.readAt (Elt F) (rRB (slot h) s).toLoadRect fr) (M5.view.readAt (Elt F) (rSB s).toLoadRect (locC m h c))
  else k0_pay36 (M4.view.readAt (Elt F) (rRB (slot h) s).toLoadRect fr)

/-- What device `c` sends at hop `h`, -/
def SC : ℕ → Dev nD → C3 (F := F)
  | 0, c => ownC m c
  | h + 1, c => halves (nextHalf m h c (arrive (SC h) c))
/-- and what it receives. -/
def RC (h : ℕ) (c : Dev nD) : C4 (F := F) := arrive (SC m h) c

/-- The piece of the result of direction `d` at step `k`, rectified. -/
def OB (c : Dev nD) (d : Fin 2) : ℕ → C7 (F := F)
  | 0 => k0_pay32 (M3.view.readAt (Elt F) (rSW d).toLoadRect (SC m 7 c))
  | k + 1 => k0_pay37 (M4.view.readAt (Elt F) (rRW d (slot (k + 7))).toLoadRect (RC m (k + 7) c))

/-- The step at which direction `d` of device `c` puts out chunk `r`. -/
def kOf (d : Fin 2) (c : Dev nD) (r : ℕ) : ℕ := if d = 0 then (c.val + 9 - r) % 8 else (r + 9 - c.val) % 8

/-- The result of device `c`. -/
def outC (c : Dev nD) : C2 (F := F) := fun i =>
  OB m c ⟨(i 1).val / 2048, by have h : (i 1).val < 4096 := (i 1).isLt; omega⟩
    (kOf ⟨(i 1).val / 2048, by have h : (i 1).val < 4096 := (i 1).isLt; omega⟩ c ((i 0).val / 1024))
    (ix2 (⟨(i 0).val % 1024, Nat.mod_lt _ (by decide)⟩ : Fin 1024) (⟨(i 1).val % 2048, Nat.mod_lt _ (by decide)⟩ : Fin 2048))

end Contents

theorem kOf_mv (d : Fin 2) (k : Fin 8) (c : Dev nD) : kOf d c (mv d (k.val + 7) c).val = k.val := by revert d k c; decide +kernel
theorem mv_kOf (d : Fin 2) (r : Fin 8) (c : Dev nD) : (mv d (kOf d c r.val + 7) c).val = r.val := by revert d r c; decide +kernel
theorem kOf_lt (d : Fin 2) (c : Dev nD) (r : ℕ) : kOf d c r < 8 := by unfold kOf; split <;> exact Nat.mod_lt _ (by decide)

/-! ## The pieces as sets -/

theorem set_mS (d s : Fin 2) : (mS d s).view.set = (rS d s).set := (View.set_reshape _ _).trans (View.set_slice_whole _ _)
theorem set_mR (d sl s : Fin 2) : (mR d sl s).view.set = (rR d sl s).set := (View.set_reshape _ _).trans (View.set_slice_whole _ _)
theorem set_mX (d sl : Fin 2) : (mX d sl).view.set = (rX d sl).set := (View.set_reshape _ _).trans (View.set_slice_whole _ _)
theorem set_mIn (off h) : (mIn off h).view.set = (rIn off h).set := View.set_slice_whole _ _
theorem set_mOut (off h) : (mOut off h).view.set = (rOut off h).set := View.set_slice_whole _ _

theorem mem_rS (d s : Fin 2) (i : S2x1024x2048.Idx) : i ∈ (rS d s).set ↔ (i 0).val = d.val ∧ (i 1).val / 512 = s.val := by
  have h2 : (i 2).val < 2048 := (i 2).isLt
  rw [Rect.mem_set_unit, Fin.forall_fin_succ, Fin.forall_fin_succ, Fin.forall_fin_one]
  show (d.val ≤ (i 0).val ∧ (i 0).val < d.val + 1) ∧ (512 * s.val ≤ (i 1).val ∧ (i 1).val < 512 * s.val + 512) ∧ (0 ≤ (i 2).val ∧ (i 2).val < 0 + 2048) ↔ _
  omega
theorem mem_rR (d sl s : Fin 2) (i : S2x2x1024x2048.Idx) :
    i ∈ (rR d sl s).set ↔ (i 0).val = d.val ∧ (i 1).val = sl.val ∧ (i 2).val / 512 = s.val := by
  have h2 : (i 3).val < 2048 := (i 3).isLt
  rw [Rect.mem_set_unit, Fin.forall_fin_succ, Fin.forall_fin_succ, Fin.forall_fin_succ, Fin.forall_fin_one]
  show (d.val ≤ (i 0).val ∧ (i 0).val < d.val + 1) ∧ (sl.val ≤ (i 1).val ∧ (i 1).val < sl.val + 1) ∧
    (512 * s.val ≤ (i 2).val ∧ (i 2).val < 512 * s.val + 512) ∧ (0 ≤ (i 3).val ∧ (i 3).val < 0 + 2048) ↔ _
  omega
theorem mem_rRB (sl s : Fin 2) (i : S2x2x1024x2048.Idx) : i ∈ (rRB sl s).set ↔ (i 1).val = sl.val ∧ (i 2).val / 512 = s.val := by
  have h2 : (i 3).val < 2048 := (i 3).isLt
  have h0 : (i 0).val < 2 := (i 0).isLt
  rw [Rect.mem_set_unit, Fin.forall_fin_succ, Fin.forall_fin_succ, Fin.forall_fin_succ, Fin.forall_fin_one]
  show (0 ≤ (i 0).val ∧ (i 0).val < 0 + 2) ∧ (sl.val ≤ (i 1).val ∧ (i 1).val < sl.val + 1) ∧
    (512 * s.val ≤ (i 2).val ∧ (i 2).val < 512 * s.val + 512) ∧ (0 ≤ (i 3).val ∧ (i 3).val < 0 + 2048) ↔ _
  omega
theorem mem_rRW (d sl : Fin 2) (i : S2x2x1024x2048.Idx) : i ∈ (rRW d sl).set ↔ (i 0).val = d.val ∧ (i 1).val = sl.val := by
  have h2 : (i 3).val < 2048 := (i 3).isLt
  have h0 : (i 2).val < 1024 := (i 2).isLt
  rw [Rect.mem_set_unit, Fin.forall_fin_succ, Fin.forall_fin_succ, Fin.forall_fin_succ, Fin.forall_fin_one]
  show (d.val ≤ (i 0).val ∧ (i 0).val < d.val + 1) ∧ (sl.val ≤ (i 1).val ∧ (i 1).val < sl.val + 1) ∧
    (0 ≤ (i 2).val ∧ (i 2).val < 0 + 1024) ∧ (0 ≤ (i 3).val ∧ (i 3).val < 0 + 2048) ↔ _
  omega
theorem mem_rSB (s : Fin 2) (i : S2x1024x2048.Idx) : i ∈ (rSB s).set ↔ (i 1).val / 512 = s.val := by
  have h2 : (i 2).val < 2048 := (i 2).isLt
  have h0 : (i 0).val < 2 := (i 0).isLt
  rw [Rect.mem_set_unit, Fin.forall_fin_succ, Fin.forall_fin_succ, Fin.forall_fin_one]
  show (0 ≤ (i 0).val ∧ (i 0).val < 0 + 2) ∧ (512 * s.val ≤ (i 1).val ∧ (i 1).val < 512 * s.val + 512) ∧ (0 ≤ (i 2).val ∧ (i 2).val < 0 + 2048) ↔ _
  omega
theorem mem_rSW (d : Fin 2) (i : S2x1024x2048.Idx) : i ∈ (rSW d).set ↔ (i 0).val = d.val := by
  have h2 : (i 2).val < 2048 := (i 2).isLt
  have h0 : (i 1).val < 1024 := (i 1).isLt
  rw [Rect.mem_set_unit, Fin.forall_fin_succ, Fin.forall_fin_succ, Fin.forall_fin_one]
  show (d.val ≤ (i 0).val ∧ (i 0).val < d.val + 1) ∧ (0 ≤ (i 1).val ∧ (i 1).val < 0 + 1024) ∧ (0 ≤ (i 2).val ∧ (i 2).val < 0 + 2048) ↔ _
  omega
theorem mem_rX (d sl : Fin 2) (i : S2x2x1024x1024.Idx) : i ∈ (rX d sl).set ↔ (i 0).val = d.val ∧ (i 1).val = sl.val := by
  have h2 : (i 3).val < 1024 := (i 3).isLt
  have h0 : (i 2).val < 1024 := (i 2).isLt
  rw [Rect.mem_set_unit, Fin.forall_fin_succ, Fin.forall_fin_succ, Fin.forall_fin_succ, Fin.forall_fin_one]
  show (d.val ≤ (i 0).val ∧ (i 0).val < d.val + 1) ∧ (sl.val ≤ (i 1).val ∧ (i 1).val < sl.val + 1) ∧
    (0 ≤ (i 2).val ∧ (i 2).val < 0 + 1024) ∧ (0 ≤ (i 3).val ∧ (i 3).val < 0 + 1024) ↔ _
  omega
theorem mem_rOut (c : Dev nD) (d : Fin 2) (k : Fin 8) (h) (i : S8192x4096.Idx) :
    i ∈ (rOut (ooff c d k) h).set ↔ (i 0).val / 1024 = (mv d (k.val + 7) c).val ∧ (i 1).val / 2048 = d.val := by
  rw [Rect.mem_set_unit, Fin.forall_fin_succ, Fin.forall_fin_one, ooff_eq]
  show (1024 * (mv d (k.val + 7) c).val ≤ (i 0).val ∧ (i 0).val < 1024 * (mv d (k.val + 7) c).val + 1024) ∧
    (2048 * d.val ≤ (i 1).val ∧ (i 1).val < 2048 * d.val + 2048) ↔ _
  omega

/-! ## Where the pieces' elements lie -/

theorem emb_mS (d s : Fin 2) (a : Fin 512) (b : Fin 2048) : (mS d s).view.emb (ix2 a b) =
    (ix3 d (⟨512 * s.val + a.val, by omega⟩ : Fin 1024) b : S2x1024x2048.Idx) := by
  refine (congrArg (rS d s).emb (reshapeEquiv_ix2_1ab _ a b)).trans ?_
  funext e
  match e with
  | ⟨0, _⟩ => apply Fin.ext; show d.val + 1 * 0 = d.val; omega
  | ⟨1, _⟩ => apply Fin.ext; show 512 * s.val + 1 * a.val = 512 * s.val + a.val; omega
  | ⟨2, _⟩ => apply Fin.ext; show 0 + 1 * b.val = b.val; omega
theorem emb_mR (d sl s : Fin 2) (a : Fin 512) (b : Fin 2048) : (mR d sl s).view.emb (ix2 a b) =
    (ix4 d sl (⟨512 * s.val + a.val, by omega⟩ : Fin 1024) b : S2x2x1024x2048.Idx) := by
  refine (congrArg (rR d sl s).emb (reshapeEquiv_ix2_11ab _ a b)).trans ?_
  funext e
  match e with
  | ⟨0, _⟩ => apply Fin.ext; show d.val + 1 * 0 = d.val; omega
  | ⟨1, _⟩ => apply Fin.ext; show sl.val + 1 * 0 = sl.val; omega
  | ⟨2, _⟩ => apply Fin.ext; show 512 * s.val + 1 * a.val = 512 * s.val + a.val; omega
  | ⟨3, _⟩ => apply Fin.ext; show 0 + 1 * b.val = b.val; omega
theorem emb_mX (d sl : Fin 2) (a b : Fin 1024) : (mX d sl).view.emb (ix2 a b) = (ix4 d sl a b : S2x2x1024x1024.Idx) := by
  refine (congrArg (rX d sl).emb (reshapeEquiv_ix2_11ab _ a b)).trans ?_
  funext e
  match e with
  | ⟨0, _⟩ => apply Fin.ext; show d.val + 1 * 0 = d.val; omega
  | ⟨1, _⟩ => apply Fin.ext; show sl.val + 1 * 0 = sl.val; omega
  | ⟨2, _⟩ => apply Fin.ext; show 0 + 1 * a.val = a.val; omega
  | ⟨3, _⟩ => apply Fin.ext; show 0 + 1 * b.val = b.val; omega

/-- A half that has been copied over holds what the sending buffer held. -/
theorem land_send (d sl s : Fin 2) (fd : C4 (F := F)) (fs : C3 (F := F)) (i : S2x2x1024x2048.Idx) (hi : i ∈ (mR d sl s).view.set) :
    (mR d sl s).view.write (Elt F) fd ((mS d s).view.read (Elt F) fs) Finset.univ i = fs (ix3 (i 0) (i 2) (i 3)) := by
  obtain ⟨x, -, rfl⟩ := Finset.mem_map.mp hi
  obtain ⟨a, b, rfl⟩ : ∃ a b, x = (ix2 (n0 := 512) (n1 := 2048) a b) := ⟨x 0, x 1, eq_ix2 x⟩
  rw [View.write_emb_of_mem (h := Finset.mem_univ _)]
  refine (?_ : (mS d s).view.read (Elt F) fs (ix2 a b) = _)
  refine (?_ : fs ((mS d s).view.emb (ix2 a b)) = _)
  rw [emb_mS, emb_mR]

/-- Rows of `x` that have been copied over. -/
theorem land_x (d sl : Fin 2) (off : Fin 2 → ℕ) (h) (r : ℕ) (hoff : off = ![1024 * r, 0]) (hr : r < 8) (fd : C6 (F := F)) (fs : C0 (F := F))
    (i : S2x2x1024x1024.Idx) (hi : i ∈ (mX d sl).view.set) :
    (mX d sl).view.write (Elt F) fd ((mIn off h).view.read (Elt F) fs) Finset.univ i =
      fs (ix2 ⟨1024 * r + (i 2).val, by have h2 : (i 2).val < 1024 := (i 2).isLt; omega⟩ (i 3)) := by
  subst hoff
  obtain ⟨x, -, rfl⟩ := Finset.mem_map.mp hi
  obtain ⟨a, b, rfl⟩ : ∃ a b, x = (ix2 (n0 := 1024) (n1 := 1024) a b) := ⟨x 0, x 1, eq_ix2 x⟩
  rw [View.write_emb_of_mem (h := Finset.mem_univ _)]
  refine (?_ : fs ((rIn _ h).emb (ix2 a b)) = _)
  congr 1
  rw [emb_mX]
  funext e
  match e with
  | ⟨0, _⟩ => apply Fin.ext; show 1024 * r + 1 * a.val = 1024 * r + a.val; omega
  | ⟨1, _⟩ => apply Fin.ext; show 0 + 1 * b.val = b.val; omega

/-- A piece of the result that has been copied out. -/
theorem land_out (off : Fin 2 → ℕ) (h) (r d : ℕ) (hoff : off = ![1024 * r, 2048 * d]) (fd : C2 (F := F)) (fs : C7 (F := F))
    (i : S8192x4096.Idx) (hi : i ∈ (mOut off h).view.set) :
    (mOut off h).view.write (Elt F) fd (M7.view.read (Elt F) fs) Finset.univ i =
      fs (ix2 (⟨(i 0).val % 1024, Nat.mod_lt _ (by decide)⟩ : Fin 1024) (⟨(i 1).val % 2048, Nat.mod_lt _ (by decide)⟩ : Fin 2048)) := by
  subst hoff
  obtain ⟨x, -, rfl⟩ := Finset.mem_map.mp hi
  obtain ⟨a, b, rfl⟩ : ∃ a b, x = (ix2 (n0 := 1024) (n1 := 2048) a b) := ⟨x 0, x 1, eq_ix2 x⟩
  rw [View.write_emb_of_mem (h := Finset.mem_univ _)]
  refine (?_ : fs (ix2 a b) = _)
  congr 1
  funext e
  match e with
  | ⟨0, _⟩ => apply Fin.ext; show a.val = (1024 * r + 1 * a.val) % 1024; omega
  | ⟨1, _⟩ => apply Fin.ext; show b.val = (2048 * d + 1 * b.val) % 2048; omega

end Cert.Proof

end
-- ==== Proof.Sched.lean ====
/-
  The protocol as a schedule: in which rounds a cell is paid, by how much, and what each payment hands to the waiter.
-/
module

public import proofs.«01_k».proof.Proof.Common

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit)
open Idealize.ShloMosaic.Release (USlots released readerAt writeTok slotInv)

variable {F : FTy → Type} [FloatOps F]

/-! ## The resources -/

/-- A half of a receiving slot, of a device: the thing that is lent to the sender and given back. -/
abbrev SK : Type := Dev nD × Fin 2 × Fin 2 × Fin 2
abbrev UR : Type := URounds (GSem nD τ sig) Unit
abbrev PShare : Type := PosShare TreeShare
abbrev UU : Type := UR × (URounds (GSem nD τ sig) ℕ × USlots SK)

local notation "𝕄" => MT nD τ sig ℕ (Elt F) ℕ UU ℕ

abbrev EP : Emb UR (MT nD τ sig ℕ (Elt F) ℕ UU ℕ) := embL
abbrev ER : Emb (URounds (GSem nD τ sig) ℕ) (MT nD τ sig ℕ (Elt F) ℕ UU ℕ) :=
  (Emb.inl : Emb (URounds (GSem nD τ sig) ℕ) (URounds (GSem nD τ sig) ℕ × USlots SK)).trans embR
abbrev EL : Emb (USlots SK) (MT nD τ sig ℕ (Elt F) ℕ UU ℕ) :=
  (Emb.inr : Emb (USlots SK) (URounds (GSem nD τ sig) ℕ × USlots SK)).trans embR

variable (m : (ℓ : Loc nD τ sig) → Buf (Elt F) ℓ)

/-! ## Pieces of the buffers, held -/

abbrev qL : PShare := fullShare.left
abbrev qR' : PShare := fullShare.right

def sPc (c : Dev nD) (d s : Fin 2) (q : PShare) (f : C3 (F := F)) : sProp 𝕄 :=
  (mS d s).view.loc (c : Thread nD τ) ↦[(mS d s).view.set]{q} f
def rPc (c : Dev nD) (d sl s : Fin 2) (f : C4 (F := F)) : sProp 𝕄 :=
  (mR d sl s).view.loc (c : Thread nD τ) ↦[(mR d sl s).view.set]{fullShare} f
def xPc (c : Dev nD) (d sl : Fin 2) (f : C6 (F := F)) : sProp 𝕄 :=
  (mX d sl).view.loc (c : Thread nD τ) ↦[(mX d sl).view.set]{fullShare} f

/-- The share of the device's columns of `x` that the copies into slot `sl` of direction `d` read. -/
def qx : Fin 2 → Fin 2 → PShare
  | 0, 0 => fullShare.left.left
  | 0, 1 => fullShare.left.right
  | 1, 0 => fullShare.right.left
  | 1, 1 => fullShare.right.right

abbrev offX (c : Dev nD) (d : Fin 2) (e : ℕ) : Fin 2 → ℕ := ![1024 * (mv d e c).val, 0]
theorem offX_inb (c : Dev nD) (d : Fin 2) (e : ℕ) : ∀ a, offX c d e a + S1024x1024.size a ≤ S8192x1024.size a := by
  have h : (mv d e c).val < 8 := (mv d e c).isLt
  intro a
  match a with
  | ⟨0, _⟩ => show 1024 * (mv d e c).val + 1024 ≤ 8192; omega
  | ⟨1, _⟩ => show 0 + 1024 ≤ 1024; omega

def inPc (c : Dev nD) (d sl : Fin 2) (e : ℕ) : sProp 𝕄 :=
  (mIn (offX c d e) (offX_inb c d e)).view.loc (c : Thread nD τ) ↦[(mIn (offX c d e) (offX_inb c d e)).view.set]{qx d sl} xC m c

def b7 (c : Dev nD) (f : C7 (F := F)) : sProp 𝕄 := M7.view.loc (c : Thread nD τ) ↦[M7.view.set]{fullShare} f

/-- The pieces of the result in the order they are put out. -/
abbrev oD (n : ℕ) : Fin 2 := ⟨n % 2, Nat.mod_lt _ (by decide)⟩
abbrev oK (n : ℕ) : Fin 8 := ⟨n / 2 % 8, Nat.mod_lt _ (by decide)⟩
abbrev mO (c : Dev nD) (n : ℕ) : Memref sig .tc .hbm S1024x2048 .bf16 := mOut (ooff c (oD n) (oK n)) (ooff_inb c (oD n) (oK n))
def oPc (c : Dev nD) (n : ℕ) (f : C2 (F := F)) : sProp 𝕄 :=
  (mO c n).view.loc (c : Thread nD τ) ↦[(mO c n).view.set]{fullShare} f

/-! ## Payloads -/

/-- Device `e` has given its half of event `i` back to the sender, and has got to the round the arrival will be paid in. -/
def ready (e : Dev nD) (d : Fin 2) (i : ℕ) : sProp 𝕄 :=
  iprop(released EL (e, d, eS i, eH i) (i / 4 + 1) ∗ reached ER (cell e (kR d (eS i) (eH i))) (i / 4))

instance ready_persistent (e : Dev nD) (d : Fin 2) (i : ℕ) : BI.Persistent (ready (F := F) e d i) := by unfold ready; infer_instance

def barP (c : Dev nD) (d : Fin 2) : sProp 𝕄 := bigSep (Finset.range 4) (ready (dst d c) d)
def crdP (c : Dev nD) (d : Fin 2) (i : ℕ) : sProp 𝕄 := bigSep (Finset.range (i + 1)) fun j => ready (dst d c) d (j + 4)

instance barP_persistent (c : Dev nD) (d : Fin 2) : BI.Persistent (barP (F := F) c d) := by unfold barP; infer_instance
instance crdP_persistent (c : Dev nD) (d : Fin 2) (i : ℕ) : BI.Persistent (crdP (F := F) c d i) := by unfold crdP; infer_instance

/-- What a half, a staged block of `x`, and a piece of the result credit. -/
@[irreducible] def N : ℕ := (mS 0 0).view.dmaCredit
@[irreducible] def NX : ℕ := (mX 0 0).view.dmaCredit
@[irreducible] def NO : ℕ := (mO 0 0).view.dmaCredit

theorem numel_S : 0 < S512x2048.numel := Shape.numel_pos (by decide)
theorem numel_X : 0 < S1024x1024.numel := Shape.numel_pos (by decide)
theorem numel_O : 0 < S1024x2048.numel := Shape.numel_pos (by decide)
theorem N_pos : 0 < N := by unfold N; exact View.dmaCredit_pos _ numel_S
theorem NX_pos : 0 < NX := by unfold NX; exact View.dmaCredit_pos _ numel_X
theorem NO_pos : 0 < NO := by unfold NO; exact View.dmaCredit_pos _ numel_O
theorem credit_mS (d s : Fin 2) : (mS d s).view.dmaCredit = N := by unfold N; rfl
theorem credit_mR (d sl s : Fin 2) : (mR d sl s).view.dmaCredit = N := by
  unfold N
  show tileCredit S512x2048 .bf16 = tileCredit S512x2048 .bf16
  rfl
theorem credit_mX (d sl : Fin 2) : (mX d sl).view.dmaCredit = NX := by unfold NX; rfl
theorem credit_mOut (off h) : (mOut off h).view.dmaCredit = NO := by unfold NO; rfl

def dutK : CK → ℕ → Finset ℕ
  | .inl (.inl _), r => if r < 7 then {0} else ∅
  | .inl (.inr (.inl _)), r => if r < 7 then {0} else ∅
  | .inl (.inr (.inr (.inl (d, sl)))), r => if r < 4 ∧ ¬ (d = 0 ∧ sl = 1 ∧ r = 0) then {0} else ∅
  | .inl (.inr (.inr (.inr (.inl _)))), r => if r = 0 then Finset.range 24 else ∅
  | .inl (.inr (.inr (.inr (.inr _)))), r => if r < 16 then {0} else ∅
  | .inr _, r => if r = 0 then Finset.range 2 else ∅

def amtK : CK → ℕ
  | .inl (.inl _) => N
  | .inl (.inr (.inl _)) => N
  | .inl (.inr (.inr (.inl _))) => NX
  | .inl (.inr (.inr (.inr (.inl _)))) => 1
  | .inl (.inr (.inr (.inr (.inr _)))) => NO
  | .inr _ => 1
theorem amtK_pos : ∀ k, 0 < amtK k
  | .inl (.inl _) => N_pos
  | .inl (.inr (.inl _)) => N_pos
  | .inl (.inr (.inr (.inl _))) => NX_pos
  | .inl (.inr (.inr (.inr (.inl _)))) => Nat.one_pos
  | .inl (.inr (.inr (.inr (.inr _)))) => NO_pos
  | .inr _ => Nat.one_pos

/-- The load whose arrival is round `r` of slot `sl`. -/
abbrev loadOf (sl : Fin 2) (r : ℕ) : ℕ := 2 * r + (1 - sl.val)

def payK (c : Dev nD) : CK → ℕ → ℕ → sProp 𝕄
  | .inl (.inl (d, sl, s)), r, _ => sPc c d s qL (SC m (2 * r + sl.val) c)
  | .inl (.inr (.inl (d, sl, s))), r, _ => rPc c d sl s (RC m (2 * r + sl.val) c)
  | .inl (.inr (.inr (.inl (d, sl)))), r, _ => iprop(xPc c d sl (XC m (loadOf sl r) c) ∗ inPc m c d sl (loadOf sl r))
  | .inl (.inr (.inr (.inr (.inl d)))), _, i => crdP c d i
  | .inl (.inr (.inr (.inr (.inr _)))), r, _ => iprop(b7 c (OB m c (oD r) (r / 2)) ∗ oPc c r (outC m c))
  | .inr _, _, i => barP c (oD i)

def Rd : Rounds.Schedule (GSem nD τ sig) ℕ 𝕄 where
  duties g r := if g.1.2 = .tc then (match kindOf g.2 with | some k => dutK k r | none => ∅) else ∅
  unitless _ := False
  amount g _ _ := match kindOf g.2 with | some k => amtK k | none => 1
  payload g r d := match kindOf g.2 with | some k => payK m g.1.1 k r d | none => iprop(emp)
  amount_pos g _ _ _ := by split; exacts [amtK_pos _, Nat.one_pos]

instance payK_storable (c : Dev nD) (k : CK) (r d : ℕ) : BI.Storable (upEmb : UEmb _ 𝕄) (payK (F := F) m c k r d) := by
  rcases k with (⟨d, sl, s⟩ | ⟨d, sl, s⟩ | ⟨d, sl⟩ | d | _) | _ <;> dsimp only [payK]
  · unfold sPc; infer_instance
  · unfold rPc; infer_instance
  · unfold xPc inPc; infer_instance
  · unfold crdP ready; infer_instance
  · unfold b7 oPc; infer_instance
  · unfold barP ready; infer_instance

instance Rd_storable (g : GSem nD τ sig) (r d : ℕ) : BI.Storable (upEmb : UEmb _ 𝕄) ((Rd (F := F) m).payload g r d) := by
  dsimp only [Rd]; split <;> infer_instance

section Facts
variable (c : Dev nD) (k : CK) (r d : ℕ)

theorem duties_cell : (Rd (F := F) m).duties (cell c k) r = dutK k r := by
  dsimp only [Rd]; rw [if_pos rfl, kindOf_semOf]
theorem amount_cell : (Rd (F := F) m).amount (cell c k) r d = amtK k := by
  dsimp only [Rd]; rw [kindOf_semOf]
theorem payload_cell : (Rd (F := F) m).payload (cell c k) r d = payK m c k r d := by
  dsimp only [Rd]; rw [kindOf_semOf]
theorem expect_cell : (Rd (F := F) m).expect (cell c k) r = (dutK k r).card * amtK k := by
  unfold Schedule.expect Schedule.amountOf
  rw [duties_cell, Finset.sum_congr rfl fun d _ => amount_cell m c k r d, Finset.sum_const, smul_eq_mul]
/-- What a wait that ends a round of a cell with one payer brings. -/
theorem rest_cell (h : dutK k r = {0}) :
    bigSep ((Rd (F := F) m).duties (cell c k) r \ ∅) (fun d => (Rd (F := F) m).payload (cell c k) r d) = payK m c k r 0 := by
  rw [Finset.sdiff_empty, duties_cell, h, bigSep_singleton, payload_cell]
end Facts

/-! ## Slots -/

/-- A half of a receiving slot, whatever it holds. -/
def Sl (k : SK) : sProp 𝕄 := iprop(∃ f : C4 (F := F), rPc k.1 k.2.1 k.2.2.1 k.2.2.2 f)
instance Sl_storable (k : SK) : BI.Storable (upEmb : UEmb _ 𝕄) (Sl (F := F) k) := by unfold Sl rPc; infer_instance
theorem Sl_Sl_false (k : SK) : iprop(Sl (F := F) k ∗ Sl k) ⊢ (iprop(False) : sProp 𝕄) := by
  have h : (mR k.2.1 k.2.2.1 k.2.2.2).view.set.Nonempty := ⟨_, View.emb_mem_set _ (ix2 (0 : Fin 512) (0 : Fin 2048))⟩
  exact Release.slot_slot_false (ℓ := (mR k.2.1 k.2.2.1 k.2.2.2).view.loc (k.1 : Thread nD τ)) h

/-! ## Levels -/

def L (g : GSem nD τ sig) : Finset ℕ := if g.1.2 = .tc then Finset.range 32 else ∅
def lvK : CK → ℕ → ℕ
  | .inl (.inr (.inl _)), h => 2 * h + 2
  | .inl (.inr (.inr (.inr (.inl _)))), h => 2 * h + 3
  | .inr _, _ => 1
  | _, _ => 0
def lv (g : GSem nD τ sig) (h : ℕ) : ℕ := match kindOf g.2 with | some k => lvK k h | none => 0
theorem L_of_ne (g : GSem nD τ sig) (h : g.1.2 ≠ .tc) : L g = ∅ := if_neg h
theorem L_tc (c : Dev nD) (sm : SemLoc sig) : L ((c : Thread nD τ), sm) = Finset.range 32 := if_pos rfl
theorem lv_cell (c : Dev nD) (k : CK) (h : ℕ) : lv (cell c k) h = lvK k h := by unfold lv; rw [kindOf_semOf]

/-! ## What is owed -/

/-- The arrivals still owed along direction `d` once `p` sends are out; the credits once `q` are granted. -/
def owS (c : Dev nD) (d : Fin 2) (p : ℕ) : CellTallies nD τ sig ℕ :=
  ∑ i ∈ Finset.Ico p 28, tallyAt (cell (dst d c) (kR d (eS i) (eH i))) (i / 2) N
def owC (c : Dev nD) (d : Fin 2) (q : ℕ) : CellTallies nD τ sig ℕ :=
  ∑ i ∈ Finset.Ico q 24, tallyAt (cell (up d c) (kC d)) (i / 2) 1
def Ow (c : Dev nD) (p0 p1 q0 q1 : ℕ) : CellTallies nD τ sig ℕ := owS c 0 p0 + owS c 1 p1 + (owC c 0 q0 + owC c 1 q1)
/-- At the start also a unit for each neighbour's barrier. -/
def O₀ (c : Dev nD) : CellTallies nD τ sig ℕ :=
  Ow c 0 0 0 0 + tallyAt (cell (dst 0 c) kB) 0 1 + tallyAt (cell (dst 1 c) kB) 0 1

theorem Ico_pop {a b : ℕ} (h : a < b) : Finset.Ico a b = insert a (Finset.Ico (a + 1) b) := by
  ext x; simp only [Finset.mem_insert, Finset.mem_Ico]; omega
theorem Ico_push {a b : ℕ} (h : a ≤ b) : Finset.Ico a (b + 1) = insert b (Finset.Ico a b) := by
  ext x; simp only [Finset.mem_insert, Finset.mem_Ico]; omega
theorem not_mem_Ico_pop {a b : ℕ} : a ∉ Finset.Ico (a + 1) b := by rw [Finset.mem_Ico]; omega
theorem not_mem_Ico_push {a b : ℕ} : b ∉ Finset.Ico a b := by rw [Finset.mem_Ico]; omega

theorem owS_pop (c : Dev nD) (d : Fin 2) {p : ℕ} (h : p < 28) :
    owS c d p = owS c d (p + 1) + tallyAt (cell (dst d c) (kR d (eS p) (eH p))) (p / 2) N := by
  unfold owS; rw [Ico_pop h, Finset.sum_insert not_mem_Ico_pop, add_comm]
theorem owC_pop (c : Dev nD) (d : Fin 2) {q : ℕ} (h : q < 24) :
    owC c d q = owC c d (q + 1) + tallyAt (cell (up d c) (kC d)) (q / 2) 1 := by
  unfold owC; rw [Ico_pop h, Finset.sum_insert not_mem_Ico_pop, add_comm]
theorem owS_end (c : Dev nD) (d : Fin 2) : owS c d 28 = 0 := by unfold owS; simp
theorem owC_end (c : Dev nD) (d : Fin 2) : owC c d 24 = 0 := by unfold owC; simp

/-- What a positive debt is: the level of its cell is above `b`. -/
abbrev Above (b : ℕ) (O : CellTallies nD τ sig ℕ) : Prop := ∀ (g : GSem nD τ sig) (i : ℕ), 0 < O g i → i ∈ L g ∧ b < lv g i

theorem Above.zero (b : ℕ) : Above b 0 := fun g i h => absurd h (Nat.lt_irrefl 0)
theorem Above.add {b : ℕ} {O O' : CellTallies nD τ sig ℕ} (h : Above b O) (h' : Above b O') : Above b (O + O') := fun g i hg => by
  rw [Pi.add_apply, Finsupp.add_apply] at hg
  rcases Nat.eq_zero_or_pos (O g i) with h0 | h0
  · exact h' g i (by omega)
  · exact h g i h0
theorem Above.tally {b : ℕ} (c : Dev nD) (k : CK) {i n : ℕ} (hi : i < 32) (hb : b < lvK k i) : Above b (tallyAt (cell c k) i n) := fun g j hg => by
  rw [tallyAt_apply] at hg
  by_cases h : g = cell c k ∧ j = i
  · rw [h.1, h.2, L_tc, lv_cell]; exact ⟨Finset.mem_range.mpr hi, hb⟩
  · rw [if_neg h] at hg; exact absurd hg (Nat.lt_irrefl 0)
theorem Above.sum {b : ℕ} {s : Finset ℕ} {D : ℕ → CellTallies nD τ sig ℕ} (h : ∀ i ∈ s, Above b (D i)) : Above b (∑ i ∈ s, D i) := by
  induction s using Finset.induction_on with
  | empty => rw [Finset.sum_empty]; exact Above.zero b
  | insert a s ha ih =>
    rw [Finset.sum_insert ha]
    exact (h a (Finset.mem_insert_self _ _)).add (ih fun i hi => h i (Finset.mem_insert_of_mem hi))

theorem above_owS (c : Dev nD) (d : Fin 2) {p b : ℕ} (h : b < 2 * (p / 2) + 2) : Above b (owS c d p) :=
  Above.sum fun i hi => by
    have hi' := Finset.mem_Ico.mp hi
    exact Above.tally _ _ (by omega) (show b < 2 * (i / 2) + 2 by omega)
theorem above_owC (c : Dev nD) (d : Fin 2) {q b : ℕ} (h : b < 2 * (q / 2) + 3) : Above b (owC c d q) :=
  Above.sum fun i hi => by
    have hi' := Finset.mem_Ico.mp hi
    exact Above.tally _ _ (by omega) (show b < 2 * (i / 2) + 3 by omega)
theorem above_Ow (c : Dev nD) {p0 p1 q0 q1 b : ℕ} (h0 : b < 2 * (p0 / 2) + 2) (h1 : b < 2 * (p1 / 2) + 2) (h2 : b < 2 * (q0 / 2) + 3)
    (h3 : b < 2 * (q1 / 2) + 3) : Above b (Ow c p0 p1 q0 q1) :=
  ((above_owS c 0 h0).add (above_owS c 1 h1)).add ((above_owC c 0 h2).add (above_owC c 1 h3))
theorem above_O₀ (c : Dev nD) : Above 0 (O₀ c) :=
  ((above_Ow c (by decide) (by decide) (by decide) (by decide)).add (Above.tally _ _ (by decide) (by decide))).add (Above.tally _ _ (by decide) (by decide))

theorem mayWait_cell (c : Dev nD) (k : CK) {i : ℕ} (hi : i < 32) {O : CellTallies nD τ sig ℕ} (h : Above (lvK k i) O) :
    (levAts L lv : sProp 𝕄) ⊢ MayWait (c : Thread nD τ) (semOf k) i O :=
  Pipeline.mayWait_of_levAts (by rw [L_tc]; exact Finset.mem_range.mpr hi) fun g j hg => by
    have := h g j hg
    rw [show lv ((c : Thread nD τ), semOf k) i = lvK k i from lv_cell c k i]; exact this

end Cert.Proof

end
-- ==== Proof.Ops.lean ====
/-
  What each step of the body needs and leaves: the transfers, the waits, the signals and the arithmetic.
-/
module

public import proofs.«01_k».proof.Proof.Sched

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

abbrev 𝒱₀ : Variants := Variants.none

abbrev WP (c : Dev nD) {A : Type} (p : TProg F A) (Q : A → sProp 𝕄) : sProp 𝕄 :=
  wp frame (wpE (defs₀ (F := F)) 𝒱₀ (c : Thread nD τ) none) Set.univ p Q

/-- From `P` the program ends in `R`. -/
def Tri (c : Dev nD) (P : sProp 𝕄) (p : TProg F PUnit) (R : sProp 𝕄) : Prop :=
  ∀ Q : PUnit → sProp 𝕄, P ⊢ iprop((R -∗ Q ⟨⟩) -∗ WP c p Q)

theorem Tri.seq {c : Dev nD} {P R : sProp 𝕄} {p : TProg F PUnit} (h : Tri c P p R) {A : Type} {k : PUnit → TProg F A} {Q : A → sProp 𝕄} :
    P ⊢ iprop((R -∗ WP c (k ⟨⟩) Q) -∗ WP c (p >>= k) Q) := by
  show P ⊢ iprop((R -∗ WP c (k ⟨⟩) Q) -∗ wp frame (wpE (defs₀ (F := F)) 𝒱₀ (c : Thread nD τ) none) Set.univ (p >>= k) Q)
  rw [wp_bind]; exact h fun x => WP c (k x) Q

theorem Tri.pure {c : Dev nD} {P : sProp 𝕄} : Tri c P (Pure.pure ⟨⟩ : TProg F PUnit) P := fun Q => by
  show P ⊢ iprop((P -∗ Q ⟨⟩) -∗ wp frame (wpE (defs₀ (F := F)) 𝒱₀ (c : Thread nD τ) none) Set.univ (.ret ⟨⟩) Q)
  rw [wp_ret]; iintro HP HK; imodintro; iapply HK; iexact HP

variable (m : (ℓ : Loc nD τ sig) → Buf (Elt F) ℓ) (κ : Dev nD × CK → ℕ) (ν : SK → ℕ)

/-- What every device may use throughout: the cells' and the slots' records, and the levels. -/
def recs : sProp 𝕄 :=
  iprop((bigSep Finset.univ fun ck : Dev nD × CK => cellInv ER (Rd m) (κ ck) (cell ck.1 ck.2))
    ∗ (bigSep Finset.univ fun k : SK => slotInv EL (ν k) k (Sl k)) ∗ levAts L lv
    ∗ (bigSep Finset.univ fun ck : Dev nD × CK => reached ER (cell ck.1 ck.2) 0))
instance recs_persistent : BI.Persistent (recs (F := F) m κ ν) := by unfold recs; infer_instance

theorem recs_cell (c : Dev nD) (k : CK) : recs m κ ν ⊢ cellInv ER (Rd m) (κ (c, k)) (cell c k) := by
  have h : (bigSep Finset.univ fun ck : Dev nD × CK => cellInv ER (Rd m) (κ ck) (cell ck.1 ck.2)) ⊢ cellInv ER (Rd m) (κ (c, k)) (cell c k) :=
    BI.bigSep_elim (Φ := fun ck : Dev nD × CK => cellInv ER (Rd m) (κ ck) (cell ck.1 ck.2)) (Finset.mem_univ (c, k))
  unfold recs
  iintro ⟨H, -, -⟩
  iapply h $$ H
theorem recs_slot (k : SK) : recs m κ ν ⊢ slotInv EL (ν k) k (Sl k) := by
  have h : (bigSep Finset.univ fun k : SK => slotInv EL (ν k) k (Sl (F := F) k)) ⊢ slotInv EL (ν k) k (Sl k) :=
    BI.bigSep_elim (Φ := fun k : SK => slotInv EL (ν k) k (Sl k)) (Finset.mem_univ k)
  unfold recs
  iintro ⟨-, H, -, -⟩
  iapply h $$ H
theorem recs_lev : recs m κ ν ⊢ (levAts L lv : sProp 𝕄) := by
  unfold recs
  iintro ⟨-, -, H, -⟩; iexact H
theorem recs_reached (c : Dev nD) (k : CK) : recs m κ ν ⊢ reached ER (cell c k) 0 := by
  have h : (bigSep Finset.univ fun ck : Dev nD × CK => (reached ER (cell ck.1 ck.2) 0 : sProp 𝕄)) ⊢ reached ER (cell c k) 0 :=
    BI.bigSep_elim (Φ := fun ck : Dev nD × CK => (reached ER (cell ck.1 ck.2) 0 : sProp 𝕄)) (Finset.mem_univ (c, k))
  unfold recs
  iintro ⟨-, -, -, H⟩
  iapply h $$ H

/-- What device `c` still owes. -/
def own (c : Dev nD) (O : CellTallies nD τ sig ℕ) : sProp 𝕄 := iprop(∃ W, owes (c : Thread nD τ) O W)

/-- The position at the start of a round, which has been reached. -/
def pos (c : Dev nD) (k : CK) (r : ℕ) : sProp 𝕄 := iprop(atPos ER (cell c k) r ∅ 0 ∗ reached ER (cell c k) r)

/-! ## Waits for a cell with one payer -/

/-- A wait for the whole of a round with one payer. -/
theorem wait_tri (c : Dev nD) (k : CK) (r ι : ℕ) (hr : dutK k r = {0}) (hι : ι < 32) {O : CellTallies nD τ sig ℕ} (hO : Above (lvK k ι) O)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (semOf k) (amtK k) K) :
    Tri c iprop(recs m κ ν ∗ cred (tallyAt (cell c k) ι (amtK k)) ∗ own c O ∗ pos c k r)
      (Prog.lift w) iprop(own c O ∗ pos c k (r + 1) ∗ payK m c k r 0) := fun Q => by
  unfold own pos
  simp only [Prog.lift]
  iintro ⟨#HR, Hc, ⟨%W, HO⟩, HA, -⟩ HK
  iapply (Rounds.wp_wait_rest_token 𝒱₀ ER (Rd m) (c : Thread nD τ) none (κ := κ (c, k)) (sm := semOf k) (k' := amtK k) hw (Set.mem_univ _) ι
    (O := O) (W := W) (R := r) (m := 0) (T := ∅) (by rw [Nat.zero_add]; exact ((expect_cell m c k r).trans (by rw [hr, Finset.card_singleton, Nat.one_mul])).symm)) $$ [Hc HO HA]
  · isplitr; · iapply (recs_cell m κ ν c k); iexact HR
    isplitl [Hc]; · iexact Hc
    isplitl [HO]; · iexact HO
    isplitr; · iapply (mayWait_cell c k hι hO); iapply (recs_lev m κ ν); iexact HR
    iexact HA
  iintro ⟨HO, HA, #Hr, HP⟩
  ihave HP := (Entails.of_eq (rest_cell m c k r hr)) $$ HP
  rw [wp_ret]; imodintro; iapply HK
  isplitl [HO]; · iexists (insert (semOf k, ι) W); iexact HO
  isplitl [HA]
  · isplitl [HA]; · iexact HA
    iexact Hr
  iexact HP

/-! ## Copies of `x` -/

theorem mem_duty (c : Dev nD) (k : CK) (r : ℕ) (h : dutK k r = {0}) : 0 ∈ (Rd (F := F) m).duties (cell c k) r := by
  rw [duties_cell, h]; exact Finset.mem_singleton_self _

/-- All of the device's columns of `x`, at the share of a slot's copies; and the rows that a copy does not read. -/
def inAll (c : Dev nD) (q : PShare) : sProp 𝕄 := M0.view.loc (c : Thread nD τ) ↦[Finset.univ]{q} xC m c
def inRest (c : Dev nD) (d sl : Fin 2) (e : ℕ) : sProp 𝕄 :=
  M0.view.loc (c : Thread nD τ) ↦[Finset.univ \ (mIn (offX c d e) (offX_inb c d e)).view.set]{qx d sl} xC m c

theorem inAll_split (c : Dev nD) (d sl : Fin 2) (e : ℕ) : inAll m c (qx d sl) ⊣⊢ iprop(inPc m c d sl e ∗ inRest m c d sl e) :=
  pointsTo_split_subset (ℓ := M0.view.loc (c : Thread nD τ)) (Finset.subset_univ _)

theorem xload_tri (c : Dev nD) (d sl : Fin 2) (e r : ℕ) (he : e = loadOf sl r) (hr : dutK (kX d sl) r = {0})
    (off : Fin 2 → ℕ) (h) (hoff : off = offX c d e) :
    Tri c iprop(recs m κ ν ∗ inAll m c (qx d sl) ∗ (∃ f, xPc c d sl f) ∗ dutyTok ER (cell c (kX d sl)) r 0 ∗ reached ER (cell c (kX d sl)) r)
      (xload off h d sl) iprop(cred (tallyAt (cell c (kX d sl)) 0 NX) ∗ inRest m c d sl e) := fun Q => by
  subst hoff
  unfold xload
  simp only [Prog.lift]
  iintro ⟨#HR, HI, ⟨%f, HX⟩, HT, Hr⟩ HK
  icases (inAll_split m c d sl e).1 $$ HI with ⟨HI, HI'⟩
  iapply (Rounds.wp_copy_pointsTo 𝒱₀ ER (Rd m) (c : Thread nD τ) none (κ := κ (c, kX d sl)) (q := qx d sl) (fs := xC m c) (fd := f) (r := r) (d := 0)
    (mem_duty m c _ r hr) 0 NX (credit_mX d sl) (amount_cell m c (kX d sl) r 0) (by
      rw [payload_cell]
      dsimp only [payK]
      rw [← he]
      unfold xPc inPc
      refine sep_mono_left (Entails.of_eq ?_)
      refine pointsTo_congr fun i hi => ?_
      have h0 : i 0 = d := by
        rw [set_mX] at hi
        exact Fin.ext ((mem_rX d sl i).mp hi).1
      refine (land_x d sl _ (offX_inb c d e) (mv d e c).val rfl (mv d e c).isLt f (xC m c) i hi).trans ?_
      unfold XC
      congr 1
      congr 1
      apply Fin.ext
      show 1024 * (mv d e c).val + (i 2).val = 1024 * (mv (i 0) e c).val + (i 2).val
      rw [h0])) $$ [HI HX HT Hr]
  · isplitr; · iapply (recs_cell m κ ν c _); iexact HR
    unfold inPc xPc
    isplitl [HI]; · iexact HI
    isplitl [HX]; · iexact HX
    isplitl [HT]; · iexact HT
    iexact Hr
  iintro HC
  rw [wp_ret]; imodintro; iapply HK
  isplitl [HC]; · iexact HC
  iexact HI'

theorem xwait_tri (c : Dev nD) (d sl : Fin 2) (e r : ℕ) (he : e = loadOf sl r) (hr : dutK (kX d sl) r = {0})
    (off : Fin 2 → ℕ) (h) {O : CellTallies nD τ sig ℕ} (hO : Above 0 O) :
    Tri c iprop(recs m κ ν ∗ cred (tallyAt (cell c (kX d sl)) 0 NX) ∗ inRest m c d sl e ∗ own c O ∗ pos c (kX d sl) r)
      (xwait off h d sl) iprop(own c O ∗ pos c (kX d sl) (r + 1) ∗ inAll m c (qx d sl) ∗ xPc c d sl (XC m e c)) := fun Q => by
  unfold xwait
  iintro ⟨#HR, HC, HI, HO, HA⟩ HK
  iapply (wait_tri m κ ν c (kX d sl) r 0 hr (by decide) (O := O) hO (w := .waitDma2 (qX d sl) (mIn off h) (mX d sl) (View.wordExact_bits rfl) ((View.wordExact_bits rfl).reshape _ _))
    (by rw [show amtK (kX d sl) = (mX d sl).view.dmaCredit from (credit_mX d sl).symm]; exact wpE_waitDma2_eq 𝒱₀ (c : Thread nD τ) none Set.univ) Q) $$ [HC HO HA]
  · isplitr; · iexact HR
    isplitl [HC]; · iexact HC
    isplitl [HO]; · iexact HO
    iexact HA
  iintro ⟨HO, HA, HP⟩
  iapply HK
  dsimp only [payK]
  rw [← he]
  icases HP with ⟨HX, HP⟩
  isplitl [HO]; · iexact HO
  isplitl [HA]; · iexact HA
  isplitl [HI HP]
  · iapply (inAll_split m c d sl e).2; isplitl [HP]; · iexact HP
    iexact HI
  iexact HX

/-! ## Sends -/

theorem dutS (d sl s : Fin 2) {r : ℕ} (h : r < 7) : dutK (kS d sl s) r = {0} := if_pos h
theorem dutR (d sl s : Fin 2) {r : ℕ} (h : r < 7) : dutK (kR d sl s) r = {0} := if_pos h
theorem dutO {r : ℕ} (h : r < 16) : dutK kO r = {0} := if_pos h

theorem event_hop (i : ℕ) : 2 * (i / 4) + (eS i).val = i / 2 := by show 2 * (i / 4) + (i / 2) % 2 = i / 2; omega

/-- What it takes to send event `p`. -/
def sendTok (c : Dev nD) (d : Fin 2) (p : ℕ) : sProp 𝕄 :=
  iprop(dutyTok ER (cell c (kS d (eS p) (eH p))) (p / 4) 0 ∗ dutyTok ER (cell (dst d c) (kR d (eS p) (eH p))) (p / 4) 0
    ∗ writeTok EL (dst d c, d, eS p, eH p) (p / 4 + 1))
/-- A send under way: the credit for its end, and the share of the source that is not lent. -/
def sendOut (c : Dev nD) (d : Fin 2) (p : ℕ) : sProp 𝕄 :=
  iprop(cred (tallyAt (cell c (kS d (eS p) (eH p))) 0 N) ∗ sPc c d (eH p) qR' (SC m (p / 2) c))

theorem sPc_share (c : Dev nD) (d s : Fin 2) (f : C3 (F := F)) : sPc c d s fullShare f ⊣⊢ iprop(sPc c d s qL f ∗ sPc c d s qR' f) :=
  pointsTo_share (PosShare.mem_left_op_right fullShare)

theorem send_tri (c n : Dev nD) (d : Fin 2) (p : ℕ) (hp : p < 28) (hn : n = dst d c) (sl s : Fin 2) (hsl : sl = eS p) (hs : s = eH p)
    {O₁ O : CellTallies nD τ sig ℕ} (hO : O₁ = O + tallyAt (cell (dst d c) (kR d (eS p) (eH p))) (p / 2) N) :
    Tri c iprop(recs m κ ν ∗ sPc c d s fullShare (SC m (p / 2) c) ∗ own c O₁ ∗ sendTok c d p
        ∗ reached ER (cell c (kS d (eS p) (eH p))) (p / 4) ∗ ready (dst d c) d p)
      (sendSub n d sl s) iprop(own c O ∗ sendOut m c d p) := fun Q => by
  subst hn hsl hs
  unfold sendSub sendTok ready own sendOut
  simp only [Prog.lift]
  iintro ⟨#HR, HS, ⟨%W, HO⟩, ⟨HT1, HT2, HW⟩, Hr1, ⟨#Hrel, Hr2⟩⟩ HK
  icases (sPc_share c d _ _).1 $$ HS with ⟨HS, HS'⟩
  iapply fupd_wp
  imod (Release.slot_take EL (Es := Set.univ) (ι := ν (dst d c, d, eS p, eH p)) (S := Sl (dst d c, d, eS p, eH p)) (k := (dst d c, d, eS p, eH p)) (Set.mem_univ _) (p / 4 + 1)) $$ [HW] with HD
  · isplitr; · iapply (recs_slot m κ ν _); iexact HR
    isplitr; · iexact Hrel
    iexact HW
  imodintro
  unfold Sl
  icases HD with ⟨%f, HD⟩
  iapply (Rounds.wp_send_pointsTo 𝒱₀ ER (Rd m) (c : Thread nD τ) none (κ₁ := κ (c, kS d (eS p) (eH p))) (κ₂ := κ (dst d c, kR d (eS p) (eH p)))
    (q := qL) (fs := SC m (p / 2) c) (fd := f) (r₁ := p / 4) (r₂ := p / 4) (d₁ := 0) (d₂ := 0)
    (mem_duty m c _ _ (dutS d _ _ (by omega))) (mem_duty m (dst d c) _ _ (dutR d _ _ (by omega)))
    (p / 2) 0 N (credit_mR d _ _) (amount_cell m c (kS d (eS p) (eH p)) (p / 4) 0) (amount_cell m (dst d c) (kR d (eS p) (eH p)) (p / 4) 0) O hO (W := W)
    (by rw [payload_cell]; dsimp only [payK]; rw [event_hop]; unfold sPc; exact BI.Entails.refl _)
    (by
      rw [payload_cell]; dsimp only [payK]; rw [event_hop]; unfold rPc RC
      refine Entails.of_eq (pointsTo_congr fun i hi => ?_)
      have h0 : i 0 = d := by
        rw [set_mR] at hi
        exact Fin.ext ((mem_rR d _ _ i).mp hi).1
      refine (land_send d (eS p) (eH p) f _ i hi).trans ?_
      unfold arrive
      rw [h0, up_dst])) $$ [HS HD HO HT1 HT2 Hr1 Hr2]
  · isplitr; · iapply (recs_cell m κ ν c _); iexact HR
    isplitr; · iapply (recs_cell m κ ν (dst d c) _); iexact HR
    isplitl [HS]; · unfold sPc; iexact HS
    isplitl [HD]; · unfold rPc; iexact HD
    isplitl [HO]; · iexact HO
    isplitl [HT1]; · iexact HT1
    isplitl [Hr1]; · iexact Hr1
    isplitl [HT2]; · iexact HT2
    iexact Hr2
  iintro ⟨HC, HO⟩
  rw [wp_ret]; imodintro; iapply HK
  isplitl [HO]; · iexists W; iexact HO
  isplitl [HC]; · iexact HC
  iexact HS'

end Cert.Proof

end
-- ==== Proof.Talk.lean ====
/-
  What the waits for arrivals, the grants of credit and the barrier need and leave.
-/
module

public import proofs.«01_k».proof.Proof.Ops

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

/-! ## Windows -/

/-- The resources of the numbers from `a` up to `b`. -/
def Win (Φ : ℕ → sProp 𝕄) (a b : ℕ) : sProp 𝕄 := bigSep (Finset.Ico a b) Φ
theorem win_pop (Φ : ℕ → sProp 𝕄) {a b : ℕ} (h : a < b) : Win Φ a b = iprop(Φ a ∗ Win Φ (a + 1) b) := by
  unfold Win; rw [Ico_pop h, bigSep_insert not_mem_Ico_pop]; rfl
theorem win_push (Φ : ℕ → sProp 𝕄) {a b : ℕ} (h : a ≤ b) : Win Φ a (b + 1) = iprop(Φ b ∗ Win Φ a b) := by
  unfold Win; rw [Ico_push h, bigSep_insert not_mem_Ico_push]; rfl
theorem win_nil (Φ : ℕ → sProp 𝕄) (a : ℕ) : Win Φ a a = iprop(emp) := by
  unfold Win; rw [Finset.Ico_self]; rfl
theorem win_get (Φ : ℕ → sProp 𝕄) {a b i : ℕ} (h : a ≤ i) (h' : i < b) : Win Φ a b ⊢ Φ i :=
  BI.bigSep_elim (Φ := Φ) (Finset.mem_Ico.mpr ⟨h, h'⟩)

/-! ## Arrivals -/

theorem Above.mono {b b' : ℕ} {O : CellTallies nD τ sig ℕ} (h : Above b O) (hb : b' ≤ b) : Above b' O :=
  fun g i hg => ⟨(h g i hg).1, lt_of_le_of_lt hb (h g i hg).2⟩

def recvTok (c : Dev nD) (d : Fin 2) (i : ℕ) : sProp 𝕄 := cred (tallyAt (cell c (kR d (eS i) (eH i))) (i / 2) N)
def posS (c : Dev nD) (d : Fin 2) (i : ℕ) : sProp 𝕄 := pos c (kS d (eS i) (eH i)) (i / 4)
def posR (c : Dev nD) (d : Fin 2) (i : ℕ) : sProp 𝕄 := pos c (kR d (eS i) (eH i)) (i / 4)
theorem posS_add4 (c : Dev nD) (d : Fin 2) (i : ℕ) : posS (F := F) c d (i + 4) = pos c (kS d (eS i) (eH i)) (i / 4 + 1) := by
  unfold posS; rw [eS_add4, eH_add4, show (i + 4) / 4 = i / 4 + 1 by omega]
theorem posR_add4 (c : Dev nD) (d : Fin 2) (i : ℕ) : posR (F := F) c d (i + 4) = pos c (kR d (eS i) (eH i)) (i / 4 + 1) := by
  unfold posR; rw [eS_add4, eH_add4, show (i + 4) / 4 = i / 4 + 1 by omega]

/-- The half of event `i` that has arrived. -/
def got (c : Dev nD) (d : Fin 2) (i : ℕ) : sProp 𝕄 := rPc c d (eS i) (eH i) (RC m (i / 2) c)

theorem waitSub_tri (c : Dev nD) (d : Fin 2) (i : ℕ) (hi : i < 28) (sl s : Fin 2) (hsl : sl = eS i) (hs : s = eH i)
    {O : CellTallies nD τ sig ℕ} (hO : Above (2 * (i / 2) + 2) O) :
    Tri c iprop(recs m κ ν ∗ recvTok c d i ∗ sendOut m c d i ∗ own c O ∗ posS c d i ∗ posR c d i)
      (waitSub d sl s) iprop(own c O ∗ posS c d (i + 4) ∗ posR c d (i + 4) ∗ sPc c d (eH i) fullShare (SC m (i / 2) c) ∗ got m c d i) := fun Q => by
  subst hsl hs
  rw [posS_add4, posR_add4]
  unfold waitSub recvTok sendOut got
  iintro ⟨#HR, HC, ⟨HC', HS⟩, HO, HA, HB⟩ HK
  iapply (Tri.seq (wait_tri m κ ν c (kS d (eS i) (eH i)) (i / 4) 0 (dutS d _ _ (by omega)) (by decide) (O := O) (hO.mono (Nat.zero_le _))
    (w := .waitDma2 (qS d (eS i) (eH i)) (mR d (eS i) (eH i)) (mS d (eH i)) (exact_R d _ _) (exact_S d _))
    (by rw [show amtK (kS d (eS i) (eH i)) = (mS d (eH i)).view.dmaCredit from (credit_mS d _).symm]; exact wpE_waitDma2_eq 𝒱₀ (c : Thread nD τ) none Set.univ))) $$ [HC' HO HA]
  · isplitr; · iexact HR
    isplitl [HC']; · iexact HC'
    isplitl [HO]; · iexact HO
    unfold posS
    iexact HA
  iintro ⟨HO, HA, HP⟩
  iapply (wait_tri m κ ν c (kR d (eS i) (eH i)) (i / 4) (i / 2) (dutR d _ _ (by omega)) (by omega) (O := O) hO
    (w := .waitDma2 (qR d (eS i) (eH i)) (mS d (eH i)) (mR d (eS i) (eH i)) (exact_S d _) (exact_R d _ _))
    (by rw [show amtK (kR d (eS i) (eH i)) = (mR d (eS i) (eH i)).view.dmaCredit from (credit_mR d _ _).symm]; exact wpE_waitDma2_eq 𝒱₀ (c : Thread nD τ) none Set.univ) Q) $$ [HC HO HB]
  · isplitr; · iexact HR
    isplitl [HC]; · iexact HC
    isplitl [HO]; · iexact HO
    unfold posR
    iexact HB
  iintro ⟨HO, HB, HP'⟩
  iapply HK
  dsimp only [payK]
  rw [event_hop]
  isplitl [HO]; · iexact HO
  isplitl [HA]; · iexact HA
  isplitl [HB]; · iexact HB
  isplitl [HS HP]
  · iapply (sPc_share c d _ _).2; isplitl [HP]; · iexact HP
    iexact HS
  iexact HP'

/-! ## Grants of credit -/

def readerTok (c : Dev nD) (d : Fin 2) (i : ℕ) : sProp 𝕄 := readerAt EL (c, d, eS i, eH i) (i / 4 + 1)
theorem readerTok_add4 (c : Dev nD) (d : Fin 2) (i : ℕ) : readerTok (F := F) c d (i + 4) = readerAt EL (c, d, eS i, eH i) (i / 4 + 1 + 1) := by
  unfold readerTok; rw [eS_add4, eH_add4, show (i + 4) / 4 = i / 4 + 1 by omega]
theorem ready_add4 (c : Dev nD) (d : Fin 2) (i : ℕ) : ready (F := F) c d (i + 4) =
    iprop(released EL (c, d, eS i, eH i) (i / 4 + 1 + 1) ∗ reached ER (cell c (kR d (eS i) (eH i))) (i / 4 + 1)) := by
  unfold ready; rw [eS_add4, eH_add4, show (i + 4) / 4 = i / 4 + 1 by omega]

/-- What the sender has been told so far: `q` halves more are free. -/
def given (c : Dev nD) (d : Fin 2) (q : ℕ) : sProp 𝕄 := bigSep (Finset.range q) fun j => ready c d (j + 4)
instance given_persistent (c : Dev nD) (d : Fin 2) (q : ℕ) : BI.Persistent (given (F := F) c d q) := by unfold given; infer_instance
theorem given_succ (c : Dev nD) (d : Fin 2) (q : ℕ) : given (F := F) c d (q + 1) = iprop(ready c d (q + 4) ∗ given c d q) := by
  unfold given; rw [Finset.range_add_one, bigSep_insert Finset.notMem_range_self]; rfl
theorem crdP_up (c : Dev nD) (d : Fin 2) (i : ℕ) : crdP (F := F) (up d c) d i = given c d (i + 1) := by unfold crdP given; rw [dst_up]

/-- A half is given back. -/
theorem give_back (c : Dev nD) (d : Fin 2) (i : ℕ) :
    iprop(recs m κ ν ∗ readerTok c d i ∗ (∃ f, rPc c d (eS i) (eH i) f) ∗ posR c d (i + 4) ∗ given c d i)
      ⊢ iprop(|={Set.univ}=> (readerTok c d (i + 4) ∗ posR c d (i + 4) ∗ given c d (i + 1))) := by
  rw [given_succ, ready_add4, readerTok_add4, posR_add4]
  unfold pos readerTok
  iintro ⟨#HR, HT, HX, ⟨HA, #Hr⟩, #HG⟩
  imod (Release.slot_release EL (Es := Set.univ) (ι := ν (c, d, eS i, eH i)) (S := Sl (c, d, eS i, eH i)) (k := (c, d, eS i, eH i)) (Set.mem_univ _) (Sl_Sl_false _) (i / 4 + 1)) $$ [HT HX] with ⟨HT, #Hrel⟩
  · isplitr; · iapply (recs_slot m κ ν _); iexact HR
    isplitl [HT]; · iexact HT
    unfold Sl; iexact HX
  imodintro
  isplitl [HT]; · iexact HT
  isplitl [HA]
  · isplitl [HA]; · iexact HA
    iexact Hr
  isplitr
  · isplitr; · iexact Hrel
    iexact Hr
  iexact HG

theorem toInt_1 : (1#32 : BitVec 32).toInt = ((1 : ℕ) : ℤ) := rfl
theorem toInt_2 : (2#32 : BitVec 32).toInt = ((2 : ℕ) : ℤ) := rfl

theorem mem_dutyC (c : Dev nD) (d : Fin 2) {i : ℕ} (h : i < 24) : i ∈ (Rd (F := F) m).duties (cell c (kC d)) 0 := by
  rw [duties_cell]; exact Finset.mem_range.mpr h

/-- The right to grant credit `i`. -/
def grantTok (c : Dev nD) (d : Fin 2) (i : ℕ) : sProp 𝕄 := dutyTok ER (cell (up d c) (kC d)) 0 i

/-- One half is given back and the sender told. -/
theorem grant_tri (c n : Dev nD) (d : Fin 2) (i : ℕ) (hi : i < 24) (hn : n = up d c) {O₁ O : CellTallies nD τ sig ℕ}
    (hO : O₁ = O + tallyAt (cell (up d c) (kC d)) (i / 2) 1) :
    Tri c iprop(recs m κ ν ∗ own c O₁ ∗ grantTok c d i ∗ readerTok c d i ∗ got m c d i ∗ posR c d (i + 4) ∗ given c d i)
      (semSignalWord n (qC d) 1#32) iprop(own c O ∗ readerTok c d (i + 4) ∗ posR c d (i + 4) ∗ given c d (i + 1)) := fun Q => by
  subst hn
  unfold semSignalWord own grantTok
  rw [toInt_1]
  iintro ⟨#HR, ⟨%W, HO⟩, HT, HA, HX, HB, HG⟩ HK
  iapply fupd_wp
  imod (give_back m κ ν c d i) $$ [HA HX HB HG] with ⟨HA, HB, #HG⟩
  · isplitr; · iexact HR
    isplitl [HA]; · iexact HA
    isplitl [HX]; · unfold got; iexists _; iexact HX
    isplitl [HB]; · iexact HB
    iexact HG
  imodintro
  iapply (Rounds.wp_signal 𝒱₀ ER (Rd m) (c : Thread nD τ) none (dst := (up d c : Thread nD τ)) (κ := κ (up d c, kC d)) (r := 0) (d := i)
    (mem_dutyC m (up d c) d hi) (amount_cell m (up d c) (kC d) 0 i) (i / 2) O hO) $$ [HO HT]
  · isplitr; · iapply (recs_cell m κ ν (up d c) (kC d)); iexact HR
    isplitl [HO]; · iexact HO
    isplitl [HT]; · iexact HT
    isplitr
    · rw [show (Rd m).payload ((up d c : Thread nD τ), .reg (qC d)) 0 i = payK m (up d c) (kC d) 0 i from payload_cell m (up d c) (kC d) 0 i]
      dsimp only [payK]; rw [crdP_up]; iexact HG
    iapply (recs_reached m κ ν (up d c) (kC d)); iexact HR
  iintro HO
  rw [wp_ret]; imodintro; iapply HK
  isplitl [HO]; · iexists W; iexact HO
  isplitl [HA]; · iexact HA
  isplitl [HB]; · iexact HB
  iexact HG

/-- Two payers' dues landing together. -/
theorem land_pair (g : GSem nD τ sig) (k : ℕ) (r d₁ d₂ : ℕ) (h₁ : d₁ ∈ (Rd m).duties g r) (h₂ : d₂ ∈ (Rd m).duties g r) :
    iprop(cellInv ER (Rd m) k g ∗ ((Rd m).payload g r d₁ ∗ dutyTok ER g r d₁) ∗ ((Rd m).payload g r d₂ ∗ dutyTok ER g r d₂) ∗ reached ER g r)
      ⊢ (landingUpdate g ((Rd m).amount g r d₁ + (Rd m).amount g r d₂) iprop(emp) : sProp 𝕄) := by
  rw [landingUpdate_def]
  iintro H -
  iapply (raise_roundState ER (Rd m) (Y := iprop(emp))
    (X := iprop(((Rd m).payload g r d₁ ∗ dutyTok ER g r d₁) ∗ ((Rd m).payload g r d₂ ∗ dutyTok ER g r d₂) ∗ reached ER g r))
    (by
      iintro ⟨Hcl, ⟨-, Htok⟩, -, Hr⟩; iapply (closed_dutyTok_false ER (Rd m) h₁)
      isplitl [Hcl]; · iexact Hcl
      isplitl [Htok]; · iexact Htok
      iexact Hr)
    (by iintro ⟨Hdm, -, -, Hr⟩; iapply (dormant_reached_false ER (Rd m)); isplitl [Hdm]; · iexact Hdm
        iexact Hr) fun v => by
      iintro ⟨Hst, ⟨Hp, Ht⟩, ⟨Hp', Ht'⟩, #Hr⟩
      imod (roundState_land ER (Rd m) h₁ (v := v)) $$ [Hst Ht Hp] with Hst
      · isplitl [Hst]; · iexact Hst
        isplitl [Ht]; · iexact Ht
        isplitl [Hp]; · iexact Hp
        iexact Hr
      imod (roundState_land ER (Rd m) h₂) $$ [Hst Ht' Hp'] with Hst
      · isplitl [Hst]; · iexact Hst
        isplitl [Ht']; · iexact Ht'
        isplitl [Hp']; · iexact Hp'
        iexact Hr
      imodintro
      rw [Nat.add_assoc]
      isplitl [Hst]; · iexact Hst
      iempintro) $$ H

/-- Both halves of a hop are given back and the sender told. -/
theorem grant2_tri (c n : Dev nD) (d : Fin 2) (i : ℕ) (hi : i + 1 < 24) (hev : i % 2 = 0) (hn : n = up d c) {O₁ O : CellTallies nD τ sig ℕ}
    (hO : O₁ = O + (tallyAt (cell (up d c) (kC d)) (i / 2) 1 + tallyAt (cell (up d c) (kC d)) ((i + 1) / 2) 1)) :
    Tri c iprop(recs m κ ν ∗ own c O₁ ∗ grantTok c d i ∗ grantTok c d (i + 1) ∗ readerTok c d i ∗ readerTok c d (i + 1)
        ∗ got m c d i ∗ got m c d (i + 1) ∗ posR c d (i + 4) ∗ posR c d (i + 1 + 4) ∗ given c d i)
      (semSignalWord n (qC d) 2#32) iprop(own c O ∗ readerTok c d (i + 4) ∗ readerTok c d (i + 1 + 4) ∗ posR c d (i + 4) ∗ posR c d (i + 1 + 4) ∗ given c d (i + 2)) := fun Q => by
  subst hn
  rw [show (i + 1) / 2 = i / 2 by omega, tallyAt_add] at hO
  unfold semSignalWord own grantTok
  rw [toInt_2]
  iintro ⟨#HR, ⟨%W, HO⟩, HT, HT', HA, HA', HX, HX', HB, HB', HG⟩ HK
  iapply fupd_wp
  imod (give_back m κ ν c d i) $$ [HA HX HB HG] with ⟨HA, HB, #HG⟩
  · isplitr; · iexact HR
    isplitl [HA]; · iexact HA
    isplitl [HX]; · unfold got; iexists _; iexact HX
    isplitl [HB]; · iexact HB
    iexact HG
  imod (give_back m κ ν c d (i + 1)) $$ [HA' HX' HB'] with ⟨HA', HB', #HG'⟩
  · isplitr; · iexact HR
    isplitl [HA']; · iexact HA'
    isplitl [HX']; · unfold got; iexists _; iexact HX'
    isplitl [HB']; · iexact HB'
    iexact HG
  imodintro
  iapply (wp_semSignal 𝒱₀ (c : Thread nD τ) none Set.univ (dst := (up d c : Thread nD τ)) (sem := qC d) (k' := 2) (i / 2) O hO (W := W)) $$ HO [HT HT']
  · have hl := land_pair m (cell (up d c) (kC d)) (κ (up d c, kC d)) 0 i (i + 1) (mem_dutyC m (up d c) d (by omega)) (mem_dutyC m (up d c) d hi)
    rw [payload_cell, payload_cell, amount_cell, amount_cell] at hl
    dsimp only [payK, amtK] at hl
    rw [crdP_up, crdP_up] at hl
    iapply hl
    isplitr; · iapply (recs_cell m κ ν (up d c) (kC d)); iexact HR
    isplitl [HT]
    · isplitr; · iexact HG
      iexact HT
    isplitl [HT']
    · isplitr; · iexact HG'
      iexact HT'
    iapply (recs_reached m κ ν (up d c) (kC d)); iexact HR
  iintro HO
  rw [wp_ret]; imodintro; iapply HK
  isplitl [HO]; · iexists W; iexact HO
  isplitl [HA]; · iexact HA
  isplitl [HA']; · iexact HA'
  isplitl [HB]; · iexact HB
  isplitl [HB']; · iexact HB'
  iexact HG'

end Cert.Proof

end
-- ==== Proof.Work.lean ====
/-
  What the arithmetic steps need and leave: each reads and writes pieces of the buffers held.
-/
module

public import proofs.«01_k».proof.Proof.Talk

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ)

/-! ## Pieces together -/

theorem pts_pair {ℓ : Loc nD τ sig} {A B S : Finset (Idx ℓ)} {q : PShare} {f : Buf (Elt F) ℓ} (h : ∀ i, i ∈ S ↔ i ∈ A ∨ i ∈ B)
    (hd : ∀ i, i ∈ A → i ∈ B → False) : (ℓ ↦[S]{q} f : sProp 𝕄) ⊣⊢ iprop((ℓ ↦[A]{q} f) ∗ ℓ ↦[B]{q} f) := by
  have e : S = A ∪ B := Finset.ext fun i => (h i).trans Finset.mem_union.symm
  rw [e]
  exact pointsTo_union (Finset.disjoint_left.mpr fun i ha hb => hd i ha hb)

theorem fin2_val (a b : Fin 2) : a.val = b.val ↔ a = b := Fin.ext_iff.symm

/-- Half `s`, both directions. -/
def sBoth (c : Dev nD) (s : Fin 2) (q : PShare) (f : C3 (F := F)) : sProp 𝕄 := M3.view.loc (c : Thread nD τ) ↦[(rSB s).set]{q} f
/-- One direction, both halves. -/
def sOne (c : Dev nD) (d : Fin 2) (q : PShare) (f : C3 (F := F)) : sProp 𝕄 := M3.view.loc (c : Thread nD τ) ↦[(rSW d).set]{q} f
def sAll (c : Dev nD) (f : C3 (F := F)) : sProp 𝕄 := M3.view.loc (c : Thread nD τ) ↦[Finset.univ]{fullShare} f
def rBoth (c : Dev nD) (sl s : Fin 2) (f : C4 (F := F)) : sProp 𝕄 := M4.view.loc (c : Thread nD τ) ↦[(rRB sl s).set]{fullShare} f
def rOne (c : Dev nD) (d sl : Fin 2) (f : C4 (F := F)) : sProp 𝕄 := M4.view.loc (c : Thread nD τ) ↦[(rRW d sl).set]{fullShare} f
def lOne (c : Dev nD) (d : Fin 2) (f : C5 (F := F)) : sProp 𝕄 := M5.view.loc (c : Thread nD τ) ↦[(rSW d).set]{fullShare} f
def lAll (c : Dev nD) (f : C5 (F := F)) : sProp 𝕄 := M5.view.loc (c : Thread nD τ) ↦[Finset.univ]{fullShare} f
def wAll (c : Dev nD) : sProp 𝕄 := M1.view.loc (c : Thread nD τ) ↦[Finset.univ]{fullShare} wC m c

theorem sBoth_iff (c : Dev nD) (s : Fin 2) (q : PShare) (f : C3 (F := F)) : sBoth c s q f ⊣⊢ iprop(sPc c 0 s q f ∗ sPc c 1 s q f) := by
  unfold sBoth sPc
  rw [set_mS, set_mS]
  refine pts_pair (fun i => ?_) (fun i h h' => ?_)
  · rw [mem_rSB, mem_rS, mem_rS]
    have h : (i 0).val < 2 := (i 0).isLt
    show _ ↔ ((i 0).val = 0 ∧ _) ∨ ((i 0).val = 1 ∧ _)
    omega
  · rw [mem_rS] at h h'
    have h1 : (i 0).val = 0 := h.1
    have h2 : (i 0).val = 1 := h'.1
    omega
theorem sOne_iff (c : Dev nD) (d : Fin 2) (q : PShare) (f : C3 (F := F)) : sOne c d q f ⊣⊢ iprop(sPc c d 0 q f ∗ sPc c d 1 q f) := by
  unfold sOne sPc
  rw [set_mS, set_mS]
  refine pts_pair (fun i => ?_) (fun i h h' => ?_)
  · rw [mem_rSW, mem_rS, mem_rS]
    have h : (i 1).val < 1024 := (i 1).isLt
    show _ ↔ (_ ∧ (i 1).val / 512 = 0) ∨ (_ ∧ (i 1).val / 512 = 1)
    omega
  · rw [mem_rS] at h h'
    have h1 : (i 1).val / 512 = 0 := h.2
    have h2 : (i 1).val / 512 = 1 := h'.2
    omega
theorem sAll_iff (c : Dev nD) (f : C3 (F := F)) : sAll c f ⊣⊢ iprop(sOne c 0 fullShare f ∗ sOne c 1 fullShare f) := by
  unfold sAll sOne
  refine pts_pair (fun i => ?_) (fun i h h' => ?_)
  · rw [mem_rSW, mem_rSW]
    have h : (i 0).val < 2 := (i 0).isLt
    refine iff_of_true (Finset.mem_univ i) ?_
    show (i 0).val = 0 ∨ (i 0).val = 1
    omega
  · rw [mem_rSW] at h h'
    have h1 : (i 0).val = 0 := h
    have h2 : (i 0).val = 1 := h'
    omega
theorem lAll_iff (c : Dev nD) (f : C5 (F := F)) : lAll c f ⊣⊢ iprop(lOne c 0 f ∗ lOne c 1 f) := by
  unfold lAll lOne
  refine pts_pair (fun i => ?_) (fun i h h' => ?_)
  · rw [mem_rSW, mem_rSW]
    have h : (i 0).val < 2 := (i 0).isLt
    refine iff_of_true (Finset.mem_univ i) ?_
    show (i 0).val = 0 ∨ (i 0).val = 1
    omega
  · rw [mem_rSW] at h h'
    have h1 : (i 0).val = 0 := h
    have h2 : (i 0).val = 1 := h'
    omega
theorem rBoth_iff (c : Dev nD) (sl s : Fin 2) (f : C4 (F := F)) : rBoth c sl s f ⊣⊢ iprop(rPc c 0 sl s f ∗ rPc c 1 sl s f) := by
  unfold rBoth rPc
  rw [set_mR, set_mR]
  refine pts_pair (fun i => ?_) (fun i h h' => ?_)
  · rw [mem_rRB, mem_rR, mem_rR]
    have h : (i 0).val < 2 := (i 0).isLt
    show _ ↔ ((i 0).val = 0 ∧ _) ∨ ((i 0).val = 1 ∧ _)
    omega
  · rw [mem_rR] at h h'
    have h1 : (i 0).val = 0 := h.1
    have h2 : (i 0).val = 1 := h'.1
    omega
theorem rOne_iff (c : Dev nD) (d sl : Fin 2) (f : C4 (F := F)) : rOne c d sl f ⊣⊢ iprop(rPc c d sl 0 f ∗ rPc c d sl 1 f) := by
  unfold rOne rPc
  rw [set_mR, set_mR]
  refine pts_pair (fun i => ?_) (fun i h h' => ?_)
  · rw [mem_rRW, mem_rR, mem_rR]
    have h : (i 2).val < 1024 := (i 2).isLt
    show _ ↔ (_ ∧ _ ∧ (i 2).val / 512 = 0) ∨ (_ ∧ _ ∧ (i 2).val / 512 = 1)
    omega
  · rw [mem_rR] at h h'
    have h1 : (i 2).val / 512 = 0 := h.2.2
    have h2 : (i 2).val / 512 = 1 := h'.2.2
    omega

/-! ## Loads and stores of a rectangle of a whole buffer -/

theorem lift_bind {A B : Type} (w : TpuEff nD τ sig (Elt F) Λ₀ .tc A) (k : A → TProg F B) : (Prog.lift w >>= k) = .op w k := rfl

theorem setOn_whole (b : Ref sig .tc) (r : Rect b.ty.shape) : (Memref.whole b).view.setOn r.toLoadRect.set = r.set :=
  (View.set_slice (View.whole b) r).symm.trans (View.set_slice_whole b r)
theorem setOn_access (b : Ref sig .tc) (r : Rect b.ty.shape) : ((Memref.whole b).access r).setOn Finset.univ = r.set :=
  View.set_slice_whole _ _

/-- What a store leaves at an element of its rectangle. -/
theorem write_at (b : Ref sig .tc) (r : Rect b.ty.shape) (f : b.ty.Contents (Elt F)) (w : r.shape.Idx → Elt F b.ty.elt) (x : r.shape.Idx) :
    ((Memref.whole b).access r).write (Elt F) f w Finset.univ (r.emb x) = w x :=
  View.write_emb_of_mem (h := Finset.mem_univ _) ..

theorem store_gemm (c : Dev nD) (d : Fin 2) (h : ℕ) (f : C5 (F := F)) (i : S2x1024x2048.Idx) (hi : i ∈ (rSW d).set) :
    (M5.access (rSW d)).write (Elt F) f (k0_pay4 (M6.view.readAt (Elt F) (rX d (slot h)).toLoadRect (XC m (h + 1) c))
      (M1.view.readAt (Elt F) (rW d).toLoadRect (wC m c))) Finset.univ i = locC m h c i := by
  have h0 : i 0 = d := Fin.ext ((mem_rSW d i).mp hi)
  have e : i = (rSW d).emb (ix3 (0 : Fin 1) (i 1) (i 2)) := by
    funext a
    match a with
    | ⟨0, _⟩ => apply Fin.ext; show (i 0).val = d.val + 1 * 0; rw [h0]; omega
    | ⟨1, _⟩ => apply Fin.ext; show (i 1).val = 0 + 1 * (i 1).val; omega
    | ⟨2, _⟩ => apply Fin.ext; show (i 2).val = 0 + 1 * (i 2).val; omega
  refine (congrArg _ e).trans ((write_at cc0_scratch2 (rSW d) f _ _).trans ?_)
  unfold locC
  rw [h0]

theorem gemm_tri (c : Dev nD) (d sl : Fin 2) (h : ℕ) (hsl : sl = slot h) :
    Tri c iprop(xPc c d sl (XC m (h + 1) c) ∗ wAll m c ∗ (∃ f, lOne c d f)) (gemmStep d sl)
      iprop(xPc c d sl (XC m (h + 1) c) ∗ wAll m c ∗ lOne c d (locC m h c)) := fun Q => by
  subst hsl
  unfold gemmStep xPc wAll lOne
  rw [set_mX]
  simp only [lift_bind, Prog.lift]
  iintro ⟨HX, HW, ⟨%f, HL⟩⟩ HK
  iapply (wp_load 𝒱₀ (c : Thread nD τ) none Set.univ (m := M6) (r := (rX d (slot h)).toLoadRect) (setOn_whole _ _).le) $$ HX
  iintro HX
  iapply (wp_load 𝒱₀ (c : Thread nD τ) none Set.univ (m := M1) (r := (rW d).toLoadRect) (Finset.subset_univ _)) $$ HW
  iintro HW
  iapply (wp_load 𝒱₀ (c : Thread nD τ) none Set.univ (m := M5) (r := (rSW d).toLoadRect) (setOn_whole _ _).le) $$ HL
  iintro HL
  iapply (wp_store 𝒱₀ (c : Thread nD τ) none Set.univ (m := M5) (r := rSW d) (Mk := Finset.univ) (setOn_access _ _).le) $$ HL
  iintro HL
  rw [wp_ret]; imodintro; iapply HK
  isplitl [HX]; · iexact HX
  isplitl [HW]; · iexact HW
  ihave HL := (Entails.of_eq (pointsTo_congr (store_gemm m c d h f))) $$ HL
  iexact HL

theorem store_acc (c : Dev nD) (i : ℕ) (hi : i / 2 < 7) (f : C3 (F := F)) (j : S2x1024x2048.Idx) (hj : j ∈ (rSB (eH i)).set) :
    (M3.access (rSB (eH i))).write (Elt F) f (k0_pay6 (M4.view.readAt (Elt F) (rRB (eS i) (eH i)).toLoadRect (RC m (i / 2) c))
      (M5.view.readAt (Elt F) (rSB (eH i)).toLoadRect (locC m (i / 2) c))) Finset.univ j = SC m (i / 2 + 1) c j := by
  have h0 : hf j = eH i := Fin.ext ((mem_rSB (eH i) j).mp hj)
  have e : j = (rSB (eH i)).emb (hix j) := by
    have h1 : (j 1).val / 512 = (eH i).val := (mem_rSB (eH i) j).mp hj
    funext a
    match a with
    | ⟨0, _⟩ => apply Fin.ext; show (j 0).val = 0 + 1 * (j 0).val; omega
    | ⟨1, _⟩ => apply Fin.ext; show (j 1).val = 512 * (eH i).val + 1 * ((j 1).val % 512); omega
    | ⟨2, _⟩ => apply Fin.ext; show (j 2).val = 0 + 1 * (j 2).val; omega
  refine (congrArg _ e).trans ((write_at cc0_scratch0 (rSB (eH i)) f _ _).trans ?_)
  show _ = nextHalf m (i / 2) c (arrive (SC m (i / 2)) c) (hf j) (hix j)
  unfold nextHalf
  rw [if_pos hi, h0]
  rfl

theorem store_fwd (c : Dev nD) (i : ℕ) (hi : ¬ i / 2 < 7) (f : C3 (F := F)) (j : S2x1024x2048.Idx) (hj : j ∈ (rSB (eH i)).set) :
    (M3.access (rSB (eH i))).write (Elt F) f (k0_pay36 (M4.view.readAt (Elt F) (rRB (eS i) (eH i)).toLoadRect (RC m (i / 2) c))) Finset.univ j = SC m (i / 2 + 1) c j := by
  have h0 : hf j = eH i := Fin.ext ((mem_rSB (eH i) j).mp hj)
  have e : j = (rSB (eH i)).emb (hix j) := by
    have h1 : (j 1).val / 512 = (eH i).val := (mem_rSB (eH i) j).mp hj
    funext a
    match a with
    | ⟨0, _⟩ => apply Fin.ext; show (j 0).val = 0 + 1 * (j 0).val; omega
    | ⟨1, _⟩ => apply Fin.ext; show (j 1).val = 512 * (eH i).val + 1 * ((j 1).val % 512); omega
    | ⟨2, _⟩ => apply Fin.ext; show (j 2).val = 0 + 1 * (j 2).val; omega
  refine (congrArg _ e).trans ((write_at cc0_scratch0 (rSB (eH i)) f _ _).trans ?_)
  show _ = nextHalf m (i / 2) c (arrive (SC m (i / 2)) c) (hf j) (hix j)
  unfold nextHalf
  rw [if_neg hi, h0]
  rfl

theorem acc_tri (c : Dev nD) (i : ℕ) (hi : i / 2 < 7) (sl s : Fin 2) (hsl : sl = eS i) (hs : s = eH i) :
    Tri c iprop(sBoth c (eH i) fullShare (SC m (i / 2) c) ∗ rBoth c (eS i) (eH i) (RC m (i / 2) c) ∗ lAll c (locC m (i / 2) c)) (accStep sl s)
      iprop(sBoth c (eH i) fullShare (SC m (i / 2 + 1) c) ∗ rBoth c (eS i) (eH i) (RC m (i / 2) c) ∗ lAll c (locC m (i / 2) c)) := fun Q => by
  subst hsl hs
  unfold accStep sBoth rBoth lAll
  simp only [lift_bind, Prog.lift]
  iintro ⟨HS, HR, HL⟩ HK
  iapply (wp_load 𝒱₀ (c : Thread nD τ) none Set.univ (m := M4) (r := (rRB (eS i) (eH i)).toLoadRect) (setOn_whole _ _).le) $$ HR
  iintro HR
  iapply (wp_load 𝒱₀ (c : Thread nD τ) none Set.univ (m := M5) (r := (rSB (eH i)).toLoadRect) (Finset.subset_univ _)) $$ HL
  iintro HL
  iapply (wp_load 𝒱₀ (c : Thread nD τ) none Set.univ (m := M3) (r := (rSB (eH i)).toLoadRect) (setOn_whole _ _).le) $$ HS
  iintro HS
  iapply (wp_store 𝒱₀ (c : Thread nD τ) none Set.univ (m := M3) (r := rSB (eH i)) (Mk := Finset.univ) (setOn_access _ _).le) $$ HS
  iintro HS
  rw [wp_ret]; imodintro; iapply HK
  ihave HS := (Entails.of_eq (pointsTo_congr (store_acc m c i hi _))) $$ HS
  isplitl [HS]; · iexact HS
  isplitl [HR]; · iexact HR
  iexact HL

theorem fwd_tri (c : Dev nD) (i : ℕ) (hi : ¬ i / 2 < 7) (sl s : Fin 2) (hsl : sl = eS i) (hs : s = eH i) :
    Tri c iprop(sBoth c (eH i) fullShare (SC m (i / 2) c) ∗ rBoth c (eS i) (eH i) (RC m (i / 2) c)) (fwdStep sl s)
      iprop(sBoth c (eH i) fullShare (SC m (i / 2 + 1) c) ∗ rBoth c (eS i) (eH i) (RC m (i / 2) c)) := fun Q => by
  subst hsl hs
  unfold fwdStep sBoth rBoth
  simp only [lift_bind, Prog.lift]
  iintro ⟨HS, HR⟩ HK
  iapply (wp_load 𝒱₀ (c : Thread nD τ) none Set.univ (m := M4) (r := (rRB (eS i) (eH i)).toLoadRect) (setOn_whole _ _).le) $$ HR
  iintro HR
  iapply (wp_load 𝒱₀ (c : Thread nD τ) none Set.univ (m := M3) (r := (rSB (eH i)).toLoadRect) (setOn_whole _ _).le) $$ HS
  iintro HS
  iapply (wp_store 𝒱₀ (c : Thread nD τ) none Set.univ (m := M3) (r := rSB (eH i)) (Mk := Finset.univ) (setOn_access _ _).le) $$ HS
  iintro HS
  rw [wp_ret]; imodintro; iapply HK
  ihave HS := (Entails.of_eq (pointsTo_congr (store_fwd m c i hi _))) $$ HS
  isplitl [HS]; · iexact HS
  iexact HR

/-! ## The device's own product -/

theorem emb_SW (d : Fin 2) (i : S2x1024x2048.Idx) (h0 : (i 0).val = d.val) : i = (rSW d).emb (ix3 (0 : Fin 1) (i 1) (i 2)) := by
  funext a
  match a with
  | ⟨0, _⟩ => apply Fin.ext; show (i 0).val = d.val + 1 * 0; omega
  | ⟨1, _⟩ => apply Fin.ext; show (i 1).val = 0 + 1 * (i 1).val; omega
  | ⟨2, _⟩ => apply Fin.ext; show (i 2).val = 0 + 1 * (i 2).val; omega

theorem store_own (c : Dev nD) (f : C3 (F := F)) :
    (M3.access (rSW 1)).write (Elt F) ((M3.access (rSW 0)).write (Elt F) f
        (k0_pay2 (M6.view.readAt (Elt F) (rX 1 1).toLoadRect (XC m 0 c)) (M1.view.readAt (Elt F) rWA.toLoadRect (wC m c))) Finset.univ)
      (k0_pay3 (k0_pay1 (M6.view.readAt (Elt F) (rX 1 1).toLoadRect (XC m 0 c)) (M1.view.readAt (Elt F) rWA.toLoadRect (wC m c)))) Finset.univ = ownC m c := by
  funext i
  have hlt : (i 0).val < 2 := (i 0).isLt
  unfold ownC
  by_cases h : (i 0).val = 0
  · rw [if_pos h]
    rw [View.write_of_not_mem (h := ?_)]
    · exact (congrArg _ (emb_SW 0 i h)).trans (write_at cc0_scratch0 (rSW 0) f _ _)
    · intro hi
      have := (mem_rSW 1 i).mp ((setOn_access cc0_scratch0 (rSW 1)).le hi)
      rw [h] at this; exact absurd this (by decide)
  · rw [if_neg h]
    exact (congrArg _ (emb_SW 1 i (show (i 0).val = 1 by omega))).trans (write_at cc0_scratch0 (rSW 1) _ _ _)

theorem own_tri (c : Dev nD) :
    Tri c iprop(xPc c 1 1 (XC m 0 c) ∗ wAll m c ∗ (∃ f, sAll c f)) ownStep
      iprop(xPc c 1 1 (XC m 0 c) ∗ wAll m c ∗ sAll c (SC m 0 c)) := fun Q => by
  unfold ownStep xPc wAll sAll
  rw [set_mX]
  simp only [lift_bind, Prog.lift]
  iintro ⟨HX, HW, ⟨%f, HS⟩⟩ HK
  iapply (wp_load 𝒱₀ (c : Thread nD τ) none Set.univ (m := M6) (r := (rX 1 1).toLoadRect) (setOn_whole _ _).le) $$ HX
  iintro HX
  iapply (wp_load 𝒱₀ (c : Thread nD τ) none Set.univ (m := M1) (r := rWA.toLoadRect) (Finset.subset_univ _)) $$ HW
  iintro HW
  iapply (wp_load 𝒱₀ (c : Thread nD τ) none Set.univ (m := M3) (r := (rSW 0).toLoadRect) (Finset.subset_univ _)) $$ HS
  iintro HS
  iapply (wp_store 𝒱₀ (c : Thread nD τ) none Set.univ (m := M3) (r := rSW 0) (Mk := Finset.univ) (Finset.subset_univ _)) $$ HS
  iintro HS
  iapply (wp_load 𝒱₀ (c : Thread nD τ) none Set.univ (m := M3) (r := (rSW 1).toLoadRect) (Finset.subset_univ _)) $$ HS
  iintro HS
  iapply (wp_store 𝒱₀ (c : Thread nD τ) none Set.univ (m := M3) (r := rSW 1) (Mk := Finset.univ) (Finset.subset_univ _)) $$ HS
  iintro HS
  rw [wp_ret]; imodintro; iapply HK
  ihave HS := (Entails.of_eq (pointsTo_congr fun i _ => congrFun (store_own m c f) i)) $$ HS
  isplitl [HX]; · iexact HX
  isplitl [HW]; · iexact HW
  iexact HS

/-! ## Staging a piece of the result -/

theorem hz : (![0, 0] : Fin 2 → ℕ) = fun _ => 0 := funext fun a => by fin_cases a <;> rfl

theorem stageSend_tri (c : Dev nD) (d : Fin 2) (q : PShare) :
    Tri c iprop(sOne c d q (SC m 7 c) ∗ (∃ f, b7 c f)) (stageSend d) iprop(sOne c d q (SC m 7 c) ∗ b7 c (OB m c d 0)) := fun Q => by
  unfold stageSend sOne b7
  rw [View.set_whole]
  simp only [lift_bind, Prog.lift]
  iintro ⟨HS, ⟨%f, HB⟩⟩ HK
  iapply (wp_load 𝒱₀ (c : Thread nD τ) none Set.univ (m := M3) (r := (rSW d).toLoadRect) (setOn_whole _ _).le) $$ HS
  iintro HS
  iapply (wp_load 𝒱₀ (c : Thread nD τ) none Set.univ (m := M7) (r := rB.toLoadRect) (Finset.subset_univ _)) $$ HB
  iintro HB
  iapply (wp_store 𝒱₀ (c : Thread nD τ) none Set.univ (m := M7) (r := rB) (Mk := Finset.univ) (Finset.subset_univ _)) $$ HB
  iintro HB
  rw [wp_ret]; imodintro; iapply HK
  rw [show (M7.access rB).write (Elt F) f (k0_pay32 (M3.view.readAt (Elt F) (rSW d).toLoadRect (SC m 7 c))) Finset.univ = OB m c d 0 from
    Memref.write_access_unit_zero_univ (Elt F) cc0_scratch4 hz _ f _]
  isplitl [HS]; · iexact HS
  iexact HB

theorem stageRecv_tri (c : Dev nD) (d : Fin 2) (k : ℕ) (sl : Fin 2) (hsl : sl = slot (k + 7)) :
    Tri c iprop(rOne c d (slot (k + 7)) (RC m (k + 7) c) ∗ (∃ f, b7 c f)) (stageRecv d sl)
      iprop(rOne c d (slot (k + 7)) (RC m (k + 7) c) ∗ b7 c (OB m c d (k + 1))) := fun Q => by
  subst hsl
  unfold stageRecv rOne b7
  rw [View.set_whole]
  simp only [lift_bind, Prog.lift]
  iintro ⟨HS, ⟨%f, HB⟩⟩ HK
  iapply (wp_load 𝒱₀ (c : Thread nD τ) none Set.univ (m := M4) (r := (rRW d (slot (k + 7))).toLoadRect) (setOn_whole _ _).le) $$ HS
  iintro HS
  iapply (wp_load 𝒱₀ (c : Thread nD τ) none Set.univ (m := M7) (r := rB.toLoadRect) (Finset.subset_univ _)) $$ HB
  iintro HB
  iapply (wp_store 𝒱₀ (c : Thread nD τ) none Set.univ (m := M7) (r := rB) (Mk := Finset.univ) (Finset.subset_univ _)) $$ HB
  iintro HB
  rw [wp_ret]; imodintro; iapply HK
  rw [show (M7.access rB).write (Elt F) f (k0_pay37 (M4.view.readAt (Elt F) (rRW d (slot (k + 7))).toLoadRect (RC m (k + 7) c))) Finset.univ = OB m c d (k + 1) from
    Memref.write_access_unit_zero_univ (Elt F) cc0_scratch4 hz _ f _]
  isplitl [HS]; · iexact HS
  iexact HB

end Cert.Proof

end
-- ==== Proof.Sync.lean ====
/-
  What the barrier, the waits for credit, and the copies of the result need and leave.
-/
module

public import proofs.«01_k».proof.Proof.Work

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

/-! ## The barrier -/

theorem barSig_tri (c n e : Dev nD) (b : ℕ) (hb : b < 2) (hn : n = e) {O₁ O : CellTallies nD τ sig ℕ} (hO : O₁ = O + tallyAt (cell e kB) 0 1) :
    Tri c iprop(recs m κ ν ∗ own c O₁ ∗ dutyTok ER (cell e kB) 0 b ∗ barP e (oD b)) (semSignalWord n qB 1#32) (own c O) := fun Q => by
  subst hn
  unfold semSignalWord own
  rw [toInt_1]
  iintro ⟨#HR, ⟨%W, HO⟩, HT, HP⟩ HK
  iapply (Rounds.wp_signal 𝒱₀ ER (Rd m) (c : Thread nD τ) none (dst := (n : Thread nD τ)) (κ := κ (n, kB)) (r := 0) (d := b)
    (show b ∈ (Rd m).duties (cell n kB) 0 by rw [duties_cell]; exact Finset.mem_range.mpr hb) (amount_cell m n kB 0 b) 0 O hO) $$ [HO HT HP]
  · isplitr; · iapply (recs_cell m κ ν n kB); iexact HR
    isplitl [HO]; · iexact HO
    isplitl [HT]; · iexact HT
    isplitl [HP]
    · rw [show (Rd m).payload ((n : Thread nD τ), .reg qB) 0 b = payK m n kB 0 b from payload_cell m n kB 0 b]
      dsimp only [payK]; iexact HP
    iapply (recs_reached m κ ν n kB); iexact HR
  iintro HO
  rw [wp_ret]; imodintro; iapply HK
  iexists W; iexact HO

theorem rest_bar (c : Dev nD) :
    bigSep ((Rd (F := F) m).duties (cell c kB) 0 \ ∅) (fun d => (Rd (F := F) m).payload (cell c kB) 0 d) = iprop(barP c 0 ∗ barP c 1) := by
  rw [Finset.sdiff_empty, duties_cell, bigSep_congr fun d _ => payload_cell m c kB 0 d]
  show bigSep (Finset.range 2) _ = _
  rw [Finset.range_add_one, bigSep_insert Finset.notMem_range_self, Finset.range_one, bigSep_singleton]
  exact BI.equiv_iff.mp (And.intro BI.sep_comm BI.sep_comm)

theorem barWait_tri (c : Dev nD) {O : CellTallies nD τ sig ℕ} (hO : Above 1 O) :
    Tri c iprop(recs m κ ν ∗ cred (tallyAt (cell c kB) 0 2) ∗ own c O ∗ atPos ER (cell c kB) 0 ∅ 0) (semWaitWord qB 2#32)
      iprop(own c O ∗ atPos ER (cell c kB) 1 ∅ 0 ∗ barP c 0 ∗ barP c 1) := fun Q => by
  unfold semWaitWord own
  rw [toInt_2]
  iintro ⟨#HR, HC, ⟨%W, HO⟩, HA⟩ HK
  iapply (Rounds.wp_wait_rest_token 𝒱₀ ER (Rd m) (c : Thread nD τ) none (κ := κ (c, kB)) (sm := semOf kB) (k' := 2)
    (wpE_semWait_eq 𝒱₀ (c : Thread nD τ) none Set.univ) (Set.mem_univ _) 0
    (O := O) (W := W) (R := 0) (m := 0) (T := ∅) (by rw [Nat.zero_add]; exact (expect_cell m c kB 0).symm)) $$ [HC HO HA]
  · isplitr; · iapply (recs_cell m κ ν c kB); iexact HR
    isplitl [HC]; · iexact HC
    isplitl [HO]; · iexact HO
    isplitr; · iapply (mayWait_cell c kB (by decide) hO); iapply (recs_lev m κ ν); iexact HR
    iexact HA
  iintro ⟨HO, HA, -, HP⟩
  ihave HP := (Entails.of_eq (rest_bar m c)) $$ HP
  rw [wp_ret]; imodintro; iapply HK
  isplitl [HO]; · iexists _; iexact HO
  isplitl [HA]; · iexact HA
  iexact HP

/-! ## Waits for credit -/

/-- `n` credits have been used; what came with them says at least that many halves are free. -/
def credSt (c : Dev nD) (d : Fin 2) (n : ℕ) : sProp 𝕄 :=
  iprop(∃ T : Finset ℕ, ⌜T ⊆ Finset.range 24 ∧ n + (Finset.range 24 \ T).card ≤ 24⌝ ∗ atPos ER (cell c (kC d)) 0 T n ∗ bigSep T (crdP c d))
def credTok (c : Dev nD) (d : Fin 2) (n : ℕ) : sProp 𝕄 := cred (tallyAt (cell c (kC d)) (n / 2) 1)

theorem exists_ge {S : Finset ℕ} {n : ℕ} (h : S ⊆ Finset.range 24) (hn : n + 1 + (Finset.range 24 \ S).card ≤ 24) : ∃ j ∈ S, n ≤ j := by
  by_contra hc
  push Not at hc
  have h1 : S.card ≤ n := by
    have := Finset.card_le_card (show S ⊆ Finset.range n from fun j hj => Finset.mem_range.mpr (hc j hj))
    rwa [Finset.card_range] at this
  have h2 := Finset.card_sdiff_add_card_eq_card h
  rw [Finset.card_range] at h2
  omega

theorem crdP_ready (c : Dev nD) (d : Fin 2) {n j : ℕ} (h : n ≤ j) : crdP (F := F) c d j ⊢ ready (dst d c) d (n + 4) := by
  unfold crdP
  exact BI.bigSep_elim (Φ := fun j => ready (F := F) (dst d c) d (j + 4)) (Finset.mem_range.mpr (by omega))

theorem credWait_tri (c : Dev nD) (d : Fin 2) (n : ℕ) (hn : n < 24) {O : CellTallies nD τ sig ℕ} (hO : Above (2 * (n / 2) + 3) O) :
    Tri c iprop(recs m κ ν ∗ credSt c d n ∗ credTok c d n ∗ own c O) (semWaitWord (qC d) 1#32)
      iprop(credSt c d (n + 1) ∗ own c O ∗ ready (dst d c) d (n + 4)) := fun Q => by
  unfold semWaitWord own credSt credTok
  rw [toInt_1]
  iintro ⟨#HR, ⟨%T, %hT, HA, #HP⟩, HC, ⟨%W, HO⟩⟩ HK
  iapply (Rounds.wp_wait 𝒱₀ ER (Rd m) (c : Thread nD τ) none (κ := κ (c, kC d)) (sm := semOf (kC d)) (k' := 1)
    (wpE_semWait_eq 𝒱₀ (c : Thread nD τ) none Set.univ) (Set.mem_univ _) (cr := Finsupp.single (n / 2) 1) (O := O) (W := W) {(semOf (kC d), n / 2)} (R := 0) (m := n) (T := T)
    (by rw [Util.total_single]) (image_single_subset (semOf (kC d)) (n / 2) 1)) $$ [HC HO HA]
  · isplitr; · iapply (recs_cell m κ ν c (kC d)); iexact HR
    isplitl [HC]; · iexact HC
    isplitl [HO]; · iexact HO
    isplitr; · iapply (mayWait_cell c (kC d) (i := n / 2) (by omega) hO); iapply (recs_lev m κ ν); iexact HR
    iexact HA
  iintro %S ⟨%hS, HO, HA, HP'⟩
  obtain ⟨h1, h2, h3⟩ := hS
  rw [show (Rd m).duties ((c : Thread nD τ), semOf (kC d)) 0 = Finset.range 24 from duties_cell m c (kC d) 0] at h2 h3
  rw [show (Rd m).expect ((c : Thread nD τ), semOf (kC d)) 0 = 24 from expect_cell m c (kC d) 0] at h3
  ihave #HQ := (Entails.of_eq (show bigSep (S \ T) (fun i => (Rd m).payload ((c : Thread nD τ), semOf (kC d)) 0 i) = bigSep (S \ T) (crdP c d) from
    bigSep_congr fun i _ => payload_cell m c (kC d) 0 i)) $$ HP'
  have hu : iprop(bigSep T (crdP c d) ∗ bigSep (S \ T) (crdP c d)) ⊢ (bigSep S (crdP (F := F) c d) : sProp 𝕄) := Entails.of_eq (bigSep_sdiff_split h1).symm
  ihave #HS := hu $$ []
  · isplitr; · iexact HP
    iexact HQ
  obtain ⟨j, hj, hnj⟩ := exists_ge h2 h3
  have hr : (bigSep S (crdP (F := F) c d) : sProp 𝕄) ⊢ ready (dst d c) d (n + 4) := (BI.bigSep_elim hj).trans (crdP_ready c d hnj)
  rw [wp_ret]; imodintro; iapply HK
  isplitl [HA]
  · iexists S
    isplitr; · ipureintro; exact ⟨h2, h3⟩
    isplitl [HA]; · iexact HA
    iexact HS
  isplitl [HO]; · iexists _; iexact HO
  iapply hr; iexact HS

/-! ## The result -/

/-- The first `n` pieces of the result are in place. -/
def outDone (c : Dev nD) (n : ℕ) (f : C2 (F := F)) : Prop := ∀ n' < n, ∀ i ∈ (mO c n').view.set, f i = outC m c i
def outFree (c : Dev nD) (n : ℕ) : sProp 𝕄 :=
  iprop(∃ f : C2 (F := F), ⌜outDone m c n f⌝ ∗ M2.view.loc (c : Thread nD τ) ↦[Finset.univ]{fullShare} f)
/-- Piece `n` is on its way. -/
def outBusy (c : Dev nD) (n : ℕ) : sProp 𝕄 :=
  iprop(cred (tallyAt (cell c kO) 0 NO) ∗ ∃ f : C2 (F := F), ⌜outDone m c n f⌝ ∗ M2.view.loc (c : Thread nD τ) ↦[Finset.univ \ (mO c n).view.set]{fullShare} f)

theorem ooff_n (c : Dev nD) (n : ℕ) : ooff c (oD n) (oK n) = ![1024 * (mv (oD n) ((oK n).val + 7) c).val, 2048 * (oD n).val] := ooff_eq c (oD n) (oK n)

theorem land_piece (c : Dev nD) (n : ℕ) (hn : n < 16) (fd : C2 (F := F)) (i : S8192x4096.Idx) (hi : i ∈ (mO c n).view.set) :
    (mO c n).view.write (Elt F) fd (M7.view.read (Elt F) (OB m c (oD n) (n / 2))) Finset.univ i = outC m c i := by
  refine (land_out _ _ (mv (oD n) ((oK n).val + 7) c).val (oD n).val (ooff_n c n) fd _ i hi).trans ?_
  obtain ⟨h0, h1⟩ := (mem_rOut c (oD n) (oK n) (ooff_inb c (oD n) (oK n)) i).mp (by rw [← set_mOut]; exact hi)
  unfold outC
  have hd : (⟨(i 1).val / 2048, by have h : (i 1).val < 4096 := (i 1).isLt; omega⟩ : Fin 2) = oD n := Fin.ext h1
  rw [hd, h0, kOf_mv, show (oK n).val = n / 2 from Nat.mod_eq_of_lt (by omega)]

theorem outStart_tri (c : Dev nD) (n : ℕ) (hn : n < 16) (d : Fin 2) (k : Fin 8) (hd : d = oD n) (hk : k = oK n) :
    Tri c iprop(recs m κ ν ∗ b7 c (OB m c d k.val) ∗ outFree m c n ∗ dutyTok ER (cell c kO) n 0 ∗ pos c kO n)
      (outStart (ooff c d k) (ooff_inb c d k) (ooff_words c d k)) iprop(outBusy m c n ∗ pos c kO n) := fun Q => by
  subst hd hk
  rw [show (oK n).val = n / 2 from Nat.mod_eq_of_lt (by omega)]
  unfold outStart outFree outBusy pos
  simp only [Prog.lift]
  iintro ⟨#HR, HB, ⟨%f, %hf, HM⟩, HT, ⟨HA, #Hr⟩⟩ HK
  icases (pointsTo_split_subset (ℓ := M2.view.loc (c : Thread nD τ)) (I := (mO c n).view.set) (Finset.subset_univ _)).1 $$ HM with ⟨HM, HM'⟩
  iapply (Rounds.wp_copy_pointsTo 𝒱₀ ER (Rd m) (c : Thread nD τ) none (κ := κ (c, kO)) (q := fullShare) (fs := OB m c (oD n) (n / 2)) (fd := f) (r := n) (d := 0)
    (mem_duty m c kO n (dutO hn)) 0 NO (credit_mOut _ _) (amount_cell m c kO n 0) (by
      rw [payload_cell]
      dsimp only [payK]
      unfold b7 oPc
      refine sep_comm.1.trans (sep_mono_right (Entails.of_eq ?_))
      exact pointsTo_congr fun i hi => land_piece m c n hn f i hi)) $$ [HB HM HT]
  · isplitr; · iapply (recs_cell m κ ν c kO); iexact HR
    unfold b7
    isplitl [HB]; · iexact HB
    isplitl [HM]; · iexact HM
    isplitl [HT]; · iexact HT
    iexact Hr
  iintro HC
  rw [wp_ret]; imodintro; iapply HK
  isplitl [HC HM']
  · isplitl [HC]; · iexact HC
    iexists f
    isplitr; · ipureintro; exact hf
    iexact HM'
  isplitl [HA]; · iexact HA
  iexact Hr

theorem outWait_tri (c : Dev nD) (n : ℕ) (hn : n < 16) (d : Fin 2) (k : Fin 8) (hd : d = oD n) (hk : k = oK n) {O : CellTallies nD τ sig ℕ} (hO : Above 0 O) :
    Tri c iprop(recs m κ ν ∗ outBusy m c n ∗ own c O ∗ pos c kO n)
      (outWait (ooff c d k) (ooff_inb c d k) (ooff_words c d k)) iprop(own c O ∗ pos c kO (n + 1) ∗ (∃ f, b7 c f) ∗ outFree m c (n + 1)) := fun Q => by
  subst hd hk
  unfold outWait outFree outBusy
  iintro ⟨#HR, ⟨HC, ⟨%f, %hf, HM⟩⟩, HO, HA⟩ HK
  iapply (wait_tri m κ ν c kO n 0 (dutO hn) (by decide) (O := O) hO
    (w := .waitDma2 qO M7 (mO c n) (Memref.isWhole_whole cc0_scratch4).wordExact ((Memref.isWhole_whole main_v1).wordExact_slice rfl _ (ooff_words c (oD n) (oK n))))
    (by rw [show amtK kO = (mO c n).view.dmaCredit from (credit_mOut _ _).symm]; exact wpE_waitDma2_eq 𝒱₀ (c : Thread nD τ) none Set.univ) Q) $$ [HC HO HA]
  · isplitr; · iexact HR
    isplitl [HC]; · iexact HC
    isplitl [HO]; · iexact HO
    iexact HA
  iintro ⟨HO, HA, HP⟩
  iapply HK
  dsimp only [payK]
  icases HP with ⟨HB, HP⟩
  isplitl [HO]; · iexact HO
  isplitl [HA]; · iexact HA
  isplitl [HB]; · iexists _; iexact HB
  unfold oPc
  iexists (mO c n).view.set.piecewise (outC m c) f
  isplitr
  · ipureintro
    intro n' hn' i hi
    by_cases h : i ∈ (mO c n).view.set
    · exact Finset.piecewise_eq_of_mem _ _ _ h
    · refine (Finset.piecewise_eq_of_notMem _ _ _ h).trans (hf n' ?_ i hi)
      rcases Nat.lt_succ_iff_lt_or_eq.mp hn' with h' | h'
      · exact h'
      · subst h'; exact absurd hi h
  iapply (pointsTo_join_subset (ℓ := M2.view.loc (c : Thread nD τ)) (I := (mO c n).view.set) (Finset.subset_univ _))
  isplitl [HP]; · iexact HP
  iexact HM

end Cert.Proof

end
-- ==== Proof.Chan.lean ====
/-
  A half of a hop: what it needs of the two channels, and what it leaves.
-/
module

public import proofs.«01_k».proof.Proof.Sync

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

theorem Tri.conseq {c : Dev nD} {P P' R R' : sProp 𝕄} {p : TProg F PUnit} (h : Tri c P p R) (h1 : P' ⊢ P) (h2 : R ⊢ R') : Tri c P' p R' := fun Q => by
  iintro HP HK
  iapply (h Q) $$ [HP]
  · iapply h1 $$ HP
  iintro HR
  iapply HK
  iapply h2 $$ HR

/-! ## The state of a channel

Along one direction, `w` events have arrived, `p` have been sent and `q` halves have been given back. -/

def chW (c : Dev nD) (d : Fin 2) (w : ℕ) : sProp 𝕄 :=
  iprop(Win (posS c d) w (w + 4) ∗ Win (posR c d) w (w + 4) ∗ Win (recvTok c d) w 28)
def chS (c : Dev nD) (d : Fin 2) (w p : ℕ) : sProp 𝕄 :=
  iprop(Win (sendOut m c d) w p ∗ Win (sendTok c d) p 28 ∗ credSt c d (p - 4) ∗ Win (credTok c d) (p - 4) 24)
def chG (c : Dev nD) (d : Fin 2) (q : ℕ) : sProp 𝕄 :=
  iprop(Win (readerTok c d) q (q + 4) ∗ Win (grantTok c d) q 24 ∗ given c d q)
def Chan (c : Dev nD) (d : Fin 2) (w p q : ℕ) : sProp 𝕄 :=
  iprop(chW c d w ∗ chS m c d w p ∗ chG c d q ∗ Win (got m c d) q w)
/-- Both channels, and what the device owes. -/
def Net (c : Dev nD) (w p q : ℕ) : sProp 𝕄 := iprop(own c (Ow c p p q q) ∗ Chan m c 0 w p q ∗ Chan m c 1 w p q)

/-- What holds throughout, once the neighbours have been heard of. -/
def ctx (c : Dev nD) : sProp 𝕄 := iprop(recs m κ ν ∗ barP c 0 ∗ barP c 1)
instance ctx_persistent (c : Dev nD) : BI.Persistent (ctx (F := F) m κ ν c) := by unfold ctx; infer_instance

theorem barP_ready (c : Dev nD) (d : Fin 2) {i : ℕ} (h : i < 4) : barP (F := F) c d ⊢ ready (dst d c) d i := by
  unfold barP
  exact BI.bigSep_elim (Φ := ready (F := F) (dst d c) d) (Finset.mem_range.mpr h)
theorem ctx_bar (c : Dev nD) (d : Fin 2) : ctx (F := F) m κ ν c ⊢ barP c d := by
  unfold ctx
  match d with
  | ⟨0, _⟩ => iintro ⟨-, H, -⟩; iexact H
  | ⟨1, _⟩ => iintro ⟨-, -, H⟩; iexact H
theorem ctx_recs (c : Dev nD) : ctx (F := F) m κ ν c ⊢ recs m κ ν := by
  unfold ctx; iintro ⟨H, -, -⟩; iexact H

/-- The round an event's cell is in has been reached. -/
theorem win_reached (c : Dev nD) (d : Fin 2) {a b i : ℕ} (h : a ≤ i) (h' : i < b) :
    Win (F := F) (posS c d) a b ⊢ iprop(Win (posS c d) a b ∗ reached ER (cell c (kS d (eS i) (eH i))) (i / 4)) := by
  have e : Win (F := F) (posS c d) a b = iprop(posS c d i ∗ bigSep ((Finset.Ico a b).erase i) (posS c d)) :=
    bigSep_erase (Finset.mem_Ico.mpr ⟨h, h'⟩)
  rw [e]
  unfold posS pos
  iintro ⟨⟨HA, #Hr⟩, HW⟩
  isplitl [HA HW]
  · isplitl [HA]
    · isplitl [HA]; · iexact HA
      iexact Hr
    iexact HW
  iexact Hr

theorem arrive_tri (c : Dev nD) (d : Fin 2) (i p : ℕ) (hi : i < 28) (hp : i < p) (sl s : Fin 2) (hsl : sl = eS i) (hs : s = eH i)
    {O : CellTallies nD τ sig ℕ} (hO : Above (2 * (i / 2) + 2) O) :
    Tri c iprop(recs m κ ν ∗ own c O ∗ chW c d i ∗ Win (sendOut m c d) i p)
      (waitSub d sl s) iprop(own c O ∗ chW c d (i + 1) ∗ Win (sendOut m c d) (i + 1) p ∗ sPc c d (eH i) fullShare (SC m (i / 2) c) ∗ got m c d i) := fun Q => by
  unfold chW
  rw [win_pop (posS c d) (show i < i + 4 by omega), win_pop (posR c d) (show i < i + 4 by omega), win_pop (recvTok c d) hi, win_pop (sendOut m c d) hp,
    show i + 1 + 4 = i + 4 + 1 by omega, win_push (posS c d) (show i + 1 ≤ i + 4 by omega), win_push (posR c d) (show i + 1 ≤ i + 4 by omega)]
  iintro ⟨#HR, HO, ⟨⟨HA, HA'⟩, ⟨HB, HB'⟩, ⟨HC, HC'⟩⟩, ⟨HS, HS'⟩⟩ HK
  iapply (waitSub_tri m κ ν c d i hi sl s hsl hs hO Q) $$ [HO HA HB HC HS]
  · isplitr; · iexact HR
    isplitl [HC]; · iexact HC
    isplitl [HS]; · iexact HS
    isplitl [HO]; · iexact HO
    isplitl [HA]; · iexact HA
    iexact HB
  iintro ⟨HO, HA, HB, HS, HG⟩
  iapply HK
  isplitl [HO]; · iexact HO
  isplitl [HA HA' HB HB' HC']
  · isplitl [HA HA']
    · isplitl [HA]; · iexact HA
      iexact HA'
    isplitl [HB HB']
    · isplitl [HB]; · iexact HB
      iexact HB'
    iexact HC'
  isplitl [HS']; · iexact HS'
  isplitl [HS]; · iexact HS
  iexact HG

/-- A send whose half is known to be free. -/
theorem send_ready (c n : Dev nD) (d : Fin 2) (w p : ℕ) (hp : p < 28) (hwp : w ≤ p) (hw : p < w + 4) (hn : n = dst d c) (sl s : Fin 2) (hsl : sl = eS p) (hs : s = eH p)
    {O₁ O : CellTallies nD τ sig ℕ} (hO : O₁ = O + tallyAt (cell (dst d c) (kR d (eS p) (eH p))) (p / 2) N) :
    Tri c iprop(recs m κ ν ∗ ready (dst d c) d p ∗ own c O₁ ∗ Win (posS c d) w (w + 4) ∗ Win (sendOut m c d) w p ∗ Win (sendTok c d) p 28 ∗ sPc c d s fullShare (SC m (p / 2) c))
      (sendSub n d sl s) iprop(own c O ∗ Win (posS c d) w (w + 4) ∗ Win (sendOut m c d) w (p + 1) ∗ Win (sendTok c d) (p + 1) 28) := fun Q => by
  rw [win_pop (sendTok c d) hp, win_push (sendOut m c d) hwp]
  iintro ⟨#HR, #Hy, HO, HW, HS', ⟨HT, HT'⟩, HS⟩ HK
  icases (win_reached c d hwp hw) $$ HW with ⟨HW, #Hr⟩
  iapply (send_tri m κ ν c n d p hp hn sl s hsl hs hO Q) $$ [HO HS HT]
  · isplitr; · iexact HR
    isplitl [HS]; · iexact HS
    isplitl [HO]; · iexact HO
    isplitl [HT]; · iexact HT
    isplitr; · iexact Hr
    iexact Hy
  iintro ⟨HO, HS⟩
  iapply HK
  isplitl [HO]; · iexact HO
  isplitl [HW]; · iexact HW
  isplitl [HS HS']
  · isplitl [HS]; · iexact HS
    iexact HS'
  iexact HT'

theorem sendNext_tri (c : Dev nD) (d s : Fin 2) (h i : ℕ) (hi : i = 2 * h + s.val) (hh : h < 13)
    {O₁ O : CellTallies nD τ sig ℕ} (hO : O₁ = O + tallyAt (cell (dst d c) (kR d (eS (i + 2)) (eH (i + 2)))) ((i + 2) / 2) N)
    (hA : 1 ≤ h → Above (2 * ((i + 2 - 4) / 2) + 3) O₁) :
    Tri c iprop(ctx m κ ν c ∗ own c O₁ ∗ Win (posS c d) (i + 1) (i + 1 + 4) ∗ chS m c d (i + 1) (i + 2) ∗ sPc c d s fullShare (SC m (h + 1) c))
      (sendNext c h d s) iprop(own c O ∗ Win (posS c d) (i + 1) (i + 1 + 4) ∗ chS m c d (i + 1) (i + 3)) := fun Q => by
  have hs := s.isLt
  have hslot : slot (h + 1) = eS (i + 2) := by apply Fin.ext; simp only [slot]; omega
  have hhalf : s = eH (i + 2) := by apply Fin.ext; show s.val = (i + 2) % 2; omega
  have hn : devAt c (devNo h s + d.val) = dst d c := dev_send c ⟨h, hh⟩ d s
  have hS := send_ready m κ ν c _ d (i + 1) (i + 2) (by omega) (by omega) (by omega) hn (slot (h + 1)) s hslot hhalf hO
  rw [show (i + 2) / 2 = h + 1 by omega] at hS
  unfold sendNext chS
  by_cases h1 : 1 ≤ h
  · have hC := credWait_tri m κ ν c d (i + 2 - 4) (by omega) (hA h1)
    rw [show i + 2 - 4 + 4 = i + 2 by omega, show i + 2 - 4 + 1 = i + 3 - 4 by omega] at hC
    rw [if_pos h1, win_pop (credTok c d) (show i + 2 - 4 < 24 by omega), show i + 2 - 4 + 1 = i + 3 - 4 by omega]
    iintro ⟨#HX, HO, HW, ⟨HS', HT, HC, ⟨HD, HD'⟩⟩, HS⟩ HK
    iapply (Tri.seq hC) $$ [HC HD HO]
    · isplitr; · iapply (ctx_recs m κ ν c); iexact HX
      isplitl [HC]; · iexact HC
      isplitl [HD]; · iexact HD
      iexact HO
    iintro ⟨HC, HO, #Hy⟩
    iapply (hS Q) $$ [HO HW HS' HT HS]
    · isplitr; · iapply (ctx_recs m κ ν c); iexact HX
      isplitr; · iexact Hy
      isplitl [HO]; · iexact HO
      isplitl [HW]; · iexact HW
      isplitl [HS']; · iexact HS'
      isplitl [HT]; · iexact HT
      iexact HS
    iintro ⟨HO, HW, HS', HT⟩
    iapply HK
    isplitl [HO]; · iexact HO
    isplitl [HW]; · iexact HW
    isplitl [HS']; · iexact HS'
    isplitl [HT]; · iexact HT
    isplitl [HC]; · iexact HC
    iexact HD'
  · rw [if_neg h1, show i + 3 - 4 = i + 2 - 4 by omega]
    iintro ⟨#HX, HO, HW, ⟨HS', HT, HC, HD⟩, HS⟩ HK
    iapply (Tri.seq (Tri.pure (P := own c O₁))) $$ HO
    iintro HO
    iapply (hS Q) $$ [HO HW HS' HT HS]
    · isplitr; · iapply (ctx_recs m κ ν c); iexact HX
      isplitr; · iapply (barP_ready c d (show i + 2 < 4 by omega)); iapply (ctx_bar m κ ν c d); iexact HX
      isplitl [HO]; · iexact HO
      isplitl [HW]; · iexact HW
      isplitl [HS']; · iexact HS'
      isplitl [HT]; · iexact HT
      iexact HS
    iintro ⟨HO, HW, HS', HT⟩
    iapply HK
    isplitl [HO]; · iexact HO
    isplitl [HW]; · iexact HW
    isplitl [HS']; · iexact HS'
    isplitl [HT]; · iexact HT
    isplitl [HC]; · iexact HC
    iexact HD

/-- A half is given back as soon as it has been read. -/
theorem grantNext_tri (c n : Dev nD) (d : Fin 2) (i : ℕ) (hi : i < 24) (hn : n = up d c) {O₁ O : CellTallies nD τ sig ℕ}
    (hO : O₁ = O + tallyAt (cell (up d c) (kC d)) (i / 2) 1) :
    Tri c iprop(recs m κ ν ∗ own c O₁ ∗ Win (posR c d) (i + 1) (i + 1 + 4) ∗ chG c d i ∗ got m c d i) (semSignalWord n (qC d) 1#32)
      iprop(own c O ∗ Win (posR c d) (i + 1) (i + 1 + 4) ∗ chG c d (i + 1)) := fun Q => by
  unfold chG
  rw [show i + 1 + 4 = i + 4 + 1 by omega, win_push (posR c d) (show i + 1 ≤ i + 4 by omega), win_pop (readerTok c d) (show i < i + 4 by omega),
    win_pop (grantTok c d) hi, win_push (readerTok c d) (show i + 1 ≤ i + 4 by omega)]
  iintro ⟨#HR, HO, ⟨HB, HB'⟩, ⟨⟨HA, HA'⟩, ⟨HT, HT'⟩, HG⟩, HX⟩ HK
  iapply (grant_tri m κ ν c n d i hi hn hO Q) $$ [HO HB HA HT HG HX]
  · isplitr; · iexact HR
    isplitl [HO]; · iexact HO
    isplitl [HT]; · iexact HT
    isplitl [HA]; · iexact HA
    isplitl [HX]; · iexact HX
    isplitl [HB]; · iexact HB
    iexact HG
  iintro ⟨HO, HA, HB, HG⟩
  iapply HK
  isplitl [HO]; · iexact HO
  isplitl [HB HB']
  · isplitl [HB]; · iexact HB
    iexact HB'
  isplitl [HA HA']
  · isplitl [HA]; · iexact HA
    iexact HA'
  isplitl [HT']; · iexact HT'
  iexact HG

end Cert.Proof

end
-- ==== Proof.Halves.lean ====
/-
  The halves of a hop over both channels.
-/
module

public import proofs.«01_k».proof.Proof.Chan

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

section Owed
variable (c : Dev nD) {p p0 p1 q q0 q1 : ℕ}
theorem Ow_s0 (h : p < 28) : Ow c p p1 q0 q1 = Ow c (p + 1) p1 q0 q1 + tallyAt (cell (dst 0 c) (kR 0 (eS p) (eH p))) (p / 2) N := by
  unfold Ow; rw [owS_pop c 0 h]; ac_rfl
theorem Ow_s1 (h : p < 28) : Ow c p0 p q0 q1 = Ow c p0 (p + 1) q0 q1 + tallyAt (cell (dst 1 c) (kR 1 (eS p) (eH p))) (p / 2) N := by
  unfold Ow; rw [owS_pop c 1 h]; ac_rfl
theorem Ow_c0 (h : q < 24) : Ow c p0 p1 q q1 = Ow c p0 p1 (q + 1) q1 + tallyAt (cell (up 0 c) (kC 0)) (q / 2) 1 := by
  unfold Ow; rw [owC_pop c 0 h]; ac_rfl
theorem Ow_c1 (h : q < 24) : Ow c p0 p1 q0 q = Ow c p0 p1 q0 (q + 1) + tallyAt (cell (up 1 c) (kC 1)) (q / 2) 1 := by
  unfold Ow; rw [owC_pop c 1 h]; ac_rfl
theorem above_owC' (d : Fin 2) {b : ℕ} (h : q < 24 → b < 2 * (q / 2) + 3) : Above b (owC c d q) := by
  by_cases hq : q < 24
  · exact above_owC c d (h hq)
  · unfold owC; rw [Finset.Ico_eq_empty (by omega), Finset.sum_empty]; exact Above.zero b
theorem above_Ow' {b : ℕ} (h0 : b < 2 * (p0 / 2) + 2) (h1 : b < 2 * (p1 / 2) + 2) (h2 : q0 < 24 → b < 2 * (q0 / 2) + 3) (h3 : q1 < 24 → b < 2 * (q1 / 2) + 3) :
    Above b (Ow c p0 p1 q0 q1) :=
  ((above_owS c 0 h0).add (above_owS c 1 h1)).add ((above_owC' c 0 h2).add (above_owC' c 1 h3))
end Owed

/-- Both arrivals of an event. -/
theorem arrive2_tri (c : Dev nD) (i p q : ℕ) (hi : i < 28) (hp : i < p) (hq : q < 24 → i / 2 ≤ q / 2) (hp' : i / 2 < p / 2) (sl s : Fin 2) (hsl : sl = eS i) (hs : s = eH i)
    {A : Type} {k : PUnit → TProg F A} {Q : A → sProp 𝕄} :
    iprop(recs m κ ν ∗ own c (Ow c p p q q) ∗ (chW c 0 i ∗ Win (sendOut m c 0) i p) ∗ (chW c 1 i ∗ Win (sendOut m c 1) i p)) ⊢
      iprop((own c (Ow c p p q q) ∗ (chW c 0 (i + 1) ∗ Win (sendOut m c 0) (i + 1) p) ∗ (chW c 1 (i + 1) ∗ Win (sendOut m c 1) (i + 1) p)
          ∗ (sPc c 0 (eH i) fullShare (SC m (i / 2) c) ∗ sPc c 1 (eH i) fullShare (SC m (i / 2) c)) ∗ (got m c 0 i ∗ got m c 1 i) -∗ WP c (k ⟨⟩) Q)
        -∗ WP c (waitSub 0 sl s >>= fun _ => waitSub 1 sl s >>= k) Q) := by
  have hO : Above (2 * (i / 2) + 2) (Ow c p p q q) := above_Ow' c (by omega) (by omega) (fun h => by have := hq h; omega) (fun h => by have := hq h; omega)
  iintro ⟨#HR, HO, ⟨HW, HS⟩, ⟨HW', HS'⟩⟩ HK
  iapply (Tri.seq (arrive_tri m κ ν c 0 i p hi hp sl s hsl hs hO)) $$ [HO HW HS]
  · isplitr; · iexact HR
    isplitl [HO]; · iexact HO
    isplitl [HW]; · iexact HW
    iexact HS
  iintro ⟨HO, HW, HS, HP, HG⟩
  iapply (Tri.seq (arrive_tri m κ ν c 1 i p hi hp sl s hsl hs hO)) $$ [HO HW' HS']
  · isplitr; · iexact HR
    isplitl [HO]; · iexact HO
    isplitl [HW']; · iexact HW'
    iexact HS'
  iintro ⟨HO, HW', HS', HP', HG'⟩
  iapply HK
  isplitl [HO]; · iexact HO
  isplitl [HW HS]
  · isplitl [HW]; · iexact HW
    iexact HS
  isplitl [HW' HS']
  · isplitl [HW']; · iexact HW'
    iexact HS'
  isplitl [HP HP']
  · isplitl [HP]; · iexact HP
    iexact HP'
  isplitl [HG]; · iexact HG
  iexact HG'

/-- Both sends of the next event. -/
theorem sendNext2_tri (c : Dev nD) (s : Fin 2) (h i q : ℕ) (hi : i = 2 * h + s.val) (hh : h < 13) (hq : q < 24 → h ≤ q / 2) :
    Tri c iprop(ctx m κ ν c ∗ own c (Ow c (i + 2) (i + 2) q q) ∗ (chW c 0 (i + 1) ∗ chS m c 0 (i + 1) (i + 2)) ∗ (chW c 1 (i + 1) ∗ chS m c 1 (i + 1) (i + 2))
        ∗ (sPc c 0 s fullShare (SC m (h + 1) c) ∗ sPc c 1 s fullShare (SC m (h + 1) c)))
      (do sendNext c h 0 s; sendNext c h 1 s)
      iprop(own c (Ow c (i + 3) (i + 3) q q) ∗ (chW c 0 (i + 1) ∗ chS m c 0 (i + 1) (i + 3)) ∗ (chW c 1 (i + 1) ∗ chS m c 1 (i + 1) (i + 3))) := fun Q => by
  have hs := s.isLt
  unfold chW
  iintro ⟨#HX, HO, ⟨⟨HA, HB⟩, HS⟩, ⟨⟨HA', HB'⟩, HS'⟩, ⟨HP, HP'⟩⟩ HK
  iapply (Tri.seq (sendNext_tri m κ ν c 0 s h i hi hh (O₁ := Ow c (i + 2) (i + 2) q q) (Ow_s0 c (by omega)) fun h1 => above_Ow' c (by omega) (by omega) (fun h' => by have := hq h'; omega) (fun h' => by have := hq h'; omega))) $$ [HO HA HS HP]
  · isplitr; · iexact HX
    isplitl [HO]; · iexact HO
    isplitl [HA]; · iexact HA
    isplitl [HS]; · iexact HS
    iexact HP
  iintro ⟨HO, HA, HS⟩
  iapply (sendNext_tri m κ ν c 1 s h i hi hh (O₁ := Ow c (i + 3) (i + 2) q q) (Ow_s1 c (by omega)) (fun h1 => above_Ow' c (by omega) (by omega) (fun h' => by have := hq h'; omega) (fun h' => by have := hq h'; omega)) Q) $$ [HO HA' HS' HP']
  · isplitr; · iexact HX
    isplitl [HO]; · iexact HO
    isplitl [HA']; · iexact HA'
    isplitl [HS']; · iexact HS'
    iexact HP'
  iintro ⟨HO, HA', HS'⟩
  iapply HK
  isplitl [HO]; · iexact HO
  isplitl [HA HB HS]
  · isplitl [HA HB]
    · isplitl [HA]; · iexact HA
      iexact HB
    iexact HS
  isplitl [HA' HB']
  · isplitl [HA']; · iexact HA'
    iexact HB'
  iexact HS'

theorem half_sum (c : Dev nD) (s : Fin 2) (h i : ℕ) (hi : i = 2 * h + s.val) (hh : h < 7) :
    Tri c iprop(ctx m κ ν c ∗ Net m c i (i + 2) i ∗ lAll c (locC m h c)) (half c h s) iprop(Net m c (i + 1) (i + 3) (i + 1) ∗ lAll c (locC m h c)) := fun Q => by
  have hs := s.isLt
  have hslot : slot h = eS i := by apply Fin.ext; simp only [slot]; omega
  have hhalf : s = eH i := by apply Fin.ext; show s.val = i % 2; omega
  have hacc := acc_tri m c i (by omega) (slot h) s hslot hhalf
  have harr := @arrive2_tri F _ m κ ν c i (i + 2) i (by omega) (by omega) (fun _ => le_rfl) (by omega) (slot h) s hslot hhalf
  rw [show i / 2 = h by omega, ← hhalf] at hacc
  rw [show i / 2 = h by omega, ← hhalf] at harr
  have hg : ∀ d, got m c d i = rPc c d (eS i) s (RC m h c) := fun d => by unfold got; rw [show i / 2 = h by omega, ← hhalf]
  have hd0 : devAt c (devNo h s + 2) = up 0 c := dev_cred c ⟨h, hh⟩ 0 s
  have hd1 : devAt c (devNo h s + 3) = up 1 c := dev_cred c ⟨h, hh⟩ 1 s
  have hin : iprop(got m c 0 i ∗ got m c 1 i) ⊢ rBoth c (eS i) s (RC m h c) := by rw [hg, hg]; exact (rBoth_iff c (eS i) s (RC m h c)).2
  have hout : rBoth c (eS i) s (RC m h c) ⊢ iprop(got m c 0 i ∗ got m c 1 i) := by rw [hg, hg]; exact (rBoth_iff c (eS i) s (RC m h c)).1
  have hsend := sendNext2_tri m κ ν c s h i i hi (by omega) (fun _ => by omega)
  unfold chS at hsend
  unfold half Net Chan chS
  rw [if_pos hh, if_pos (show h < 13 by omega), if_pos hh, win_nil, win_nil, win_nil, win_nil]
  iintro ⟨#HX, ⟨HO, ⟨HW, ⟨HS, HT⟩, HG, -⟩, ⟨HW', ⟨HS', HT'⟩, HG', -⟩⟩, HL⟩ HK
  iapply harr $$ [HO HW HS HW' HS']
  · isplitr; · iapply (ctx_recs m κ ν c); iexact HX
    isplitl [HO]; · iexact HO
    isplitl [HW HS]
    · isplitl [HW]; · iexact HW
      iexact HS
    isplitl [HW']; · iexact HW'
    iexact HS'
  iintro ⟨HO, ⟨HW, HS⟩, ⟨HW', HS'⟩, HP, HR⟩
  ihave HP := (sBoth_iff c s fullShare (SC m h c)).2 $$ HP
  ihave HR := hin $$ HR
  iapply (Tri.seq hacc) $$ [HP HR HL]
  · isplitl [HP]; · iexact HP
    isplitl [HR]; · iexact HR
    iexact HL
  iintro ⟨HP, HR, HL⟩
  ihave HP := (sBoth_iff c s fullShare (SC m (h + 1) c)).1 $$ HP
  ihave HR := hout $$ HR
  icases HR with ⟨HR, HR'⟩
  iapply (Tri.seq hsend) $$ [HO HW HS HT HW' HS' HT' HP]
  · isplitr; · iexact HX
    isplitl [HO]; · iexact HO
    isplitl [HW HS HT]
    · isplitl [HW]; · iexact HW
      isplitl [HS]; · iexact HS
      iexact HT
    isplitl [HW' HS' HT']
    · isplitl [HW']; · iexact HW'
      isplitl [HS']; · iexact HS'
      iexact HT'
    iexact HP
  unfold chW
  iintro ⟨HO, ⟨⟨HA, HB, HC⟩, HS⟩, ⟨⟨HA', HB', HC'⟩, HS'⟩⟩
  iapply (Tri.seq (grantNext_tri m κ ν c _ 0 i (by omega) hd0 (Ow_c0 c (by omega)))) $$ [HO HB HG HR]
  · isplitr; · iapply (ctx_recs m κ ν c); iexact HX
    isplitl [HO]; · iexact HO
    isplitl [HB]; · iexact HB
    isplitl [HG]; · iexact HG
    iexact HR
  iintro ⟨HO, HB, HG⟩
  iapply (grantNext_tri m κ ν c _ 1 i (by omega) hd1 (Ow_c1 c (by omega)) Q) $$ [HO HB' HG' HR']
  · isplitr; · iapply (ctx_recs m κ ν c); iexact HX
    isplitl [HO]; · iexact HO
    isplitl [HB']; · iexact HB'
    isplitl [HG']; · iexact HG'
    iexact HR'
  iintro ⟨HO, HB', HG'⟩
  iapply HK
  isplitr [HL]
  · isplitl [HO]; · iexact HO
    isplitl [HA HB HC HS HG]
    · isplitl [HA HB HC]
      · isplitl [HA]; · iexact HA
        isplitl [HB]; · iexact HB
        iexact HC
      isplitl [HS]; · iexact HS
      isplitl [HG]; · iexact HG
      iempintro
    isplitl [HA' HB' HC']
    · isplitl [HA']; · iexact HA'
      isplitl [HB']; · iexact HB'
      iexact HC'
    isplitl [HS']; · iexact HS'
    isplitl [HG']; · iexact HG'
    iempintro
  iexact HL

theorem half_fwd (c : Dev nD) (s : Fin 2) (h i q : ℕ) (hi : i = 2 * h + s.val) (hh : 7 ≤ h) (hh' : h < 13) (hq : q ≤ i) (hq' : q < 24 → h ≤ q / 2) :
    Tri c iprop(ctx m κ ν c ∗ Net m c i (i + 2) q) (half c h s) (Net m c (i + 1) (i + 3) q) := fun Q => by
  have hs := s.isLt
  have hslot : slot h = eS i := by apply Fin.ext; simp only [slot]; omega
  have hhalf : s = eH i := by apply Fin.ext; show s.val = i % 2; omega
  have hacc := fwd_tri m c i (by omega) (slot h) s hslot hhalf
  have harr := @arrive2_tri F _ m κ ν c i (i + 2) q (by omega) (by omega) (fun h' => by have := hq' h'; omega) (by omega) (slot h) s hslot hhalf
  rw [show i / 2 = h by omega, ← hhalf] at hacc
  rw [show i / 2 = h by omega, ← hhalf] at harr
  have hg : ∀ d, got m c d i = rPc c d (eS i) s (RC m h c) := fun d => by unfold got; rw [show i / 2 = h by omega, ← hhalf]
  have hin : iprop(got m c 0 i ∗ got m c 1 i) ⊢ rBoth c (eS i) s (RC m h c) := by rw [hg, hg]; exact (rBoth_iff c (eS i) s (RC m h c)).2
  have hout : rBoth c (eS i) s (RC m h c) ⊢ iprop(got m c 0 i ∗ got m c 1 i) := by rw [hg, hg]; exact (rBoth_iff c (eS i) s (RC m h c)).1
  have hsend := sendNext2_tri m κ ν c s h i q hi (by omega) hq'
  unfold chS at hsend
  unfold half Net Chan chS
  rw [if_neg (show ¬ h < 7 by omega), if_pos hh', if_pos hh', if_neg (show ¬ h < 7 by omega), win_push (got m c 0) hq, win_push (got m c 1) hq]
  iintro ⟨#HX, ⟨HO, ⟨HW, ⟨HS, HT⟩, HG, HY⟩, ⟨HW', ⟨HS', HT'⟩, HG', HY'⟩⟩⟩ HK
  iapply harr $$ [HO HW HS HW' HS']
  · isplitr; · iapply (ctx_recs m κ ν c); iexact HX
    isplitl [HO]; · iexact HO
    isplitl [HW HS]
    · isplitl [HW]; · iexact HW
      iexact HS
    isplitl [HW']; · iexact HW'
    iexact HS'
  iintro ⟨HO, ⟨HW, HS⟩, ⟨HW', HS'⟩, HP, HR⟩
  ihave HP := (sBoth_iff c s fullShare (SC m h c)).2 $$ HP
  ihave HR := hin $$ HR
  iapply (Tri.seq hacc) $$ [HP HR]
  · isplitl [HP]; · iexact HP
    iexact HR
  iintro ⟨HP, HR⟩
  ihave HP := (sBoth_iff c s fullShare (SC m (h + 1) c)).1 $$ HP
  ihave HR := hout $$ HR
  icases HR with ⟨HR, HR'⟩
  iapply (Tri.seq hsend) $$ [HO HW HS HT HW' HS' HT' HP]
  · isplitr; · iexact HX
    isplitl [HO]; · iexact HO
    isplitl [HW HS HT]
    · isplitl [HW]; · iexact HW
      isplitl [HS]; · iexact HS
      iexact HT
    isplitl [HW' HS' HT']
    · isplitl [HW']; · iexact HW'
      isplitl [HS']; · iexact HS'
      iexact HT'
    iexact HP
  iintro ⟨HO, ⟨HW, HS⟩, ⟨HW', HS'⟩⟩
  iapply (Tri.pure (P := own c (Ow c (i + 3) (i + 3) q q)) Q) $$ HO
  iintro HO
  iapply HK
  isplitl [HO]; · iexact HO
  isplitl [HW HS HG HY HR]
  · isplitl [HW]; · iexact HW
    isplitl [HS]; · iexact HS
    isplitl [HG]; · iexact HG
    isplitl [HR]; · iexact HR
    iexact HY
  isplitl [HW']; · iexact HW'
  isplitl [HS']; · iexact HS'
  isplitl [HG']; · iexact HG'
  isplitl [HR']; · iexact HR'
  iexact HY'

/-- The last two halves are not sent on. -/
theorem half_last (c : Dev nD) (s : Fin 2) (i : ℕ) (hi : i = 26 + s.val) :
    Tri c iprop(ctx m κ ν c ∗ Net m c i 28 24) (half c 13 s)
      iprop(Net m c (i + 1) 28 24 ∗ (sPc c 0 s fullShare (SC m 13 c) ∗ sPc c 1 s fullShare (SC m 13 c))) := fun Q => by
  have hs := s.isLt
  have hslot : slot 13 = eS i := by apply Fin.ext; simp only [slot]; omega
  have hhalf : s = eH i := by apply Fin.ext; show s.val = i % 2; omega
  have harr := @arrive2_tri F _ m κ ν c i 28 24 (by omega) (by omega) (fun h' => by omega) (by omega) (slot 13) s hslot hhalf
  rw [show i / 2 = 13 by omega, ← hhalf] at harr
  unfold half Net Chan
  rw [if_neg (show ¬ 13 < 7 by omega), if_neg (show ¬ 13 < 13 by omega), if_neg (show ¬ 13 < 13 by omega), if_neg (show ¬ 13 < 7 by omega), win_push (got m c 0) (show 24 ≤ i by omega), win_push (got m c 1) (show 24 ≤ i by omega)]
  unfold chS
  iintro ⟨#HX, ⟨HO, ⟨HW, ⟨HS, HT⟩, HG, HY⟩, ⟨HW', ⟨HS', HT'⟩, HG', HY'⟩⟩⟩ HK
  iapply harr $$ [HO HW HS HW' HS']
  · isplitr; · iapply (ctx_recs m κ ν c); iexact HX
    isplitl [HO]; · iexact HO
    isplitl [HW HS]
    · isplitl [HW]; · iexact HW
      iexact HS
    isplitl [HW']; · iexact HW'
    iexact HS'
  iintro ⟨HO, ⟨HW, HS⟩, ⟨HW', HS'⟩, HP, ⟨HR, HR'⟩⟩
  iapply (Tri.seq (Tri.pure (P := own c (Ow c 28 28 24 24)))) $$ HO
  iintro HO
  iapply (Tri.seq (Tri.pure (P := own c (Ow c 28 28 24 24)))) $$ HO
  iintro HO
  iapply (Tri.pure (P := own c (Ow c 28 28 24 24)) Q) $$ HO
  iintro HO
  iapply HK
  isplitr [HP]
  · isplitl [HO]; · iexact HO
    isplitl [HW HS HT HG HY HR]
    · isplitl [HW]; · iexact HW
      isplitl [HS HT]
      · isplitl [HS]; · iexact HS
        iexact HT
      isplitl [HG]; · iexact HG
      isplitl [HR]; · iexact HR
      iexact HY
    isplitl [HW']; · iexact HW'
    isplitl [HS' HT']
    · isplitl [HS']; · iexact HS'
      iexact HT'
    isplitl [HG']; · iexact HG'
    isplitl [HR']; · iexact HR'
    iexact HY'
  iexact HP

end Cert.Proof

end
-- ==== Proof.Tiles.lean ====
/-
  The tiles of `x` along a direction: loads, waits and products.
-/
module

public import proofs.«01_k».proof.Proof.Halves

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

/-! Load `e` fills buffer `slot (e + 1)`, in round `e / 2` of its semaphore. -/

def xPos (c : Dev nD) (d : Fin 2) (e : ℕ) : sProp 𝕄 := pos c (kX d (slot (e + 1))) (e / 2)
def xOut (c : Dev nD) (d : Fin 2) (e : ℕ) : sProp 𝕄 := iprop(cred (tallyAt (cell c (kX d (slot (e + 1)))) 0 NX) ∗ inRest m c d (slot (e + 1)) e)
def xFree (c : Dev nD) (d : Fin 2) (e : ℕ) : sProp 𝕄 := iprop((∃ f, xPc c d (slot (e + 1)) f) ∗ inAll m c (qx d (slot (e + 1))))
def xTok (c : Dev nD) (d : Fin 2) (e : ℕ) : sProp 𝕄 := dutyTok ER (cell c (kX d (slot (e + 1)))) (e / 2) 0

theorem slot_add2 (e : ℕ) : slot (e + 2) = slot e := by apply Fin.ext; simp only [slot]; omega
theorem xPos_add2 (c : Dev nD) (d : Fin 2) (e : ℕ) : xPos (F := F) c d (e + 2) = pos c (kX d (slot (e + 1))) (e / 2 + 1) := by
  unfold xPos; rw [show e + 2 + 1 = e + 1 + 2 by omega, slot_add2, show (e + 2) / 2 = e / 2 + 1 by omega]
theorem xFree_add2 (c : Dev nD) (d : Fin 2) (e : ℕ) : xFree m c d (e + 2) = xFree m c d e := by
  unfold xFree; rw [show e + 2 + 1 = e + 1 + 2 by omega, slot_add2]
theorem load_e (e : ℕ) : e = loadOf (slot (e + 1)) (e / 2) := by simp only [loadOf, slot]; omega
theorem dutX (d : Fin 2) {e : ℕ} (h : e < 8) (h' : d = 0 → 1 ≤ e) : dutK (kX d (slot (e + 1))) (e / 2) = {0} := by
  refine if_pos ⟨by omega, fun ⟨hd, hs, hr⟩ => ?_⟩
  have := congrArg Fin.val hs
  have := h' hd
  simp only [slot] at *
  have h1 : ((1 : Fin 2) : ℕ) = 1 := rfl
  omega

/-- `a` loads have been waited for and `b` have been started. -/
def XS (c : Dev nD) (d : Fin 2) (a b : ℕ) : sProp 𝕄 :=
  iprop(Win (xPos c d) a (a + 2) ∗ Win (xOut m c d) a b ∗ Win (xFree m c d) b (a + 2) ∗ Win (xTok c d) b 8)

theorem xreached (c : Dev nD) (d : Fin 2) {a b i : ℕ} (h : a ≤ i) (h' : i < b) :
    Win (F := F) (xPos c d) a b ⊢ iprop(Win (xPos c d) a b ∗ reached ER (cell c (kX d (slot (i + 1)))) (i / 2)) := by
  have e : Win (F := F) (xPos c d) a b = iprop(xPos c d i ∗ bigSep ((Finset.Ico a b).erase i) (xPos c d)) :=
    bigSep_erase (Finset.mem_Ico.mpr ⟨h, h'⟩)
  rw [e]
  unfold xPos pos
  iintro ⟨⟨HA, #Hr⟩, HW⟩
  isplitl [HA HW]
  · isplitl [HA]
    · isplitl [HA]; · iexact HA
      iexact Hr
    iexact HW
  iexact Hr

theorem load_tri (c : Dev nD) (d : Fin 2) (a b : ℕ) (hab : a ≤ b) (hba : b < a + 2) (hb : b < 8) (hd : d = 0 → 1 ≤ b) (sl : Fin 2) (hsl : sl = slot (b + 1))
    (off : Fin 2 → ℕ) (h) (hoff : off = offX c d b) :
    Tri c iprop(recs m κ ν ∗ XS m c d a b) (xload off h d sl) (XS m c d a (b + 1)) := fun Q => by
  subst hsl
  unfold XS
  rw [win_pop (xFree m c d) hba, win_pop (xTok (F := F) c d) hb, win_push (xOut m c d) hab]
  iintro ⟨#HR, HA, HO, ⟨HF, HF'⟩, HT, HT'⟩ HK
  icases (xreached c d hab hba) $$ HA with ⟨HA, #Hr⟩
  unfold xFree xOut xTok
  icases HF with ⟨HX, HI⟩
  iapply (xload_tri m κ ν c d (slot (b + 1)) b (b / 2) (load_e b) (dutX d hb hd) off h hoff Q) $$ [HX HI HT]
  · isplitr; · iexact HR
    isplitl [HI]; · iexact HI
    isplitl [HX]; · iexact HX
    isplitl [HT]; · iexact HT
    iexact Hr
  iintro ⟨HC, HI⟩
  iapply HK
  isplitl [HA]; · iexact HA
  isplitl [HO HC HI]
  · isplitr [HO]
    · isplitl [HC]; · iexact HC
      iexact HI
    iexact HO
  isplitl [HF']; · iexact HF'
  iexact HT'

/-- A load awaited, the tile in use. -/
def XU (c : Dev nD) (d : Fin 2) (a b : ℕ) : sProp 𝕄 :=
  iprop(Win (xPos c d) (a + 1) (a + 3) ∗ Win (xOut m c d) (a + 1) b ∗ Win (xFree m c d) b (a + 2) ∗ Win (xTok c d) b 8 ∗ inAll m c (qx d (slot (a + 1))))

theorem xwait2_tri (c : Dev nD) (d : Fin 2) (a b : ℕ) (hab : a < b) (ha : a < 8) (hd : d = 0 → 1 ≤ a) (sl : Fin 2) (hsl : sl = slot (a + 1))
    (off : Fin 2 → ℕ) (h) {O : CellTallies nD τ sig ℕ} (hO : Above 0 O) :
    Tri c iprop(recs m κ ν ∗ own c O ∗ XS m c d a b) (xwait off h d sl) iprop(own c O ∗ XU m c d a b ∗ xPc c d sl (XC m a c)) := fun Q => by
  subst hsl
  unfold XS XU
  rw [win_pop (xPos (F := F) c d) (show a < a + 2 by omega), win_pop (xOut m c d) hab, show a + 3 = a + 2 + 1 by omega,
    win_push (xPos (F := F) c d) (show a + 1 ≤ a + 2 by omega), xPos_add2]
  unfold xOut xPos
  iintro ⟨#HR, HO, ⟨HA, HA'⟩, ⟨⟨HC, HI⟩, HU⟩, HF, HT⟩ HK
  iapply (xwait_tri m κ ν c d (slot (a + 1)) a (a / 2) (load_e a) (dutX d ha hd) off h hO Q) $$ [HC HI HO HA]
  · isplitr; · iexact HR
    isplitl [HC]; · iexact HC
    isplitl [HI]; · iexact HI
    isplitl [HO]; · iexact HO
    iexact HA
  iintro ⟨HO, HA, HI, HX⟩
  iapply HK
  isplitl [HO]; · iexact HO
  isplitr [HX]
  · isplitl [HA HA']
    · isplitl [HA]; · iexact HA
      iexact HA'
    isplitl [HU]; · iexact HU
    isplitl [HF]; · iexact HF
    isplitl [HT]; · iexact HT
    iexact HI
  iexact HX

theorem xdone (c : Dev nD) (d : Fin 2) (a b : ℕ) (hb : b ≤ a + 2) (sl : Fin 2) (hsl : sl = slot (a + 1)) (f) :
    iprop(XU m c d a b ∗ xPc c d sl f) ⊢ XS m c d (a + 1) b := by
  subst hsl
  unfold XS XU
  rw [show a + 1 + 2 = a + 2 + 1 by omega, win_push (xFree m c d) hb, xFree_add2]
  unfold xFree
  iintro ⟨⟨HA, HU, HF, HT, HI⟩, HX⟩
  isplitl [HA]; · iexact HA
  isplitl [HU]; · iexact HU
  isplitr [HT]
  · isplitr [HF]
    · isplitl [HX]; · iexists f; iexact HX
      iexact HI
    iexact HF
  iexact HT

theorem nextGemm_tri (c : Dev nD) (d : Fin 2) (h b : ℕ) (hh : h < 7) (hb : h + 1 < b) (hb' : b ≤ h + 3) {O : CellTallies nD τ sig ℕ} (hO : Above 0 O) :
    Tri c iprop(recs m κ ν ∗ own c O ∗ XS m c d (h + 1) b ∗ wAll m c ∗ (∃ f, lOne c d f)) (nextGemm c h d hh)
      iprop(own c O ∗ XS m c d (h + 2) b ∗ wAll m c ∗ lOne c d (locC m h c)) := fun Q => by
  have hsl : slot h = slot (h + 1 + 1) := (slot_add2 h).symm
  unfold nextGemm
  iintro ⟨#HR, HO, HX, HW, HL⟩ HK
  iapply (Tri.seq (xwait2_tri m κ ν c d (h + 1) b hb (by omega) (fun _ => by omega) (slot h) hsl _ _ hO)) $$ [HO HX]
  · isplitr; · iexact HR
    isplitl [HO]; · iexact HO
    iexact HX
  iintro ⟨HO, HU, HX⟩
  iapply (gemm_tri m c d (slot h) h rfl Q) $$ [HX HW HL]
  · isplitl [HX]; · iexact HX
    isplitl [HW]; · iexact HW
    iexact HL
  iintro ⟨HX, HW, HL⟩
  iapply HK
  isplitl [HO]; · iexact HO
  isplitl [HU HX]
  · iapply (xdone m c d (h + 1) b (by omega) (slot h) hsl _)
    isplitl [HU]; · iexact HU
    iexact HX
  isplitl [HW]; · iexact HW
  iexact HL

/-- Both directions' products. -/
theorem nextGemm2_tri (c : Dev nD) (h b : ℕ) (hh : h < 7) (hb : h + 1 < b) (hb' : b ≤ h + 3) {O : CellTallies nD τ sig ℕ} (hO : Above 0 O) :
    Tri c iprop(recs m κ ν ∗ own c O ∗ (XS m c 0 (h + 1) b ∗ XS m c 1 (h + 1) b) ∗ wAll m c ∗ (∃ f, lAll c f))
      (do nextGemm c h 0 hh; nextGemm c h 1 hh)
      iprop(own c O ∗ (XS m c 0 (h + 2) b ∗ XS m c 1 (h + 2) b) ∗ wAll m c ∗ lAll c (locC m h c)) := fun Q => by
  iintro ⟨#HR, HO, ⟨HX, HX'⟩, HW, ⟨%f, HL⟩⟩ HK
  icases (lAll_iff c f).1 $$ HL with ⟨HL, HL'⟩
  iapply (Tri.seq (nextGemm_tri m κ ν c 0 h b hh hb hb' hO)) $$ [HO HX HW HL]
  · isplitr; · iexact HR
    isplitl [HO]; · iexact HO
    isplitl [HX]; · iexact HX
    isplitl [HW]; · iexact HW
    iexists f; iexact HL
  iintro ⟨HO, HX, HW, HL⟩
  iapply (nextGemm_tri m κ ν c 1 h b hh hb hb' hO Q) $$ [HO HX' HW HL']
  · isplitr; · iexact HR
    isplitl [HO]; · iexact HO
    isplitl [HX']; · iexact HX'
    isplitl [HW]; · iexact HW
    iexists f; iexact HL'
  iintro ⟨HO, HX', HW, HL'⟩
  iapply HK
  isplitl [HO]; · iexact HO
  isplitl [HX HX']
  · isplitl [HX]; · iexact HX
    iexact HX'
  isplitl [HW]; · iexact HW
  iapply (lAll_iff c (locC m h c)).2
  isplitl [HL]; · iexact HL
  iexact HL'

theorem nextLoad_tri (c : Dev nD) (d : Fin 2) (h a : ℕ) (hh : h < 7) (ha : a ≤ h + 1) (ha' : h < a + 1) :
    Tri c iprop(recs m κ ν ∗ XS m c d a (h + 1)) (nextLoad c h d hh) (XS m c d a (h + 2)) := fun Q => by
  unfold nextLoad
  exact load_tri m κ ν c d a (h + 1) ha (by omega) (by omega) (fun _ => by omega) (slot h) (slot_add2 h).symm _ _ (xoff_eq c d ⟨h, hh⟩) Q

theorem nextLoad2_tri (c : Dev nD) (h a0 a1 : ℕ) (hh : h < 7) (ha0 : a0 ≤ h + 1) (ha0' : h < a0 + 1) (ha1 : a1 ≤ h + 1) (ha1' : h < a1 + 1) :
    Tri c iprop(recs m κ ν ∗ (XS m c 0 a0 (h + 1) ∗ XS m c 1 a1 (h + 1))) (do nextLoad c h 0 hh; nextLoad c h 1 hh) iprop(XS m c 0 a0 (h + 2) ∗ XS m c 1 a1 (h + 2)) := fun Q => by
  iintro ⟨#HR, HX, HX'⟩ HK
  iapply (Tri.seq (nextLoad_tri m κ ν c 0 h a0 hh ha0 ha0')) $$ [HX]
  · isplitr; · iexact HR
    iexact HX
  iintro HX
  iapply (nextLoad_tri m κ ν c 1 h a1 hh ha1 ha1' Q) $$ [HX']
  · isplitr; · iexact HR
    iexact HX'
  iintro HX'
  iapply HK
  isplitl [HX]; · iexact HX
  iexact HX'

end Cert.Proof

end
-- ==== Proof.Hops.lean ====
/-
  The hops of the reduction and of the gather.
-/
module

public import proofs.«01_k».proof.Proof.Tiles

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

/-! ## A hop of the reduction -/

/-- Before hop `h` of the reduction. -/
def SumSt (c : Dev nD) (h : ℕ) : sProp 𝕄 :=
  iprop(Net m c (2 * h) (2 * h + 2) (2 * h) ∗ (XS m c 0 (min (h + 2) 8) (min (h + 3) 8) ∗ XS m c 1 (min (h + 2) 8) (min (h + 3) 8))
    ∗ wAll m c ∗ lAll c (locC m (min h 6) c))

theorem sumTail_tri (c : Dev nD) (h : ℕ) (hh : h < 7) {O : CellTallies nD τ sig ℕ} (hO : Above 0 O) :
    Tri c iprop(recs m κ ν ∗ own c O ∗ (XS m c 0 (min (h + 2) 8) (min (h + 3) 8) ∗ XS m c 1 (min (h + 2) 8) (min (h + 3) 8)) ∗ wAll m c ∗ lAll c (locC m h c))
      (do
        let _u ← (if h6 : h + 1 < 7 then do
            nextGemm c (h + 1) 0 h6
            nextGemm c (h + 1) 1 h6
          else pure ⟨⟩ : TProg F PUnit)
        (if h5 : h + 2 < 7 then do
            nextLoad c (h + 2) 0 h5
            nextLoad c (h + 2) 1 h5
          else pure ⟨⟩ : TProg F PUnit))
      iprop(own c O ∗ (XS m c 0 (min (h + 3) 8) (min (h + 4) 8) ∗ XS m c 1 (min (h + 3) 8) (min (h + 4) 8)) ∗ wAll m c ∗ lAll c (locC m (min (h + 1) 6) c)) := fun Q => by
  by_cases h6 : h + 1 < 7
  · rw [dif_pos h6, show min (h + 2) 8 = h + 1 + 1 by omega, show min (h + 3) 8 = h + 1 + 2 by omega, show min (h + 1) 6 = h + 1 by omega]
    iintro ⟨#HR, HO, HX, HW, HL⟩ HK
    iapply (Tri.seq (nextGemm2_tri m κ ν c (h + 1) (h + 1 + 2) h6 (by omega) (by omega) hO)) $$ [HO HX HW HL]
    · isplitr; · iexact HR
      isplitl [HO]; · iexact HO
      isplitl [HX]; · iexact HX
      isplitl [HW]; · iexact HW
      iexists _; iexact HL
    iintro ⟨HO, HX, HW, HL⟩
    by_cases h5 : h + 2 < 7
    · rw [dif_pos h5, show min (h + 4) 8 = h + 2 + 2 by omega]
      iapply (nextLoad2_tri m κ ν c (h + 2) (h + 1 + 2) (h + 1 + 2) h5 (by omega) (by omega) (by omega) (by omega) Q) $$ [HX]
      · isplitr; · iexact HR
        iexact HX
      iintro HX
      iapply HK
      isplitl [HO]; · iexact HO
      isplitl [HX]; · iexact HX
      isplitl [HW]; · iexact HW
      iexact HL
    · rw [dif_neg h5, show min (h + 4) 8 = h + 1 + 2 by omega]
      iapply (Tri.pure (P := own c O) Q) $$ HO
      iintro HO
      iapply HK
      isplitl [HO]; · iexact HO
      isplitl [HX]; · iexact HX
      isplitl [HW]; · iexact HW
      iexact HL
  · rw [dif_neg h6, dif_neg (show ¬ h + 2 < 7 by omega), show min (h + 2) 8 = 8 by omega, show min (h + 3) 8 = 8 by omega, show min (h + 4) 8 = 8 by omega,
      show min (h + 1) 6 = h by omega]
    iintro ⟨#HR, HO, HX, HW, HL⟩ HK
    iapply (Tri.seq (Tri.pure (P := own c O))) $$ HO
    iintro HO
    iapply (Tri.pure (P := own c O) Q) $$ HO
    iintro HO
    iapply HK
    isplitl [HO]; · iexact HO
    isplitl [HX]; · iexact HX
    isplitl [HW]; · iexact HW
    iexact HL

theorem hopSum_tri (c : Dev nD) (h : ℕ) (hh : h < 7) : Tri c iprop(ctx m κ ν c ∗ SumSt m c h) (hopSum c h hh) (SumSt m c (h + 1)) := fun Q => by
  have e2 : 2 * (h + 1) = 2 * h + 1 + 1 := by omega
  unfold hopSum SumSt
  rw [show min h 6 = h by omega]
  iintro ⟨#HX, HN, HT, HW, HL⟩ HK
  iapply (Tri.seq (half_sum m κ ν c 0 h (2 * h) rfl hh)) $$ [HN HL]
  · isplitr; · iexact HX
    isplitl [HN]; · iexact HN
    iexact HL
  iintro ⟨HN, HL⟩
  iapply (Tri.seq (half_sum m κ ν c 1 h (2 * h + 1) rfl hh)) $$ [HN HL]
  · isplitr; · iexact HX
    isplitl [HN]; · iexact HN
    iexact HL
  rw [e2]
  unfold Net
  iintro ⟨⟨HO, HC, HC'⟩, HL⟩
  iapply (sumTail_tri m κ ν c h hh (above_Ow' c (by omega) (by omega) (fun _ => by omega) (fun _ => by omega)) Q) $$ [HO HT HW HL]
  · isplitr; · iapply (ctx_recs m κ ν c); iexact HX
    isplitl [HO]; · iexact HO
    isplitl [HT]; · iexact HT
    isplitl [HW]; · iexact HW
    iexact HL
  iintro ⟨HO, HT, HW, HL⟩
  iapply HK
  isplitl [HO HC HC']
  · isplitl [HO]; · iexact HO
    isplitl [HC]; · iexact HC
    iexact HC'
  isplitl [HT]; · iexact HT
  isplitl [HW]; · iexact HW
  iexact HL

theorem hopsSum_tri (c : Dev nD) : ∀ (n h : ℕ) (e : h + n = 7), Tri c iprop(ctx m κ ν c ∗ SumSt m c h) (hopsSum c n h e) (SumSt m c 7)
  | 0, h, e => fun Q => by
    obtain rfl : h = 7 := by omega
    iintro ⟨#HX, HS⟩ HK
    iapply (Tri.pure (P := SumSt m c 7) Q) $$ HS
    iintro HS
    iapply HK; iexact HS
  | n + 1, h, e => fun Q => by
    unfold hopsSum
    iintro ⟨#HX, HS⟩ HK
    iapply (Tri.seq (hopSum_tri m κ ν c h _)) $$ [HS]
    · isplitr; · iexact HX
      iexact HS
    iintro HS
    iapply (hopsSum_tri c n (h + 1) _ Q) $$ [HS]
    · isplitr; · iexact HX
      iexact HS
    iexact HK

/-! ## Putting out the result -/

abbrev outTok (c : Dev nD) (n : ℕ) : sProp 𝕄 := dutyTok ER (cell c kO) n 0
/-- Piece `n` of the result is on its way. -/
def OutSt (c : Dev nD) (n : ℕ) : sProp 𝕄 := iprop(outBusy m c n ∗ pos c kO n ∗ Win (outTok c) (n + 1) 16)

theorem own_piece (c : Dev nD) (d : Fin 2) :
    chS m c d 14 16 ⊢ iprop(sOne c d qR' (SC m 7 c) ∗ (sOne c d qR' (SC m 7 c) -∗ chS m c d 14 16)) := by
  unfold chS
  rw [win_pop (sendOut m c d) (show 14 < 16 by omega), win_pop (sendOut m c d) (show 14 + 1 < 16 by omega)]
  unfold sendOut
  iintro ⟨⟨⟨HC, HP⟩, ⟨HC', HP'⟩, HW⟩, HT⟩
  isplitl [HP HP']
  · iapply (sOne_iff c d qR' (SC m 7 c)).2
    isplitl [HP]; · iexact HP
    iexact HP'
  iintro HP
  icases (sOne_iff c d qR' (SC m 7 c)).1 $$ HP with ⟨HP, HP'⟩
  isplitr [HT]
  · isplitl [HC HP]
    · isplitl [HC]; · iexact HC
      iexact HP
    isplitr [HW]
    · isplitl [HC']; · iexact HC'
      iexact HP'
    iexact HW
  iexact HT

theorem stageOwn_tri (c : Dev nD) (d : Fin 2) :
    Tri c iprop(Chan m c d 14 16 14 ∗ (∃ f, b7 c f)) (stageSend d) iprop(Chan m c d 14 16 14 ∗ b7 c (OB m c d 0)) := fun Q => by
  unfold Chan
  iintro ⟨⟨HW, HS, HG⟩, HB⟩ HK
  icases (own_piece m c d) $$ HS with ⟨HP, HS⟩
  iapply (stageSend_tri m c d qR' Q) $$ [HP HB]
  · isplitl [HP]; · iexact HP
    iexact HB
  iintro ⟨HP, HB⟩
  iapply HK
  isplitr [HB]
  · isplitl [HW]; · iexact HW
    isplitl [HS HP]; · iapply HS; iexact HP
    iexact HG
  iexact HB

theorem flushOwn_tri (c : Dev nD) :
    Tri c iprop(recs m κ ν ∗ Net m c 14 16 14 ∗ (∃ f, b7 c f) ∗ outFree m c 0 ∗ pos c kO 0 ∗ Win (outTok c) 0 16) (flushOwn c)
      iprop(Net m c 14 16 14 ∗ OutSt m c 1) := fun Q => by
  unfold flushOwn Net OutSt
  rw [win_pop (outTok (F := F) c) (show 0 < 16 by omega), win_pop (outTok (F := F) c) (show 0 + 1 < 16 by omega)]
  iintro ⟨#HR, ⟨HO, HC, HC'⟩, HB, HF, HA, ⟨HT, HT', HW⟩⟩ HK
  iapply (Tri.seq (stageOwn_tri m c 0)) $$ [HC HB]
  · isplitl [HC]; · iexact HC
    iexact HB
  iintro ⟨HC, HB⟩
  iapply (Tri.seq (outStart_tri m κ ν c 0 (by omega) 0 0 rfl rfl)) $$ [HB HF HT HA]
  · isplitr; · iexact HR
    isplitl [HB]; · iexact HB
    isplitl [HF]; · iexact HF
    isplitl [HT]; · iexact HT
    iexact HA
  iintro ⟨HF, HA⟩
  iapply (Tri.seq (outWait_tri m κ ν c 0 (by omega) 0 0 rfl rfl (O := Ow c 16 16 14 14) (above_Ow' c (by omega) (by omega) (fun _ => by omega) (fun _ => by omega)))) $$ [HF HO HA]
  · isplitr; · iexact HR
    isplitl [HF]; · iexact HF
    isplitl [HO]; · iexact HO
    iexact HA
  iintro ⟨HO, HA, HB, HF⟩
  iapply (Tri.seq (stageOwn_tri m c 1)) $$ [HC' HB]
  · isplitl [HC']; · iexact HC'
    iexact HB
  iintro ⟨HC', HB⟩
  iapply (outStart_tri m κ ν c 1 (by omega) 1 0 rfl rfl Q) $$ [HB HF HT' HA]
  · isplitr; · iexact HR
    isplitl [HB]; · iexact HB
    isplitl [HF]; · iexact HF
    isplitl [HT']; · iexact HT'
    iexact HA
  iintro ⟨HF, HA⟩
  iapply HK
  isplitl [HO HC HC']
  · isplitl [HO]; · iexact HO
    isplitl [HC]; · iexact HC
    iexact HC'
  isplitl [HF]; · iexact HF
  isplitl [HA]; · iexact HA
  iexact HW

/-! ## A hop of the gather -/

theorem got_iff (c : Dev nD) (d : Fin 2) (k i : ℕ) (hi : i = 2 * (k + 7)) :
    rOne c d (slot (k + 7)) (RC m (k + 7) c) ⊣⊢ iprop(got m c d i ∗ got m c d (i + 1)) := by
  have h1 : eS i = slot (k + 7) := by apply Fin.ext; simp only [slot]; omega
  have h2 : eS (i + 1) = slot (k + 7) := by apply Fin.ext; simp only [slot]; omega
  have h3 : eH i = 0 := by apply Fin.ext; show i % 2 = 0; omega
  have h4 : eH (i + 1) = 1 := by apply Fin.ext; show (i + 1) % 2 = 1; omega
  unfold got
  rw [h1, h2, h3, h4, show i / 2 = k + 7 by omega, show (i + 1) / 2 = k + 7 by omega]
  exact rOne_iff c d (slot (k + 7)) (RC m (k + 7) c)

theorem put_tri (c : Dev nD) (k n i : ℕ) (hn : n + 1 < 16) (hi : i = 2 * (k + 7)) (d pd : Fin 2) (kk pk : Fin 8) (hpd : pd = oD n) (hpk : pk = oK n) (hd : d = oD (n + 1)) (hkk : kk = oK (n + 1))
    (hk : kk.val = k + 1) {O : CellTallies nD τ sig ℕ} (hO : Above 0 O) {A : Type} {kont : PUnit → TProg F A} {Q : A → sProp 𝕄} :
    iprop(recs m κ ν ∗ own c O ∗ OutSt m c n ∗ (got m c d i ∗ got m c d (i + 1))) ⊢
      iprop((own c O ∗ OutSt m c (n + 1) ∗ (got m c d i ∗ got m c d (i + 1)) -∗ WP c (kont ⟨⟩) Q)
        -∗ WP c (outWait (ooff c pd pk) (ooff_inb c pd pk) (ooff_words c pd pk) >>= fun _ => stageRecv d (slot (k + 7)) >>= fun _ =>
            outStart (ooff c d kk) (ooff_inb c d kk) (ooff_words c d kk) >>= kont) Q) := by
  have hput := outStart_tri m κ ν c (n + 1) hn d kk hd hkk
  rw [hk] at hput
  unfold OutSt
  rw [win_pop (outTok (F := F) c) hn]
  iintro ⟨#HR, HO, ⟨HF, HA, ⟨HT, HW⟩⟩, HG⟩ HK
  iapply (Tri.seq (outWait_tri m κ ν c n (by omega) pd pk hpd hpk hO)) $$ [HF HO HA]
  · isplitr; · iexact HR
    isplitl [HF]; · iexact HF
    isplitl [HO]; · iexact HO
    iexact HA
  iintro ⟨HO, HA, HB, HF⟩
  ihave HG := (got_iff m c d k i hi).2 $$ HG
  iapply (Tri.seq (stageRecv_tri m c d k (slot (k + 7)) rfl)) $$ [HG HB]
  · isplitl [HG]; · iexact HG
    iexact HB
  iintro ⟨HG, HB⟩
  ihave HG := (got_iff m c d k i hi).1 $$ HG
  iapply (Tri.seq hput) $$ [HB HF HT HA]
  · isplitr; · iexact HR
    isplitl [HB]; · iexact HB
    isplitl [HF]; · iexact HF
    isplitl [HT]; · iexact HT
    iexact HA
  iintro ⟨HF, HA⟩
  iapply HK
  isplitl [HO]; · iexact HO
  isplitl [HF HA HW]
  · isplitl [HF]; · iexact HF
    isplitl [HA]; · iexact HA
    iexact HW
  iexact HG

theorem win2 (Φ : ℕ → sProp 𝕄) (a b : ℕ) (h : a ≤ b) : Win Φ a (b + 2) = iprop(Φ (b + 1) ∗ Φ b ∗ Win Φ a b) := by
  rw [show b + 2 = b + 1 + 1 by omega, win_push Φ (show a ≤ b + 1 by omega), win_push Φ h]
theorem win2' (Φ : ℕ → sProp 𝕄) (a b : ℕ) (h : a + 2 ≤ b) : Win Φ a b = iprop(Φ a ∗ Φ (a + 1) ∗ Win Φ (a + 2) b) := by
  rw [win_pop Φ (show a < b by omega), win_pop Φ (show a + 1 < b by omega)]

/-- The halves of a hop before the sixth of the gather are given back. -/
theorem flush_give (c : Dev nD) (k n i p : ℕ) (hn : n + 1 < 16) (hi : i = 2 * (k + 7)) (hk5 : k < 5) (d pd : Fin 2) (kk pk : Fin 8) (hpd : pd = oD n) (hpk : pk = oK n) (hd : d = oD (n + 1)) (hkk : kk = oK (n + 1))
    (hk : kk.val = k + 1) {O₁ O : CellTallies nD τ sig ℕ} (hA : Above 0 O₁)
    (hO : O₁ = O + (tallyAt (cell (up d c) (kC d)) (i / 2) 1 + tallyAt (cell (up d c) (kC d)) ((i + 1) / 2) 1)) :
    Tri c iprop(recs m κ ν ∗ own c O₁ ∗ OutSt m c n ∗ Chan m c d (i + 2) p i) (flush c (k + 7) d pd kk pk)
      iprop(own c O ∗ OutSt m c (n + 1) ∗ Chan m c d (i + 2) p (i + 2)) := fun Q => by
  have hput := @put_tri F _ m κ ν c k n i hn hi d pd kk pk hpd hpk hd hkk hk O₁ hA
  have hp2 : Win (posR (F := F) c d) (i + 2) (i + 2 + 4) = iprop(posR c d (i + 1 + 4) ∗ posR c d (i + 4) ∗ Win (posR c d) (i + 2) (i + 4)) := win2 (posR (F := F) c d) (i + 2) (i + 4) (by omega)
  have hr2 : Win (readerTok (F := F) c d) (i + 2) (i + 2 + 4) = iprop(readerTok c d (i + 1 + 4) ∗ readerTok c d (i + 4) ∗ Win (readerTok c d) (i + 2) (i + 4)) := win2 (readerTok (F := F) c d) (i + 2) (i + 4) (by omega)
  have hg2 : Win (got m c d) i (i + 2) = iprop(got m c d i ∗ got m c d (i + 1) ∗ emp) := by rw [win2' (got m c d) i (i + 2) (by omega), win_nil]
  unfold flush Chan chW chG
  rw [if_pos (show k + 7 < 12 by omega), hp2, hr2, hg2, win2' (readerTok (F := F) c d) i (i + 4) (by omega), win2' (grantTok (F := F) c d) i 24 (by omega), win_nil]
  iintro ⟨#HR, HO, HF, ⟨⟨HA, ⟨HB5, HB4, HB⟩, HC⟩, HS, ⟨⟨HT0, HT1, HT⟩, ⟨HM0, HM1, HM⟩, HV⟩, ⟨HG0, HG1, -⟩⟩⟩ HK
  iapply hput $$ [HO HF HG0 HG1]
  · isplitr; · iexact HR
    isplitl [HO]; · iexact HO
    isplitl [HF]; · iexact HF
    isplitl [HG0]; · iexact HG0
    iexact HG1
  iintro ⟨HO, HF, ⟨HG0, HG1⟩⟩
  iapply (grant2_tri m κ ν c _ d i (by omega) (by omega) (dev_flush c ⟨k, hk5⟩ d) hO Q) $$ [HO HM0 HM1 HT0 HT1 HG0 HG1 HB4 HB5 HV]
  · isplitr; · iexact HR
    isplitl [HO]; · iexact HO
    isplitl [HM0]; · iexact HM0
    isplitl [HM1]; · iexact HM1
    isplitl [HT0]; · iexact HT0
    isplitl [HT1]; · iexact HT1
    isplitl [HG0]; · iexact HG0
    isplitl [HG1]; · iexact HG1
    isplitl [HB4]; · iexact HB4
    isplitl [HB5]; · iexact HB5
    iexact HV
  iintro ⟨HO, HT0, HT1, HB4, HB5, HV⟩
  iapply HK
  isplitl [HO]; · iexact HO
  isplitl [HF]; · iexact HF
  isplitl [HA HB4 HB5 HB HC]
  · isplitl [HA]; · iexact HA
    isplitl [HB4 HB5 HB]
    · isplitl [HB5]; · iexact HB5
      isplitl [HB4]; · iexact HB4
      iexact HB
    iexact HC
  isplitl [HS]; · iexact HS
  isplitl [HT0 HT1 HT HM HV]
  · isplitl [HT0 HT1 HT]
    · isplitl [HT1]; · iexact HT1
      isplitl [HT0]; · iexact HT0
      iexact HT
    isplitl [HM]; · iexact HM
    iexact HV
  iempintro

/-- Those of the last two are kept. -/
theorem flush_keep (c : Dev nD) (k n i p : ℕ) (hn : n + 1 < 16) (hi : i = 2 * (k + 7)) (hk5 : 5 ≤ k) (d pd : Fin 2) (kk pk : Fin 8) (hpd : pd = oD n) (hpk : pk = oK n) (hd : d = oD (n + 1)) (hkk : kk = oK (n + 1))
    (hk : kk.val = k + 1) {O : CellTallies nD τ sig ℕ} (hA : Above 0 O) :
    Tri c iprop(recs m κ ν ∗ own c O ∗ OutSt m c n ∗ Chan m c d (i + 2) p 24) (flush c (k + 7) d pd kk pk)
      iprop(own c O ∗ OutSt m c (n + 1) ∗ Chan m c d (i + 2) p 24) := fun Q => by
  have hput := @put_tri F _ m κ ν c k n i hn hi d pd kk pk hpd hpk hd hkk hk O hA
  unfold flush Chan
  rw [if_neg (show ¬ k + 7 < 12 by omega), win2 (got m c d) 24 i (by omega)]
  iintro ⟨#HR, HO, HF, ⟨HC, HS, HV, ⟨HG1, HG0, HG⟩⟩⟩ HK
  iapply hput $$ [HO HF HG0 HG1]
  · isplitr; · iexact HR
    isplitl [HO]; · iexact HO
    isplitl [HF]; · iexact HF
    isplitl [HG0]; · iexact HG0
    iexact HG1
  iintro ⟨HO, HF, ⟨HG0, HG1⟩⟩
  iapply (Tri.pure (P := own c O) Q) $$ HO
  iintro HO
  iapply HK
  isplitl [HO]; · iexact HO
  isplitl [HF]; · iexact HF
  isplitl [HC]; · iexact HC
  isplitl [HS]; · iexact HS
  isplitl [HV]; · iexact HV
  isplitl [HG1]; · iexact HG1
  isplitl [HG0]; · iexact HG0
  iexact HG

/-- Both directions of a hop of the gather. -/
theorem flush2_tri (c : Dev nD) (k i p : ℕ) (hk : k < 7) (hi : i = 2 * (k + 7)) :
    Tri c iprop(recs m κ ν ∗ Net m c (i + 2) p (min i 24) ∗ OutSt m c (2 * k + 1))
      (do
        flush c (k + 7) 0 1 ⟨k + 1, by omega⟩ ⟨k, by omega⟩
        flush c (k + 7) 1 0 ⟨k + 1, by omega⟩ ⟨k + 1, by omega⟩)
      iprop(Net m c (i + 2) p (min (i + 2) 24) ∗ OutSt m c (2 * k + 3)) := fun Q => by
  have o1 : (1 : Fin 2) = oD (2 * k + 1) := by apply Fin.ext; show 1 = (2 * k + 1) % 2; omega
  have o2 : (0 : Fin 2) = oD (2 * k + 1 + 1) := by apply Fin.ext; show 0 = (2 * k + 1 + 1) % 2; omega
  have o3 : (1 : Fin 2) = oD (2 * k + 1 + 1 + 1) := by apply Fin.ext; show 1 = (2 * k + 1 + 1 + 1) % 2; omega
  have k1 : (⟨k, by omega⟩ : Fin 8) = oK (2 * k + 1) := by apply Fin.ext; show k = (2 * k + 1) / 2 % 8; omega
  have k2 : (⟨k + 1, by omega⟩ : Fin 8) = oK (2 * k + 1 + 1) := by apply Fin.ext; show k + 1 = (2 * k + 1 + 1) / 2 % 8; omega
  have k3 : (⟨k + 1, by omega⟩ : Fin 8) = oK (2 * k + 1 + 1 + 1) := by apply Fin.ext; show k + 1 = (2 * k + 1 + 1 + 1) / 2 % 8; omega
  have hA : ∀ p0 p1 q0 q1, Above 0 (Ow c p0 p1 q0 q1) := fun _ _ _ _ => above_Ow' c (by omega) (by omega) (fun _ => by omega) (fun _ => by omega)
  unfold Net
  by_cases hk5 : k < 5
  · rw [show min i 24 = i by omega, show min (i + 2) 24 = i + 2 by omega]
    iintro ⟨#HR, ⟨HO, HC, HC'⟩, HF⟩ HK
    iapply (Tri.seq (flush_give m κ ν c k (2 * k + 1) i p (by omega) hi hk5 0 1 _ _ o1 k1 o2 k2 rfl (hA p p i i)
      (O := Ow c p p (i + 2) i) (by rw [Ow_c0 c (show i < 24 by omega), Ow_c0 c (show i + 1 < 24 by omega)]; ac_rfl))) $$ [HO HF HC]
    · isplitr; · iexact HR
      isplitl [HO]; · iexact HO
      isplitl [HF]; · iexact HF
      iexact HC
    iintro ⟨HO, HF, HC⟩
    iapply (flush_give m κ ν c k (2 * k + 1 + 1) i p (by omega) hi hk5 1 0 _ _ o2 k2 o3 k3 rfl (hA p p (i + 2) i)
      (O := Ow c p p (i + 2) (i + 2)) (by rw [Ow_c1 c (show i < 24 by omega), Ow_c1 c (show i + 1 < 24 by omega)]; ac_rfl) Q) $$ [HO HF HC']
    · isplitr; · iexact HR
      isplitl [HO]; · iexact HO
      isplitl [HF]; · iexact HF
      iexact HC'
    iintro ⟨HO, HF, HC'⟩
    iapply HK
    isplitr [HF]
    · isplitl [HO]; · iexact HO
      isplitl [HC]; · iexact HC
      iexact HC'
    iexact HF
  · rw [show min i 24 = 24 by omega, show min (i + 2) 24 = 24 by omega]
    iintro ⟨#HR, ⟨HO, HC, HC'⟩, HF⟩ HK
    iapply (Tri.seq (flush_keep m κ ν c k (2 * k + 1) i p (by omega) hi (by omega) 0 1 _ _ o1 k1 o2 k2 rfl (hA p p 24 24))) $$ [HO HF HC]
    · isplitr; · iexact HR
      isplitl [HO]; · iexact HO
      isplitl [HF]; · iexact HF
      iexact HC
    iintro ⟨HO, HF, HC⟩
    iapply (flush_keep m κ ν c k (2 * k + 1 + 1) i p (by omega) hi (by omega) 1 0 _ _ o2 k2 o3 k3 rfl (hA p p 24 24) Q) $$ [HO HF HC']
    · isplitr; · iexact HR
      isplitl [HO]; · iexact HO
      isplitl [HF]; · iexact HF
      iexact HC'
    iintro ⟨HO, HF, HC'⟩
    iapply HK
    isplitr [HF]
    · isplitl [HO]; · iexact HO
      isplitl [HC]; · iexact HC
      iexact HC'
    iexact HF

/-- The last arrivals' send buffers are the device's again. -/
def sEnd (c : Dev nD) : sProp 𝕄 := iprop(sBoth c 0 fullShare (SC m 13 c) ∗ sBoth c 1 fullShare (SC m 13 c))

theorem hopFwd_tri (c : Dev nD) (k : ℕ) (hk : k < 6) :
    Tri c iprop(ctx m κ ν c ∗ Net m c (2 * (k + 7)) (2 * (k + 7) + 2) (min (2 * (k + 7)) 24) ∗ OutSt m c (2 * k + 1)) (hopGather c k (by omega))
      iprop(Net m c (2 * (k + 1 + 7)) (2 * (k + 1 + 7) + 2) (min (2 * (k + 1 + 7)) 24) ∗ OutSt m c (2 * (k + 1) + 1)) := fun Q => by
  unfold hopGather
  iintro ⟨#HX, HN, HF⟩ HK
  iapply (Tri.seq (half_fwd m κ ν c 0 (k + 7) (2 * (k + 7)) (min (2 * (k + 7)) 24) rfl (by omega) (by omega) (by omega) (by omega))) $$ [HN]
  · isplitr; · iexact HX
    iexact HN
  iintro HN
  iapply (Tri.seq (half_fwd m κ ν c 1 (k + 7) (2 * (k + 7) + 1) (min (2 * (k + 7)) 24) rfl (by omega) (by omega) (by omega) (by omega))) $$ [HN]
  · isplitr; · iexact HX
    iexact HN
  iintro HN
  iapply (flush2_tri m κ ν c k (2 * (k + 7)) (2 * (k + 7) + 1 + 3) (by omega) rfl Q) $$ [HN HF]
  · isplitr; · iapply (ctx_recs m κ ν c); iexact HX
    isplitl [HN]; · iexact HN
    iexact HF
  iexact HK

theorem hopEnd_tri (c : Dev nD) :
    Tri c iprop(ctx m κ ν c ∗ Net m c 26 28 24 ∗ OutSt m c 13) (hopGather c 6 (by omega)) iprop(Net m c 28 28 24 ∗ OutSt m c 15 ∗ sEnd m c) := fun Q => by
  unfold hopGather sEnd
  iintro ⟨#HX, HN, HF⟩ HK
  iapply (Tri.seq (half_last m κ ν c 0 26 rfl)) $$ [HN]
  · isplitr; · iexact HX
    iexact HN
  iintro ⟨HN, HP⟩
  iapply (Tri.seq (half_last m κ ν c 1 27 rfl)) $$ [HN]
  · isplitr; · iexact HX
    iexact HN
  iintro ⟨HN, HP'⟩
  iapply (flush2_tri m κ ν c 6 26 28 (by omega) rfl Q) $$ [HN HF]
  · isplitr; · iapply (ctx_recs m κ ν c); iexact HX
    isplitl [HN]; · iexact HN
    iexact HF
  iintro ⟨HN, HF⟩
  iapply HK
  isplitl [HN]; · iexact HN
  isplitl [HF]; · iexact HF
  isplitl [HP]; · iapply (sBoth_iff c 0 fullShare (SC m 13 c)).2 $$ HP
  iapply (sBoth_iff c 1 fullShare (SC m 13 c)).2 $$ HP'

theorem hopsGather_tri (c : Dev nD) : ∀ (n k : ℕ) (e : k + (n + 1) = 7),
    Tri c iprop(ctx m κ ν c ∗ Net m c (2 * (k + 7)) (2 * (k + 7) + 2) (min (2 * (k + 7)) 24) ∗ OutSt m c (2 * k + 1)) (hopsGather c (n + 1) k e)
      iprop(Net m c 28 28 24 ∗ OutSt m c 15 ∗ sEnd m c)
  | 0, k, e => fun Q => by
    obtain rfl : k = 6 := by omega
    unfold hopsGather
    iintro ⟨#HX, HN, HF⟩ HK
    iapply (Tri.seq (hopEnd_tri m κ ν c)) $$ [HN HF]
    · isplitr; · iexact HX
      isplitl [HN]; · iexact HN
      iexact HF
    iintro HN
    unfold hopsGather
    iapply (Tri.pure (P := iprop(Net m c 28 28 24 ∗ OutSt m c 15 ∗ sEnd m c)) Q) $$ HN
    iexact HK
  | n + 1, k, e => fun Q => by
    unfold hopsGather
    iintro ⟨#HX, HN, HF⟩ HK
    iapply (Tri.seq (hopFwd_tri m κ ν c k (by omega))) $$ [HN HF]
    · isplitr; · iexact HX
      isplitl [HN]; · iexact HN
      iexact HF
    iintro ⟨HN, HF⟩
    iapply (hopsGather_tri c n (k + 1) _ Q) $$ [HN HF]
    · isplitr; · iexact HX
      isplitl [HN]; · iexact HN
      iexact HF
    iexact HK

end Cert.Proof

end
-- ==== Proof.Entry.lean ====
/-
  The start of the body: the first loads, the barrier, the device's own product and the first sends.
-/
module

public import proofs.«01_k».proof.Proof.Hops

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

/-- A receive half at the start. -/
def ini (c : Dev nD) (d : Fin 2) (i : ℕ) : sProp 𝕄 := iprop(readerAt EL (c, d, eS i, eH i) 0 ∗ Sl (c, d, eS i, eH i))

theorem give_one (c : Dev nD) (d : Fin 2) (i : ℕ) (hi : i < 4) :
    iprop(recs m κ ν ∗ ini c d i) ⊢ iprop(|={Set.univ}=> (readerTok c d i ∗ ready c d i)) := by
  unfold ini readerTok ready
  rw [show i / 4 = 0 by omega]
  iintro ⟨#HR, HT, HX⟩
  imod (Release.slot_release EL (Es := Set.univ) (ι := ν (c, d, eS i, eH i)) (S := Sl (c, d, eS i, eH i)) (k := (c, d, eS i, eH i)) (Set.mem_univ _) (Sl_Sl_false _) 0) $$ [HT HX] with ⟨HT, #Hrel⟩
  · isplitr; · iapply (recs_slot m κ ν _); iexact HR
    isplitl [HT]; · iexact HT
    iexact HX
  imodintro
  isplitl [HT]; · iexact HT
  isplitr; · iexact Hrel
  iapply (recs_reached m κ ν c (kR d (eS i) (eH i))); iexact HR

/-- At the start every receive half is told free to the device that fills it. -/
theorem give_first (c : Dev nD) (d : Fin 2) (e : Dev nD) (he : dst d e = c) :
    iprop(recs m κ ν ∗ Win (ini c d) 0 4) ⊢ iprop(|={Set.univ}=> (Win (readerTok c d) 0 4 ∗ barP e d)) := by
  have h1 : iprop(recs m κ ν ∗ Win (ini c d) 0 4) ⊢ bigSep (Finset.Ico 0 4) fun i => iprop(recs m κ ν ∗ ini c d i) := by
    unfold Win
    rw [bigSep_sep']
    exact sep_mono (BI.bigSep_intro_persistent fun _ _ => .rfl) .rfl
  have h2 : (bigSep (Finset.Ico 0 4) fun i => iprop(recs m κ ν ∗ ini c d i)) ⊢
      bigSep (Finset.Ico 0 4) fun i => iprop(|={Set.univ}=> (readerTok (F := F) c d i ∗ ready c d i)) :=
    bigSep_mono fun i hi => give_one m κ ν c d i (Finset.mem_Ico.mp hi).2
  refine h1.trans (h2.trans ((bigSep_fupd _ _).trans ?_))
  unfold barP Win
  rw [bigSep_sep', he, Finset.range_eq_Ico]

/-- What a device has of direction `d` at the start. -/
def Dir0 (c : Dev nD) (d : Fin 2) : sProp 𝕄 :=
  iprop(chW c d 0 ∗ (Win (sendTok c d) 0 28 ∗ credSt c d 0 ∗ Win (credTok c d) 0 24) ∗ Win (grantTok c d) 0 24 ∗ Win (ini c d) 0 4)
def Bar0 (c : Dev nD) : sProp 𝕄 :=
  iprop(cred (tallyAt (cell c kB) 0 2) ∗ atPos ER (cell c kB) 0 ∅ 0 ∗ dutyTok ER (cell (dst 1 c) kB) 0 0 ∗ dutyTok ER (cell (dst 0 c) kB) 0 1)

theorem win_emp (Φ : ℕ → sProp 𝕄) (a : ℕ) : iprop(emp) ⊢ Win Φ a a := Entails.of_eq (win_nil Φ a).symm

theorem dst_dst (c : Dev nD) : dst 0 (dst 1 c) = c ∧ dst 1 (dst 0 c) = c := by revert c; decide

theorem chan_start (c : Dev nD) (d : Fin 2) :
    iprop((Win (posS c d) 0 4 ∗ Win (posR c d) 0 4 ∗ Win (recvTok c d) 0 28) ∗ Win (sendOut m c d) 0 2 ∗ Win (sendTok c d) 2 28 ∗ (credSt c d 0 ∗ Win (credTok c d) 0 24)
      ∗ Win (grantTok c d) 0 24 ∗ Win (readerTok c d) 0 4) ⊢ Chan m c d 0 2 0 := by
  unfold Chan chW chS chG
  rw [win_nil]
  iintro ⟨HW, HO, HT, ⟨HC, HC'⟩, HG, HR⟩
  isplitl [HW]; · iexact HW
  isplitl [HO HT HC HC']
  · isplitl [HO]; · iexact HO
    isplitl [HT]; · iexact HT
    isplitl [HC]; · iexact HC
    iexact HC'
  isplitl [HG HR]
  · isplitl [HR]; · iexact HR
    isplitl [HG]; · iexact HG
    unfold given
    rw [Finset.range_zero, bigSep_empty]
    iempintro
  iempintro

theorem entry_tri (c : Dev nD) :
    Tri c iprop(recs m κ ν ∗ own c (O₀ c) ∗ (Dir0 c 0 ∗ Dir0 c 1) ∗ Bar0 c ∗ (XS m c 0 1 1 ∗ XS m c 1 0 0) ∗ wAll m c ∗ (∃ f, sAll c f) ∗ (∃ f, lAll c f))
      (entry c) iprop(ctx m κ ν c ∗ SumSt m c 0 ∗ atPos ER (cell c kB) 1 ∅ 0) := fun Q => by
  have hA : ∀ p0 p1 q0 q1, Above 0 (Ow c p0 p1 q0 q1) := fun _ _ _ _ => above_Ow' c (by omega) (by omega) (fun _ => by omega) (fun _ => by omega)
  unfold entry Dir0 Bar0 chW
  iintro ⟨#HR, HO, ⟨⟨⟨HA, HB, HC⟩, ⟨HT, HK⟩, HG, HI⟩, ⟨⟨HA', HB', HC'⟩, ⟨HT', HK'⟩, HG', HI'⟩⟩, ⟨HBc, HBa, HBt, HBt'⟩, ⟨HX0, HX1⟩, HW, HS, ⟨%fl, HL⟩⟩ HQ
  iapply fupd_wp
  imod (give_first m κ ν c 0 (dst 1 c) (dst_dst c).1) $$ [HI] with ⟨HI, HP⟩
  · isplitr; · iexact HR
    iexact HI
  imod (give_first m κ ν c 1 (dst 0 c) (dst_dst c).2) $$ [HI'] with ⟨HI', HP'⟩
  · isplitr; · iexact HR
    iexact HI'
  imodintro
  iapply (Tri.seq (load_tri m κ ν c 1 0 0 le_rfl (by omega) (by omega) (fun h => absurd h (by decide)) 1 rfl _ _ (off1_eq c))) $$ [HX1]
  · isplitr; · iexact HR
    iexact HX1
  iintro HX1
  iapply (Tri.seq (nextLoad_tri m κ ν c 0 0 1 _ (by omega) (by omega))) $$ [HX0]
  · isplitr; · iexact HR
    iexact HX0
  iintro HX0
  iapply (Tri.seq (nextLoad_tri m κ ν c 1 0 0 _ (by omega) (by omega))) $$ [HX1]
  · isplitr; · iexact HR
    iexact HX1
  iintro HX1
  iapply (Tri.seq (barSig_tri m κ ν c _ (dst 1 c) 0 (by omega) (dev_bar0 c) (O₁ := O₀ c) rfl)) $$ [HO HBt HP]
  · isplitr; · iexact HR
    isplitl [HO]; · iexact HO
    isplitl [HBt]; · iexact HBt
    iexact HP
  iintro HO
  iapply (Tri.seq (barSig_tri m κ ν c _ (dst 0 c) 1 (by omega) (dev_bar1 c) rfl)) $$ [HO HBt' HP']
  · isplitr; · iexact HR
    isplitl [HO]; · iexact HO
    isplitl [HBt']; · iexact HBt'
    iexact HP'
  iintro HO
  iapply (Tri.seq (barWait_tri m κ ν c (above_Ow' c (by omega) (by omega) (fun _ => by omega) (fun _ => by omega)))) $$ [HBc HO HBa]
  · isplitr; · iexact HR
    isplitl [HBc]; · iexact HBc
    isplitl [HO]; · iexact HO
    iexact HBa
  iintro ⟨HO, HBa, #HP0, #HP1⟩
  iapply (Tri.seq (xwait2_tri m κ ν c 1 0 2 (by omega) (by omega) (fun h => absurd h (by decide)) 1 rfl _ _ (hA 0 0 0 0))) $$ [HO HX1]
  · isplitr; · iexact HR
    isplitl [HO]; · iexact HO
    iexact HX1
  iintro ⟨HO, HU, HX1⟩
  iapply (Tri.seq (own_tri m c)) $$ [HX1 HW HS]
  · isplitl [HX1]; · iexact HX1
    isplitl [HW]; · iexact HW
    iexact HS
  iintro ⟨HX1, HW, HS⟩
  ihave HX1 := (xdone m c 1 0 2 (by omega) 1 rfl (XC m 0 c)) $$ [HU HX1]
  · isplitl [HU]; · iexact HU
    iexact HX1
  icases (sAll_iff c (SC m 0 c)).1 $$ HS with ⟨HS, HS'⟩
  icases (sOne_iff c 0 fullShare (SC m 0 c)).1 $$ HS with ⟨HS0, HS1⟩
  icases (sOne_iff c 1 fullShare (SC m 0 c)).1 $$ HS' with ⟨HS0', HS1'⟩
  ihave HE := (win_emp (sendOut m c 0) 0) $$ []
  · iempintro
  ihave HE' := (win_emp (sendOut m c 1) 0) $$ []
  · iempintro
  iapply (Tri.seq (send_ready m κ ν c _ 0 0 0 (by omega) (by omega) (by omega) (dev_first c 0 0) 0 0 rfl rfl (Ow_s0 c (show 0 < 28 by omega)))) $$ [HO HA HE HT HS0]
  · isplitr; · iexact HR
    isplitr; · iapply (barP_ready c 0 (show 0 < 4 by omega)); iexact HP0
    isplitl [HO]; · iexact HO
    isplitl [HA]; · iexact HA
    isplitl [HE]; · iexact HE
    isplitl [HT]; · iexact HT
    iexact HS0
  iintro ⟨HO, HA, HE, HT⟩
  iapply (Tri.seq (send_ready m κ ν c _ 1 0 0 (by omega) (by omega) (by omega) (dev_first c 1 0) 0 0 rfl rfl (Ow_s1 c (show 0 < 28 by omega)))) $$ [HO HA' HE' HT' HS0']
  · isplitr; · iexact HR
    isplitr; · iapply (barP_ready c 1 (show 0 < 4 by omega)); iexact HP1
    isplitl [HO]; · iexact HO
    isplitl [HA']; · iexact HA'
    isplitl [HE']; · iexact HE'
    isplitl [HT']; · iexact HT'
    iexact HS0'
  iintro ⟨HO, HA', HE', HT'⟩
  iapply (Tri.seq (send_ready m κ ν c _ 0 0 1 (by omega) (by omega) (by omega) (dev_first c 0 1) 0 1 rfl rfl (Ow_s0 c (show 1 < 28 by omega)))) $$ [HO HA HE HT HS1]
  · isplitr; · iexact HR
    isplitr; · iapply (barP_ready c 0 (show 1 < 4 by omega)); iexact HP0
    isplitl [HO]; · iexact HO
    isplitl [HA]; · iexact HA
    isplitl [HE]; · iexact HE
    isplitl [HT]; · iexact HT
    iexact HS1
  iintro ⟨HO, HA, HE, HT⟩
  iapply (Tri.seq (send_ready m κ ν c _ 1 0 1 (by omega) (by omega) (by omega) (dev_first c 1 1) 0 1 rfl rfl (Ow_s1 c (show 1 < 28 by omega)))) $$ [HO HA' HE' HT' HS1']
  · isplitr; · iexact HR
    isplitr; · iapply (barP_ready c 1 (show 1 < 4 by omega)); iexact HP1
    isplitl [HO]; · iexact HO
    isplitl [HA']; · iexact HA'
    isplitl [HE']; · iexact HE'
    isplitl [HT']; · iexact HT'
    iexact HS1'
  iintro ⟨HO, HA', HE', HT'⟩
  icases (lAll_iff c fl).1 $$ HL with ⟨HL, HL'⟩
  iapply (Tri.seq (nextGemm_tri m κ ν c 0 0 2 _ (by omega) (by omega) (hA 2 2 0 0))) $$ [HO HX0 HW HL]
  · isplitr; · iexact HR
    isplitl [HO]; · iexact HO
    isplitl [HX0]; · iexact HX0
    isplitl [HW]; · iexact HW
    iexists fl; iexact HL
  iintro ⟨HO, HX0, HW, HL⟩
  iapply (Tri.seq (nextGemm_tri m κ ν c 1 0 2 _ (by omega) (by omega) (hA 2 2 0 0))) $$ [HO HX1 HW HL']
  · isplitr; · iexact HR
    isplitl [HO]; · iexact HO
    isplitl [HX1]; · iexact HX1
    isplitl [HW]; · iexact HW
    iexists fl; iexact HL'
  iintro ⟨HO, HX1, HW, HL'⟩
  iapply (Tri.seq (nextLoad_tri m κ ν c 0 1 2 _ (by omega) (by omega))) $$ [HX0]
  · isplitr; · iexact HR
    iexact HX0
  iintro HX0
  iapply (nextLoad_tri m κ ν c 1 1 2 _ (by omega) (by omega) Q) $$ [HX1]
  · isplitr; · iexact HR
    iexact HX1
  iintro HX1
  iapply HQ
  isplitr
  · unfold ctx
    isplitr; · iexact HR
    isplitr; · iexact HP0
    iexact HP1
  isplitr [HBa]
  · unfold SumSt Net
    isplitr [HX0 HX1 HW HL HL']
    · isplitl [HO]; · iexact HO
      isplitl [HA HB HC HE HT HK HG HI]
      · iapply (chan_start m c 0)
        isplitl [HA HB HC]
        · isplitl [HA]; · iexact HA
          isplitl [HB]; · iexact HB
          iexact HC
        isplitl [HE]; · iexact HE
        isplitl [HT]; · iexact HT
        isplitl [HK]; · iexact HK
        isplitl [HG]; · iexact HG
        iexact HI
      iapply (chan_start m c 1)
      isplitl [HA' HB' HC']
      · isplitl [HA']; · iexact HA'
        isplitl [HB']; · iexact HB'
        iexact HC'
      isplitl [HE']; · iexact HE'
      isplitl [HT']; · iexact HT'
      isplitl [HK']; · iexact HK'
      isplitl [HG']; · iexact HG'
      iexact HI'
    isplitl [HX0 HX1]
    · isplitl [HX0]; · iexact HX0
      iexact HX1
    isplitl [HW]; · iexact HW
    iapply (lAll_iff c (locC m 0 c)).2
    isplitl [HL]; · iexact HL
    iexact HL'
  iexact HBa

end Cert.Proof

end
-- ==== Proof.Body.lean ====
/-
  The whole body: what a device starts from and what it ends with.
-/
module

public import proofs.«01_k».proof.Proof.Entry

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

/-- What a device has of the result at the start. -/
def Out0 (c : Dev nD) : sProp 𝕄 := iprop((∃ f, b7 c f) ∗ outFree m c 0 ∗ pos c kO 0 ∗ Win (outTok c) 0 16)

/-- What a device starts from. -/
def Start (c : Dev nD) : sProp 𝕄 :=
  iprop((Dir0 c 0 ∗ Dir0 c 1) ∗ Bar0 c ∗ (XS m c 0 1 1 ∗ XS m c 1 0 0) ∗ wAll m c ∗ (∃ f, sAll c f) ∗ (∃ f, lAll c f) ∗ Out0 m c)
/-- What it ends with. -/
def Finish (c : Dev nD) : sProp 𝕄 :=
  iprop((Chan m c 0 28 28 24 ∗ Chan m c 1 28 28 24) ∗ atPos ER (cell c kB) 1 ∅ 0 ∗ (XS m c 0 8 8 ∗ XS m c 1 8 8) ∗ wAll m c ∗ sEnd m c ∗ (∃ f, lAll c f)
    ∗ ((∃ f, b7 c f) ∗ outFree m c 16 ∗ pos c kO 16))

theorem Ow_end (c : Dev nD) : Ow c 28 28 24 24 = 0 := by
  unfold Ow; rw [owS_end, owS_end, owC_end, owC_end]; simp only [add_zero]

theorem WP_deviceId (c : Dev nD) (k : Dev nD → TProg F PUnit) (Q : PUnit → sProp 𝕄) : WP c (Prog.op .deviceId k) Q = WP c (k c) Q := wp_deviceId 𝒱₀ (c : Thread nD τ) none Set.univ

theorem body_tri (c : Dev nD) : Tri c iprop(recs m κ ν ∗ own c (O₀ c) ∗ Start m c) body iprop(own c 0 ∗ Finish m c) := fun Q => by
  unfold body Start Out0 Finish
  simp only [lift_bind]
  rw [WP_deviceId]
  iintro ⟨#HR, HO, ⟨HD, HBar, HX, HW, HS, HL, ⟨HB, HF, HA, HT⟩⟩⟩ HK
  iapply (Tri.seq (entry_tri m κ ν c)) $$ [HO HD HBar HX HW HS HL]
  · isplitr; · iexact HR
    isplitl [HO]; · iexact HO
    isplitl [HD]; · iexact HD
    isplitl [HBar]; · iexact HBar
    isplitl [HX]; · iexact HX
    isplitl [HW]; · iexact HW
    isplitl [HS]; · iexact HS
    iexact HL
  iintro ⟨#HX, HS, HBar⟩
  iapply (Tri.seq (hopsSum_tri m κ ν c 7 0 _)) $$ [HS]
  · isplitr; · iexact HX
    iexact HS
  unfold SumSt
  iintro ⟨HN, HT', HW, HL⟩
  iapply (Tri.seq (flushOwn_tri m κ ν c)) $$ [HN HB HF HA HT]
  · isplitr; · iexact HR
    isplitl [HN]; · iexact HN
    isplitl [HB]; · iexact HB
    isplitl [HF]; · iexact HF
    isplitl [HA]; · iexact HA
    iexact HT
  iintro ⟨HN, HF⟩
  iapply (Tri.seq (hopsGather_tri m κ ν c 6 0 _)) $$ [HN HF]
  · isplitr; · iexact HX
    isplitl [HN]; · iexact HN
    iexact HF
  unfold OutSt Net
  iintro ⟨⟨HO, HC⟩, ⟨HF, HA, -⟩, HE⟩
  ihave HO := (Entails.of_eq (congrArg (own (F := F) c) (Ow_end c))) $$ HO
  iapply (outWait_tri m κ ν c 15 (by omega) 1 7 rfl rfl (Above.zero 0) Q) $$ [HF HO HA]
  · isplitr; · iexact HR
    isplitl [HF]; · iexact HF
    isplitl [HO]; · iexact HO
    iexact HA
  iintro ⟨HO, HA, HB, HF⟩
  iapply HK
  isplitl [HO]; · iexact HO
  isplitl [HC]; · iexact HC
  isplitl [HBar]; · iexact HBar
  isplitl [HT']; · iexact HT'
  isplitl [HW]; · iexact HW
  isplitl [HE]; · iexact HE
  isplitl [HL]; · iexists _; iexact HL
  isplitl [HB]; · iexact HB
  isplitl [HF]; · iexact HF
  iexact HA

end Cert.Proof

end
-- ==== Proof.Deal.lean ====
/-
  What the launch hands out: the tokens of every cell, dealt to the devices that pay, and the positions.
-/
module

public import proofs.«01_k».proof.Proof.Body

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

/-! ## The cells of a device, one by one -/

theorem win_fin (n : ℕ) (Φ : ℕ → sProp 𝕄) : (bigSep Finset.univ fun i : Fin n => Φ i.val) = Win Φ 0 n := by
  unfold Win
  have h : Finset.Ico 0 n = (Finset.univ : Finset (Fin n)).map Fin.valEmbedding := by
    ext x
    simp only [Finset.mem_Ico, Finset.mem_map, Finset.mem_univ, true_and]
    exact ⟨fun hx => ⟨⟨x, hx.2⟩, rfl⟩, fun ⟨y, hy⟩ => ⟨Nat.zero_le _, hy ▸ y.isLt⟩⟩
  rw [h, bigSep_map]; rfl
theorem two_fin (n : ℕ) (Φ : Fin 2 → ℕ → sProp 𝕄) :
    (bigSep Finset.univ fun x : Fin 2 × Fin n => Φ x.1 x.2.val) = iprop(Win (Φ 0) 0 n ∗ Win (Φ 1) 0 n) := by
  rw [bigSep_univ_prod, bigSep_fin_two, win_fin n (Φ 0), win_fin n (Φ 1)]; rfl

theorem four (Φ : Fin 2 → Fin 2 → sProp 𝕄) (a : ℕ) (h : a % 4 = 0) :
    (bigSep Finset.univ fun x : Fin 2 × Fin 2 => Φ x.1 x.2) = Win (fun i => Φ (eS i) (eH i)) a (a + 4) := by
  rw [win_pop _ (by omega), win_pop _ (by omega), win_pop _ (by omega), win_pop _ (by omega), win_nil, bigSep_univ_prod, bigSep_fin_two, bigSep_fin_two, bigSep_fin_two]
  have e0 : eS a = 0 ∧ eH a = 0 := ⟨Fin.ext (by show a / 2 % 2 = 0; omega), Fin.ext (by show a % 2 = 0; omega)⟩
  have e1 : eS (a + 1) = 0 ∧ eH (a + 1) = 1 := ⟨Fin.ext (by show (a + 1) / 2 % 2 = 0; omega), Fin.ext (by show (a + 1) % 2 = 1; omega)⟩
  have e2 : eS (a + 1 + 1) = 1 ∧ eH (a + 1 + 1) = 0 := ⟨Fin.ext (by show (a + 1 + 1) / 2 % 2 = 1; omega), Fin.ext (by show (a + 1 + 1) % 2 = 0; omega)⟩
  have e3 : eS (a + 1 + 1 + 1) = 1 ∧ eH (a + 1 + 1 + 1) = 1 :=
    ⟨Fin.ext (by show (a + 1 + 1 + 1) / 2 % 2 = 1; omega), Fin.ext (by show (a + 1 + 1 + 1) % 2 = 1; omega)⟩
  rw [e0.1, e0.2, e1.1, e1.2, e2.1, e2.2, e3.1, e3.2]
  refine BI.Entails.antisymm ?_ ?_
  · show iprop((Φ 0 0 ∗ Φ 0 1) ∗ (Φ 1 0 ∗ Φ 1 1)) ⊢ iprop(Φ 0 0 ∗ Φ 0 1 ∗ Φ 1 0 ∗ Φ 1 1 ∗ emp)
    iintro ⟨⟨H0, H1⟩, H2, H3⟩
    isplitl [H0]; · iexact H0
    isplitl [H1]; · iexact H1
    isplitl [H2]; · iexact H2
    isplitl [H3]; · iexact H3
    iempintro
  · show iprop(Φ 0 0 ∗ Φ 0 1 ∗ Φ 1 0 ∗ Φ 1 1 ∗ emp) ⊢ iprop((Φ 0 0 ∗ Φ 0 1) ∗ (Φ 1 0 ∗ Φ 1 1))
    iintro ⟨H0, H1, H2, H3, -⟩
    isplitl [H0 H1]
    · isplitl [H0] <;> iassumption
    isplitl [H2] <;> iassumption

theorem eight (Φ : Fin 2 → Fin 2 → Fin 2 → sProp 𝕄) (a : ℕ) (h : a % 4 = 0) :
    (bigSep Finset.univ fun x : Fin 2 × Fin 2 × Fin 2 => Φ x.1 x.2.1 x.2.2)
      = iprop(Win (fun i => Φ 0 (eS i) (eH i)) a (a + 4) ∗ Win (fun i => Φ 1 (eS i) (eH i)) a (a + 4)) := by
  rw [bigSep_univ_prod, bigSep_fin_two, four (Φ 0) a h, four (Φ 1) a h]; rfl

/-- A device's own cells. -/
theorem split_own (Φ : CK → sProp 𝕄) (a : ℕ) (h : a % 4 = 0) :
    (bigSep Finset.univ fun k : CK0 => Φ (.inl k)) = iprop((Win (fun i => Φ (kS 0 (eS i) (eH i))) a (a + 4) ∗ Win (fun i => Φ (kS 1 (eS i) (eH i))) a (a + 4))
      ∗ (Win (fun i => Φ (kR 0 (eS i) (eH i))) a (a + 4) ∗ Win (fun i => Φ (kR 1 (eS i) (eH i))) a (a + 4))
      ∗ ((Φ (kX 0 0) ∗ Φ (kX 0 1)) ∗ (Φ (kX 1 0) ∗ Φ (kX 1 1))) ∗ (Φ (kC 0) ∗ Φ (kC 1)) ∗ Φ kO) := by
  rw [bigSep_univ_sum, bigSep_univ_sum, bigSep_univ_sum, bigSep_univ_sum, eight (fun d sl s => Φ (kS d sl s)) a h, eight (fun d sl s => Φ (kR d sl s)) a h,
    bigSep_univ_prod, bigSep_fin_two, bigSep_fin_two, bigSep_fin_two, bigSep_fin_two, show (Finset.univ : Finset Unit) = {()} from rfl, bigSep_singleton]; rfl
/-- All its cells. -/
theorem split_all (Φ : CK → sProp 𝕄) : bigSep Finset.univ Φ = iprop((bigSep Finset.univ fun k : CK0 => Φ (.inl k)) ∗ Φ kB) := by
  rw [bigSep_univ_sum, show (Finset.univ : Finset Unit) = {()} from rfl, bigSep_singleton]; rfl

/-! ## The tokens -/

abbrev TI : Type := (Fin 2 × Fin 28) ⊕ (Fin 2 × Fin 28) ⊕ (Fin 2 × Fin 24) ⊕ (Fin 2 × Fin 8) ⊕ Fin 16 ⊕ Fin 2

/-- A payment: the cell, the round, and which of the round's payments. -/
def tokK : TI → CK × ℕ × ℕ
  | .inl (d, p) => (kS d (eS p) (eH p), p / 4, 0)
  | .inr (.inl (d, p)) => (kR d (eS p) (eH p), p / 4, 0)
  | .inr (.inr (.inl (d, i))) => (kC d, 0, i)
  | .inr (.inr (.inr (.inl (d, e)))) => (kX d (slot (e + 1)), e / 2, 0)
  | .inr (.inr (.inr (.inr (.inl n)))) => (kO, n, 0)
  | .inr (.inr (.inr (.inr (.inr b)))) => (kB, 0, b)
theorem tokK_inj : Function.Injective tokK := by decide +kernel

def tokOf (x : Dev nD × TI) : GSem nD τ sig × ℕ × ℕ := (cell x.1 (tokK x.2).1, (tokK x.2).2)
theorem tokOf_inj : Function.Injective tokOf := by
  rintro ⟨c, t⟩ ⟨c', t'⟩ h
  have h1 := cell_inj (a₁ := (c, (tokK t).1)) (a₂ := (c', (tokK t').1)) (congrArg Prod.fst h)
  have h2 : (tokK t).2 = (tokK t').2 := congrArg (fun x : GSem nD τ sig × ℕ × ℕ => x.2) h
  have h3 : t = t' := tokK_inj (Prod.ext (congrArg (fun x : Dev nD × CK => x.2) h1) h2)
  exact Prod.ext (congrArg (fun x : Dev nD × CK => x.1) h1) h3

def allCells : Finset (GSem nD τ sig) := Finset.univ.map ⟨fun ck : Dev nD × CK => cell ck.1 ck.2, cell_inj⟩
def allToks : Finset (GSem nD τ sig × ℕ × ℕ) := Finset.univ.map ⟨tokOf, tokOf_inj⟩
def u₀ : UU :=
  (initOf (Pipeline.cells cfgs cellOf_inj) (Pipeline.launchToks cfgs cellOf_inj), (initOf allCells allToks, Release.initSlots Finset.univ 7))

def tS (d : Fin 2) (c : Dev nD) : sProp 𝕄 := Win (fun p => dutyTok ER (cell c (kS d (eS p) (eH p))) (p / 4) 0) 0 28
def tR (d : Fin 2) (c : Dev nD) : sProp 𝕄 := Win (fun p => dutyTok ER (cell c (kR d (eS p) (eH p))) (p / 4) 0) 0 28
def tC (d : Fin 2) (c : Dev nD) : sProp 𝕄 := Win (fun i => dutyTok ER (cell c (kC d)) 0 i) 0 24
def tB (b : ℕ) (c : Dev nD) : sProp 𝕄 := dutyTok ER (cell c kB) 0 b
def tW (d : Fin 2) (c : Dev nD) : sProp 𝕄 := Win (fun p => writeTok EL (c, d, eS p, eH p) (p / 4 + 1)) 0 28

/-- The payments into a device's own cells; -/
def Owned (c : Dev nD) : sProp 𝕄 :=
  iprop((tS 0 c ∗ tS 1 c) ∗ (tR 0 c ∗ tR 1 c) ∗ (tC 0 c ∗ tC 1 c) ∗ (Win (xTok c 0) 0 8 ∗ Win (xTok c 1) 0 8) ∗ Win (outTok c) 0 16 ∗ (tB 0 c ∗ tB 1 c))
/-- and those that it makes. -/
def Paid (c : Dev nD) : sProp 𝕄 :=
  iprop((tS 0 c ∗ tS 1 c) ∗ (tR 0 (dst 0 c) ∗ tR 1 (dst 1 c)) ∗ (tC 0 (up 0 c) ∗ tC 1 (up 1 c)) ∗ (Win (xTok c 0) 0 8 ∗ Win (xTok c 1) 0 8) ∗ Win (outTok c) 0 16
    ∗ (tB 0 (dst 1 c) ∗ tB 1 (dst 0 c)))

theorem toks_owned : bigSep allToks (fun x => (dutyTok ER x.1 x.2.1 x.2.2 : sProp 𝕄)) = bigSep Finset.univ fun c : Dev nD => Owned c := by
  unfold allToks
  rw [bigSep_map, bigSep_univ_prod]
  refine bigSep_congr fun c _ => ?_
  rw [bigSep_univ_sum, bigSep_univ_sum, bigSep_univ_sum, bigSep_univ_sum, bigSep_univ_sum]
  unfold Owned tS tR tC tB
  rw [← two_fin 28 (fun d p => dutyTok ER (cell c (kS d (eS p) (eH p))) (p / 4) 0), ← two_fin 28 (fun d p => dutyTok ER (cell c (kR d (eS p) (eH p))) (p / 4) 0),
    ← two_fin 24 (fun d i => dutyTok ER (cell c (kC d)) 0 i), ← two_fin 8 (fun d e => xTok c d e), ← win_fin 16 (fun n => outTok c n)]
  refine congrArg₂ _ rfl (congrArg₂ _ rfl (congrArg₂ _ rfl (congrArg₂ _ rfl (congrArg₂ _ rfl ?_))))
  rw [bigSep_fin_two]; rfl

theorem around (e : Dev nD ≃ Dev nD) (Φ : Dev nD → sProp 𝕄) : bigSep Finset.univ Φ ⊢ bigSep Finset.univ fun c => Φ (e c) :=
  Entails.of_eq (bigSep_univ_equiv e Φ)

theorem deal : (bigSep Finset.univ fun c : Dev nD => Owned (F := F) c) ⊢ bigSep Finset.univ fun c : Dev nD => Paid c := by
  unfold Owned Paid
  simp only [bigSep_sep']
  exact BI.sep_mono (BI.Entails.refl _) (BI.sep_mono (BI.sep_mono (around (dstEquiv 0) (tR 0)) (around (dstEquiv 1) (tR 1)))
    (BI.sep_mono (BI.sep_mono (around (upEquiv 0) (tC 0)) (around (upEquiv 1) (tC 1))) (BI.sep_mono (BI.Entails.refl _) (BI.sep_mono (BI.Entails.refl _)
      (BI.sep_mono (around (dstEquiv 1) (tB 0)) (around (dstEquiv 0) (tB 1)))))))

/-! ## The slots -/

abbrev WI : Type := Dev nD × Fin 2 × Fin 28
def wOf (x : WI) : SK × ℕ := ((x.1, x.2.1, eS x.2.2, eH x.2.2), x.2.2.val / 4)
theorem wOf_inj : Function.Injective wOf := by
  rintro ⟨c, d, p⟩ ⟨c', d', p'⟩ h
  simp only [wOf, Prod.mk.injEq] at h
  obtain ⟨⟨h1, h2, h3, h4⟩, h5⟩ := h
  have h3' := congrArg Fin.val h3
  have h4' := congrArg Fin.val h4
  simp only [slot] at h3' h4'
  rw [h1, h2, show p = p' from Fin.ext (by omega)]

theorem writes_dealt : bigSep ((Finset.univ : Finset SK) ×ˢ Finset.range 7) (fun x => (writeTok EL x.1 (x.2 + 1) : sProp 𝕄))
    ⊢ bigSep Finset.univ fun c : Dev nD => iprop(tW 0 (dst 0 c) ∗ tW 1 (dst 1 c)) := by
  have sub : (Finset.univ : Finset WI).map ⟨wOf, wOf_inj⟩ ⊆ (Finset.univ : Finset SK) ×ˢ Finset.range 7 := fun y hy => by
    obtain ⟨x, -, rfl⟩ := Finset.mem_map.mp hy
    exact Finset.mem_product.mpr ⟨Finset.mem_univ _, Finset.mem_range.mpr (by have := x.2.2.isLt; show x.2.2.val / 4 < 7; omega)⟩
  refine (bigSep_subset sub).trans ?_
  rw [bigSep_map, bigSep_univ_prod]
  have e : ∀ c : Dev nD, (bigSep Finset.univ fun b : Fin 2 × Fin 28 => (writeTok EL (wOf (c, b)).1 ((wOf (c, b)).2 + 1) : sProp 𝕄)) = iprop(tW 0 c ∗ tW 1 c) :=
    fun c => two_fin 28 (fun d p => writeTok EL (c, d, eS p, eH p) (p / 4 + 1))
  refine (Entails.of_eq (bigSep_congr fun c _ => e c)).trans ?_
  rw [bigSep_sep', bigSep_sep']
  iintro ⟨H0, H1⟩
  isplitl [H0]
  · iapply (around (dstEquiv 0) (tW (F := F) 0)); iexact H0
  iapply (around (dstEquiv 1) (tW (F := F) 1)); iexact H1

def rd (c : Dev nD) (d : Fin 2) (i : ℕ) : sProp 𝕄 := readerAt EL (c, d, eS i, eH i) 0
theorem readers_eq : bigSep (Finset.univ : Finset SK) (fun k => (readerAt EL k 0 : sProp 𝕄))
    = bigSep Finset.univ fun c : Dev nD => iprop(Win (rd c 0) 0 4 ∗ Win (rd c 1) 0 4) := by
  rw [bigSep_univ_prod]
  exact bigSep_congr fun c _ => eight (fun d sl s => readerAt EL (c, d, sl, s) 0) 0 rfl

/-! ## What the launch element gives each device -/

def slotRecs : sProp 𝕄 := iprop(∃ ν : SK → ℕ, bigSep Finset.univ fun k : SK => slotInv EL (ν k) k (Sl k))
instance slotRecs_persistent : BI.Persistent (slotRecs (F := F)) := by unfold slotRecs; infer_instance

def G (c : Dev nD) : sProp 𝕄 :=
  iprop((bigSep Finset.univ fun k : CK => roundState ER (Rd m) (cell c k) 0)
    ∗ (bigSep Finset.univ fun k : CK => atPos ER (cell c k) 0 ∅ 0) ∗ (bigSep Finset.univ fun k : CK => reached ER (cell c k) 0)
    ∗ Owned c ∗ (Win (rd c 0) 0 4 ∗ Win (rd c 1) 0 4) ∗ (tW 0 (dst 0 c) ∗ tW 1 (dst 1 c)) ∗ slotRecs)

theorem G_all : bigSep Finset.univ (G m) = iprop((bigSep Finset.univ fun c : Dev nD => bigSep Finset.univ fun k : CK => roundState ER (Rd m) (cell c k) 0)
    ∗ (bigSep Finset.univ fun c : Dev nD => bigSep Finset.univ fun k : CK => atPos ER (cell c k) 0 ∅ 0)
    ∗ (bigSep Finset.univ fun c : Dev nD => bigSep Finset.univ fun k : CK => reached ER (cell c k) 0)
    ∗ (bigSep Finset.univ fun c : Dev nD => Owned c) ∗ (bigSep Finset.univ fun c : Dev nD => iprop(Win (rd c 0) 0 4 ∗ Win (rd c 1) 0 4))
    ∗ (bigSep Finset.univ fun c : Dev nD => iprop(tW 0 (dst 0 c) ∗ tW 1 (dst 1 c))) ∗ bigSep Finset.univ fun _ : Dev nD => slotRecs) := by
  unfold G
  rw [bigSep_sep' _ (fun c : Dev nD => bigSep Finset.univ fun k : CK => roundState ER (Rd m) (cell c k) 0),
    bigSep_sep' _ (fun c : Dev nD => bigSep Finset.univ fun k : CK => (atPos ER (cell c k) 0 ∅ 0 : sProp 𝕄)),
    bigSep_sep' _ (fun c : Dev nD => bigSep Finset.univ fun k : CK => (reached ER (cell c k) 0 : sProp 𝕄)),
    bigSep_sep' _ (fun c : Dev nD => Owned (F := F) c), bigSep_sep' _ (fun c : Dev nD => iprop(Win (rd (F := F) c 0) 0 4 ∗ Win (rd c 1) 0 4)),
    bigSep_sep' _ (fun c : Dev nD => iprop(tW (F := F) 0 (dst 0 c) ∗ tW 1 (dst 1 c)))]

theorem own_pair (a : URounds (GSem nD τ sig) ℕ) (b : USlots SK) :
    BI.own (embR (a, b) : MT nD τ sig ℕ (Elt F) ℕ UU ℕ) ⊢ iprop(BI.own (ER a) ∗ BI.own (EL b)) :=
  BI.own_op_elim ((embR : Emb _ (MT nD τ sig ℕ (Elt F) ℕ UU ℕ)).op_of_mem (Prod.mk_mem_op (URA.mem_op_one a) (URA.mem_one_op b)))

theorem cells_eq (Φ : GSem nD τ sig → sProp 𝕄) : bigSep allCells Φ = bigSep Finset.univ fun c : Dev nD => bigSep Finset.univ fun k : CK => Φ (cell c k) := by
  unfold allCells; rw [bigSep_map, bigSep_univ_prod]; rfl

theorem fund_all : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair (F := F) _ _) $$ HX
  icases H with ⟨HX, HY⟩
  imod (Rounds.fund ER (Rd m) allCells allToks) $$ HX with ⟨Hst, Hr, Hat, Htok⟩
  imod (Release.slots_init EL (Finset.univ : Finset SK) 7 (Sl (F := F))) $$ HY with ⟨%ν, -, #HI, Hrd, Hwr⟩
  imodintro
  isplitl [HP]; · iexact HP
  ihave Hst := (Entails.of_eq (cells_eq fun g => roundState ER (Rd m) g 0)) $$ Hst
  ihave Hat := (Entails.of_eq (cells_eq (F := F) fun g => atPos ER g 0 ∅ 0)) $$ Hat
  ihave Hr := (Entails.of_eq (cells_eq (F := F) fun g => reached ER g 0)) $$ Hr
  ihave Htok := (Entails.of_eq (toks_owned (F := F))) $$ Htok
  ihave Hrd := (Entails.of_eq (readers_eq (F := F))) $$ Hrd
  ihave Hwr := (writes_dealt (F := F)) $$ Hwr
  rw [G_all]
  isplitl [Hst]; · iexact Hst
  isplitl [Hat]; · iexact Hat
  isplitl [Hr]; · iexact Hr
  isplitl [Htok]; · iexact Htok
  isplitl [Hrd]; · iexact Hrd
  isplitl [Hwr]; · iexact Hwr
  iapply (BI.bigSep_of_persistent (Finset.univ : Finset (Dev nD)) (slotRecs (F := F)))
  unfold slotRecs
  iexists ν
  iexact HI

end Cert.Proof

end
-- ==== Proof.Glob.lean ====
/-
  Every cell gets its invariant, and every device its positions and payments.
-/
module

public import proofs.«01_k».proof.Proof.Deal

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ)

/-- The record of every cell. -/
def cellRecs : sProp 𝕄 := iprop(∃ κ : Dev nD × CK → ℕ, bigSep Finset.univ fun ck : Dev nD × CK => cellInv ER (Rd m) (κ ck) (cell ck.1 ck.2))
instance cellRecs_persistent : BI.Persistent (cellRecs (F := F) m) := by unfold cellRecs; infer_instance
def allReached : sProp 𝕄 := bigSep Finset.univ fun ck : Dev nD × CK => reached ER (cell ck.1 ck.2) 0
instance allReached_persistent : BI.Persistent (allReached (F := F)) := by unfold allReached; infer_instance

/-- What is the device's alone. -/
def lin (c : Dev nD) : sProp 𝕄 :=
  iprop((bigSep Finset.univ fun k : CK => atPos ER (cell c k) 0 ∅ 0) ∗ Paid c ∗ (Win (rd c 0) 0 4 ∗ Win (rd c 1) 0 4) ∗ (tW 0 (dst 0 c) ∗ tW 1 (dst 1 c)))
def everyone : sProp 𝕄 := iprop(cellRecs m ∗ slotRecs ∗ allReached)
instance everyone_persistent : BI.Persistent (everyone (F := F) m) := by unfold everyone; infer_instance
def G' (c : Dev nD) : sProp 𝕄 := iprop(everyone m ∗ lin c)

theorem unscopedSems0_eq (c : Dev nD) : (unscopedSems0 c : sProp 𝕄) = semVal (cell c kB) 0 := by
  unfold unscopedSems0; rw [bigSep_eq_bigSepL_of_eq [SemLoc.reg qB] (by decide) (by decide)]; rfl
theorem sems_eq (c : Dev nD) :
    iprop(Pipeline.ownSems0 (Ix := ℕ) (Name := ℕ) (U := UU) (Lvl := ℕ) (Val := Elt F) (τ := τ) osem c ∗ unscopedSems0 c)
      = (bigSep Finset.univ fun k : CK => semVal (cell c k) 0 : sProp 𝕄) := by
  rw [split_all, unscopedSems0_eq]; rfl

theorem core_alloc (c : Dev nD) :
    iprop((Pipeline.ownSems0 (Ix := ℕ) (Name := ℕ) (U := UU) (Lvl := ℕ) (Val := Elt F) (τ := τ) osem c ∗ unscopedSems0 c)
        ∗ bigSep Finset.univ fun k : CK => roundState ER (Rd m) (cell c k) 0)
      ⊢ |={Set.univ}=> bigSep Finset.univ fun k : CK => iprop(∃ κ : ℕ, cellInv ER (Rd m) κ (cell c k)) := by
  rw [sems_eq, ← bigSep_sep']
  exact (bigSep_mono fun k _ => (Rounds.body_intro ER (Rd m) (cell c k)).trans inv_alloc).trans (bigSep_fupd _ _)

theorem lin_all : bigSep Finset.univ (lin (F := F)) = iprop((bigSep Finset.univ fun c : Dev nD => bigSep Finset.univ fun k : CK => atPos ER (cell c k) 0 ∅ 0)
    ∗ (bigSep Finset.univ fun c : Dev nD => Paid c) ∗ (bigSep Finset.univ fun c : Dev nD => iprop(Win (rd c 0) 0 4 ∗ Win (rd c 1) 0 4))
    ∗ (bigSep Finset.univ fun c : Dev nD => iprop(tW 0 (dst 0 c) ∗ tW 1 (dst 1 c)))) := by
  unfold lin
  rw [bigSep_sep' _ (fun c : Dev nD => bigSep Finset.univ fun k : CK => (atPos ER (cell c k) 0 ∅ 0 : sProp 𝕄)),
    bigSep_sep' _ (fun c : Dev nD => Paid (F := F) c), bigSep_sep' _ (fun c : Dev nD => iprop(Win (rd (F := F) c 0) 0 4 ∗ Win (rd c 1) 0 4))]

theorem sems_all : (bigSep Finset.univ fun c => iprop(Pipeline.ownSems0 (Ix := ℕ) (Name := ℕ) (U := UU) (Lvl := ℕ) (Val := Elt F) (τ := τ) osem c
      ∗ unscopedSems0 c ∗ G m c) : sProp 𝕄)
    ⊢ iprop((bigSep Finset.univ fun c => iprop(Pipeline.ownSems0 (Ix := ℕ) (Name := ℕ) (U := UU) (Lvl := ℕ) (Val := Elt F) (τ := τ) osem c
      ∗ unscopedSems0 c)) ∗ bigSep Finset.univ (G m)) := by
  rw [← bigSep_sep']
  have h (c : Dev nD) : iprop(Pipeline.ownSems0 (Ix := ℕ) (Name := ℕ) (U := UU) (Lvl := ℕ) (Val := Elt F) (τ := τ) osem c ∗ unscopedSems0 c ∗ G m c)
      ⊢ iprop((Pipeline.ownSems0 (Ix := ℕ) (Name := ℕ) (U := UU) (Lvl := ℕ) (Val := Elt F) (τ := τ) osem c ∗ unscopedSems0 c) ∗ G m c) := by
    iintro ⟨H1, H2, H3⟩
    isplitl [H1 H2]
    · isplitl [H1] <;> iassumption
    iexact H3
  exact bigSep_mono fun c _ => h c

theorem cells_alloc : iprop((bigSep Finset.univ fun c => iprop(Pipeline.ownSems0 (Ix := ℕ) (Name := ℕ) (U := UU) (Lvl := ℕ) (Val := Elt F) (τ := τ) osem c
      ∗ unscopedSems0 c)) ∗ bigSep Finset.univ fun c : Dev nD => bigSep Finset.univ fun k : CK => roundState ER (Rd m) (cell c k) 0)
    ⊢ |={Set.univ}=> cellRecs m := by
  rw [← bigSep_sep']
  have h1 : (bigSep Finset.univ fun c => iprop((Pipeline.ownSems0 (Ix := ℕ) (Name := ℕ) (U := UU) (Lvl := ℕ) (Val := Elt F) (τ := τ) osem c ∗ unscopedSems0 c)
        ∗ bigSep Finset.univ fun k : CK => roundState ER (Rd m) (cell c k) 0) : sProp 𝕄)
      ⊢ |={Set.univ}=> bigSep Finset.univ fun c : Dev nD => bigSep Finset.univ fun k : CK => iprop(∃ κ : ℕ, cellInv ER (Rd m) κ (cell c k)) :=
    (bigSep_mono fun c _ => core_alloc m c).trans (bigSep_fupd _ _)
  have h2 : (bigSep Finset.univ fun c : Dev nD => bigSep Finset.univ fun k : CK => iprop(∃ κ : ℕ, cellInv ER (Rd m) κ (cell c k))) ⊢ cellRecs m := by
    rw [← bigSep_univ_prod (fun ck : Dev nD × CK => iprop(∃ κ : ℕ, cellInv ER (Rd m) κ (cell ck.1 ck.2)))]
    unfold cellRecs
    exact BI.bigSep_exists_pi Finset.univ (fun (ck : Dev nD × CK) (κ : ℕ) => (cellInv ER (Rd m) κ (cell ck.1 ck.2) : sProp 𝕄))
  iintro H
  imod h1 $$ H with H
  imodintro
  iapply h2
  iexact H

theorem glob : (bigSep Finset.univ fun c => iprop(Pipeline.ownSems0 (Ix := ℕ) (Name := ℕ) (U := UU) (Lvl := ℕ) (Val := Elt F) (τ := τ) osem c
      ∗ unscopedSems0 c ∗ G m c) : sProp 𝕄) ⊢ |={Set.univ}=> bigSep Finset.univ (G' m) := by
  have hrec : (bigSep Finset.univ fun _ : Dev nD => slotRecs (F := F)) ⊢ slotRecs :=
    BI.bigSep_elim (Φ := fun _ : Dev nD => slotRecs (F := F)) (Finset.mem_univ (0 : Dev nD))
  iintro H
  ihave H := (sems_all m) $$ H
  icases H with ⟨Hs, HG⟩
  ihave HG := (Entails.of_eq (G_all m)) $$ HG
  icases HG with ⟨Hst, Hat, Hr, Htok, Hrd, Hwr, Hsl⟩
  imod (cells_alloc m) $$ [Hs Hst] with #HI
  · isplitl [Hs] <;> iassumption
  ihave Hsl := hrec $$ Hsl
  icases Hsl with #Hsl
  ihave Hr := (Entails.of_eq (bigSep_univ_prod (fun ck : Dev nD × CK => (reached ER (cell ck.1 ck.2) 0 : sProp 𝕄))).symm) $$ Hr
  icases Hr with #Hr
  ihave Htok := (deal (F := F)) $$ Htok
  imodintro
  unfold G'
  rw [bigSep_sep' _ (fun _ : Dev nD => everyone m), lin_all]
  isplitr
  · iapply (BI.bigSep_of_persistent (Finset.univ : Finset (Dev nD)) (everyone m))
    unfold everyone allReached
    isplitr; · iexact HI
    isplitr; · iexact Hsl
    iexact Hr
  isplitl [Hat]; · iexact Hat
  isplitl [Htok]; · iexact Htok
  isplitl [Hrd]; · iexact Hrd
  iexact Hwr

/-! ## The credits of the launch -/

theorem creds_recv (c : Dev nD) (d : Fin 2) : (Pipeline.launchCred (fun c => owS c d 0) c : sProp 𝕄) ⊢ Win (recvTok c d) 0 28 := by
  unfold owS
  rw [Pipeline.launchCred_sum]
  exact bigSep_mono fun i _ => Pipeline.launchCred_tallyAt (semOf (kR d (eS i) (eH i))) (dst d) (up d) (dst_up d) (up_dst d) (i / 2) N c
theorem creds_grant (c : Dev nD) (d : Fin 2) : (Pipeline.launchCred (fun c => owC c d 0) c : sProp 𝕄) ⊢ Win (credTok c d) 0 24 := by
  unfold owC
  rw [Pipeline.launchCred_sum]
  exact bigSep_mono fun i _ => Pipeline.launchCred_tallyAt (semOf (kC d)) (up d) (dst d) (up_dst d) (dst_up d) (i / 2) 1 c

theorem creds (c : Dev nD) : (Pipeline.launchCred O₀ c : sProp 𝕄) ⊢ iprop(((Win (recvTok c 0) 0 28 ∗ Win (recvTok c 1) 0 28)
    ∗ (Win (credTok c 0) 0 24 ∗ Win (credTok c 1) 0 24)) ∗ cred (tallyAt (cell c kB) 0 2)) := by
  have hb (d : Fin 2) : (Pipeline.launchCred (fun c => tallyAt (cell (dst d c) kB) 0 1) c : sProp 𝕄) ⊢ cred (tallyAt (cell c kB) 0 1) :=
    Pipeline.launchCred_tallyAt (semOf kB) (dst d) (up d) (dst_up d) (up_dst d) 0 1 c
  have e : (Pipeline.launchCred O₀ c : sProp 𝕄) = iprop(((((Pipeline.launchCred (fun c => owS c 0 0) c ∗ Pipeline.launchCred (fun c => owS c 1 0) c)
      ∗ (Pipeline.launchCred (fun c => owC c 0 0) c ∗ Pipeline.launchCred (fun c => owC c 1 0) c))
      ∗ Pipeline.launchCred (fun c => tallyAt (cell (dst 0 c) kB) 0 1) c) ∗ Pipeline.launchCred (fun c => tallyAt (cell (dst 1 c) kB) 0 1) c)) := by
    rw [← Pipeline.launchCred_add, ← Pipeline.launchCred_add, ← Pipeline.launchCred_add, ← Pipeline.launchCred_add, ← Pipeline.launchCred_add]; rfl
  have hj : iprop(cred (tallyAt (cell c kB) 0 1) ∗ cred (tallyAt (cell c kB) 0 1)) ⊢ (cred (tallyAt (cell c kB) 0 2) : sProp 𝕄) :=
    (cred_add _ _).2.trans (Entails.of_eq (congrArg cred (tallyAt_add _ _ _ _)))
  rw [e]
  iintro ⟨⟨⟨⟨H1, H2⟩, H3, H4⟩, H5⟩, H6⟩
  isplitl [H1 H2 H3 H4]
  · isplitl [H1 H2]
    · isplitl [H1]
      · iapply (creds_recv c 0); iexact H1
      iapply (creds_recv c 1); iexact H2
    isplitl [H3]
    · iapply (creds_grant c 0); iexact H3
    iapply (creds_grant c 1); iexact H4
  iapply hj
  isplitl [H5]
  · iapply (hb 0); iexact H5
  iapply (hb 1); iexact H6

end Cert.Proof

end
-- ==== Proof.Begin.lean ====
/-
  From what the launch gives a device to what its body starts from, and back from what it ends with.
-/
module

public import proofs.«01_k».proof.Proof.Glob

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

/-! ## Buffers whole and in pieces -/

section Pieces
variable {T : Type} [Fintype T] [DecidableEq T] {ℓ : Loc nD τ sig} {K : T → Finset (Idx ℓ)} (cover : ∀ i, ∃ t, i ∈ K t) (sep : ∀ i t t', i ∈ K t → i ∈ K t' → t = t')
include cover sep

theorem union_univ : Finset.univ.biUnion K = (Finset.univ : Finset (Idx ℓ)) :=
  Finset.eq_univ_iff_forall.mpr fun i => Finset.mem_biUnion.mpr ((cover i).imp fun t h => ⟨Finset.mem_univ t, h⟩)
theorem disjoint_pieces : ∀ t ∈ (Finset.univ : Finset T), ∀ t' ∈ (Finset.univ : Finset T), t ≠ t' → Disjoint (K t) (K t') :=
  fun t _ t' _ hne => Finset.disjoint_left.mpr fun i h h' => hne (sep i t t' h h')
theorem whole_split (f : Buf (Elt F) ℓ) : (ℓ ↦[Finset.univ]{fullShare} f : sProp 𝕄) ⊢ bigSep Finset.univ fun t => iprop(∃ f, ℓ ↦[K t]{fullShare} f) := by
  rw [← union_univ cover sep, pointsTo_biUnion Finset.univ K (disjoint_pieces cover sep)]
  have h (t : T) : (ℓ ↦[K t]{fullShare} f : sProp 𝕄) ⊢ iprop(∃ f, ℓ ↦[K t]{fullShare} f) := by
    iintro H; iexists f; iexact H
  exact bigSep_mono fun t _ => h t
theorem whole_join [Inhabited T] : (bigSep Finset.univ fun t => iprop(∃ f, ℓ ↦[K t]{fullShare} f)) ⊢ (iprop(∃ f : Buf (Elt F) ℓ, ℓ ↦[Finset.univ]{fullShare} f) : sProp 𝕄) := by
  have h1 := BI.bigSep_exists_pi Finset.univ (fun (t : T) (f : Buf (Elt F) ℓ) => (ℓ ↦[K t]{fullShare} f : sProp 𝕄))
  iintro H
  ihave H := h1 $$ H
  icases H with ⟨%fs, H⟩
  ihave H := (pointsTo_biUnion_join Finset.univ K fs (fs default) (disjoint_pieces cover sep)) $$ H
  icases H with ⟨%g, -, H⟩
  iexists g
  rw [← union_univ cover sep]
  iexact H
end Pieces

abbrev pR (x : Fin 2 × Fin 2 × Fin 2) : Finset S2x2x1024x2048.Idx := (mR x.1 x.2.1 x.2.2).view.set
theorem pR_cover (i : S2x2x1024x2048.Idx) : ∃ x, i ∈ pR x := by
  have h : (i 2).val < 1024 := (i 2).isLt
  refine ⟨(i 0, i 1, ⟨(i 2).val / 512, by omega⟩), ?_⟩
  unfold pR; rw [set_mR, mem_rR]
  exact ⟨rfl, rfl, rfl⟩
theorem pR_sep (i : S2x2x1024x2048.Idx) (x y) (h : i ∈ pR x) (h' : i ∈ pR y) : x = y := by
  unfold pR at h h'; rw [set_mR, mem_rR] at h h'
  exact Prod.ext (Fin.ext (h.1.symm.trans h'.1)) (Prod.ext (Fin.ext (h.2.1.symm.trans h'.2.1)) (Fin.ext (h.2.2.symm.trans h'.2.2)))
abbrev pX (x : Fin 2 × Fin 2) : Finset S2x2x1024x1024.Idx := (mX x.1 x.2).view.set
theorem pX_cover (i : S2x2x1024x1024.Idx) : ∃ x, i ∈ pX x := by
  refine ⟨(i 0, i 1), ?_⟩
  unfold pX; rw [set_mX, mem_rX]
  exact ⟨rfl, rfl⟩
theorem pX_sep (i : S2x2x1024x1024.Idx) (x y) (h : i ∈ pX x) (h' : i ∈ pX y) : x = y := by
  unfold pX at h h'; rw [set_mX, mem_rX] at h h'
  exact Prod.ext (Fin.ext (h.1.symm.trans h'.1)) (Fin.ext (h.2.symm.trans h'.2))

def rAll (c : Dev nD) (f : C4 (F := F)) : sProp 𝕄 := M4.view.loc (c : Thread nD τ) ↦[Finset.univ]{fullShare} f
def xAll (c : Dev nD) (f : C6 (F := F)) : sProp 𝕄 := M6.view.loc (c : Thread nD τ) ↦[Finset.univ]{fullShare} f
def slW (c : Dev nD) (d : Fin 2) (i : ℕ) : sProp 𝕄 := Sl (c, d, eS i, eH i)
def xBuf (c : Dev nD) (d sl : Fin 2) : sProp 𝕄 := iprop(∃ f, xPc c d sl f)

theorem rAll_split (c : Dev nD) (f : C4 (F := F)) : rAll c f ⊢ iprop(Win (slW c 0) 0 4 ∗ Win (slW c 1) 0 4) := by
  have h := whole_split (F := F) (ℓ := M4.view.loc (c : Thread nD τ)) (K := pR) pR_cover pR_sep f
  exact h.trans (Entails.of_eq (eight (fun d sl s => Sl (F := F) (c, d, sl, s)) 0 rfl))
theorem rAll_join (c : Dev nD) : iprop(Win (slW (F := F) c 0) 24 28 ∗ Win (slW c 1) 24 28) ⊢ iprop(∃ f, rAll c f) := by
  have h := whole_join (F := F) (ℓ := M4.view.loc (c : Thread nD τ)) (K := pR) pR_cover pR_sep
  exact (Entails.of_eq (eight (fun d sl s => Sl (F := F) (c, d, sl, s)) 24 rfl).symm).trans h
theorem xBufs (c : Dev nD) : (bigSep Finset.univ fun x : Fin 2 × Fin 2 => xBuf (F := F) c x.1 x.2) = iprop((xBuf c 0 0 ∗ xBuf c 0 1) ∗ (xBuf c 1 0 ∗ xBuf c 1 1)) := by
  rw [bigSep_univ_prod, bigSep_fin_two, bigSep_fin_two, bigSep_fin_two]; rfl
theorem xAll_split (c : Dev nD) (f : C6 (F := F)) : xAll c f ⊢ iprop((xBuf c 0 0 ∗ xBuf c 0 1) ∗ (xBuf c 1 0 ∗ xBuf c 1 1)) := by
  have h := whole_split (F := F) (ℓ := M6.view.loc (c : Thread nD τ)) (K := pX) pX_cover pX_sep f
  exact h.trans (Entails.of_eq (xBufs c))
theorem xAll_join (c : Dev nD) : iprop((xBuf (F := F) c 0 0 ∗ xBuf c 0 1) ∗ (xBuf c 1 0 ∗ xBuf c 1 1)) ⊢ iprop(∃ f, xAll c f) := by
  have h := whole_join (F := F) (ℓ := M6.view.loc (c : Thread nD τ)) (K := pX) pX_cover pX_sep
  exact (Entails.of_eq (xBufs c).symm).trans h

/-- The columns of `x` in four shares. -/
theorem inAll_iff (c : Dev nD) : inAll m c fullShare ⊣⊢ iprop((inAll m c (qx 0 0) ∗ inAll m c (qx 0 1)) ∗ (inAll m c (qx 1 0) ∗ inAll m c (qx 1 1))) := by
  have h (q : PShare) : inAll m c q ⊣⊢ iprop(inAll m c q.left ∗ inAll m c q.right) := pointsTo_share (PosShare.mem_left_op_right q)
  constructor
  · iintro H
    icases (h fullShare).1 $$ H with ⟨HL, HR⟩
    isplitl [HL]
    · iapply (h fullShare.left).1; iexact HL
    iapply (h fullShare.right).1; iexact HR
  · iintro ⟨HL, HR⟩
    iapply (h fullShare).2
    isplitl [HL]
    · iapply (h fullShare.left).2; iexact HL
    iapply (h fullShare.right).2; iexact HR

/-! ## The start -/

theorem with_recs {S : Finset ℕ} {Φ Ψ : ℕ → sProp 𝕄} (h : ∀ i ∈ S, iprop(recs m κ ν ∗ Φ i) ⊢ Ψ i) : iprop(recs m κ ν ∗ bigSep S Φ) ⊢ bigSep S Ψ := by
  have h1 : iprop(recs m κ ν ∗ bigSep S Φ) ⊢ bigSep S fun i => iprop(recs m κ ν ∗ Φ i) := by
    rw [bigSep_sep']
    iintro ⟨#HR, H⟩
    isplitr
    · iapply (BI.bigSep_of_persistent S (recs (F := F) m κ ν)); iexact HR
    iexact H
  exact h1.trans (bigSep_mono h)

def aW (c : Dev nD) (k : ℕ → CK) (i : ℕ) : sProp 𝕄 := atPos ER (cell c (k i)) 0 ∅ 0

theorem pos_start (c : Dev nD) (k : CK) : iprop(recs m κ ν ∗ atPos ER (cell c k) 0 ∅ 0) ⊢ pos c k 0 := by
  unfold pos
  iintro ⟨#HR, H⟩
  isplitl [H]; · iexact H
  iapply (recs_reached m κ ν c k); iexact HR

theorem posS_start (c : Dev nD) (d : Fin 2) : iprop(recs m κ ν ∗ Win (aW c fun i => kS d (eS i) (eH i)) 0 4) ⊢ Win (posS c d) 0 4 :=
  with_recs m κ ν fun i hi => by
    have hi' := (Finset.mem_Ico.mp hi).2
    unfold posS; rw [show i / 4 = 0 by omega]; exact pos_start m κ ν c _
theorem posR_start (c : Dev nD) (d : Fin 2) : iprop(recs m κ ν ∗ Win (aW c fun i => kR d (eS i) (eH i)) 0 4) ⊢ Win (posR c d) 0 4 :=
  with_recs m κ ν fun i hi => by
    have hi' := (Finset.mem_Ico.mp hi).2
    unfold posR; rw [show i / 4 = 0 by omega]; exact pos_start m κ ν c _

theorem sendTok_start (c : Dev nD) (d : Fin 2) : iprop(tS (F := F) d c ∗ tR d (dst d c) ∗ tW d (dst d c)) ⊢ Win (sendTok c d) 0 28 := by
  unfold tS tR tW Win
  rw [← bigSep_sep', ← bigSep_sep']
  exact Entails.of_eq rfl
theorem ini_start (c : Dev nD) (d : Fin 2) : iprop(Win (rd (F := F) c d) 0 4 ∗ Win (slW c d) 0 4) ⊢ Win (ini c d) 0 4 := by
  unfold Win
  rw [← bigSep_sep']
  exact Entails.of_eq rfl

theorem dir_start (c : Dev nD) (d : Fin 2) :
    iprop(recs m κ ν ∗ Win (aW c fun i => kS d (eS i) (eH i)) 0 4 ∗ Win (aW c fun i => kR d (eS i) (eH i)) 0 4 ∗ atPos ER (cell c (kC d)) 0 ∅ 0
      ∗ (tS d c ∗ tR d (dst d c) ∗ tW d (dst d c)) ∗ tC d (up d c) ∗ (Win (rd c d) 0 4 ∗ Win (slW c d) 0 4) ∗ Win (recvTok c d) 0 28 ∗ Win (credTok c d) 0 24)
      ⊢ Dir0 c d := by
  rw [show tC (F := F) d (up d c) = Win (grantTok c d) 0 24 from rfl]
  unfold Dir0 chW credSt
  iintro ⟨#HR, HS, HV, HC, HT, HG, HI, H1, H2⟩
  isplitl [HS HV H1]
  · isplitl [HS]
    · iapply (posS_start m κ ν c d)
      isplitr; · iexact HR
      iexact HS
    isplitl [HV]
    · iapply (posR_start m κ ν c d)
      isplitr; · iexact HR
      iexact HV
    iexact H1
  isplitl [HT HC H2]
  · isplitl [HT]
    · iapply (sendTok_start c d); iexact HT
    isplitl [HC]
    · iexists ∅
      rw [bigSep_empty]
      isplitr
      · ipureintro; exact ⟨Finset.empty_subset _, by decide⟩
      isplitl [HC]; · iexact HC
      iempintro
    iexact H2
  isplitl [HG]; · iexact HG
  iapply (ini_start c d); iexact HI

/-- The first of the two slots of direction 0 has nothing to wait for in round 0. -/
theorem xskip (c : Dev nD) : iprop(recs m κ ν ∗ atPos ER (cell c (kX 0 1)) 0 ∅ 0) ⊢ iprop(|={Set.univ}=> pos c (kX 0 1) 1) := by
  have hd : dutK (kX 0 1) 0 = ∅ := by decide
  have h := Rounds.fupd_skip ER (Rd m) (g := cell c (kX 0 1)) (κ := κ (c, kX 0 1)) (R := 0) (m := 0) (T := ∅)
    (by rw [duties_cell, hd]) (by rw [expect_cell, hd, Finset.card_empty, Nat.zero_mul]) (Set.mem_univ (κ (c, kX 0 1)))
  unfold pos
  iintro ⟨#HR, H⟩
  iapply h
  isplitr
  · iapply (recs_cell m κ ν c (kX 0 1)); iexact HR
  iexact H

theorem xs1_start (c : Dev nD) :
    iprop(recs m κ ν ∗ (atPos ER (cell c (kX 1 0)) 0 ∅ 0 ∗ atPos ER (cell c (kX 1 1)) 0 ∅ 0) ∗ Win (xTok c 1) 0 8 ∗ (xBuf c 1 0 ∗ xBuf c 1 1)
      ∗ (inAll m c (qx 1 0) ∗ inAll m c (qx 1 1))) ⊢ XS m c 1 0 0 := by
  unfold XS
  rw [win_nil, win_pop (xPos c 1) (show 0 < 0 + 2 by omega), win_pop (xPos c 1) (show 0 + 1 < 0 + 2 by omega), win_nil,
    win_pop (xFree m c 1) (show 0 < 0 + 2 by omega), win_pop (xFree m c 1) (show 0 + 1 < 0 + 2 by omega), win_nil,
    show xPos (F := F) c 1 0 = pos c (kX 1 1) 0 from rfl, show xPos (F := F) c 1 (0 + 1) = pos c (kX 1 0) 0 from rfl,
    show xFree m c 1 0 = iprop(xBuf c 1 1 ∗ inAll m c (qx 1 1)) from rfl, show xFree m c 1 (0 + 1) = iprop(xBuf c 1 0 ∗ inAll m c (qx 1 0)) from rfl]
  iintro ⟨#HR, ⟨HA, HB⟩, HT, ⟨HX, HY⟩, HI, HJ⟩
  isplitl [HA HB]
  · isplitl [HB]
    · iapply (pos_start m κ ν c (kX 1 1))
      isplitr; · iexact HR
      iexact HB
    isplitl [HA]
    · iapply (pos_start m κ ν c (kX 1 0))
      isplitr; · iexact HR
      iexact HA
    iempintro
  isplitr; · iempintro
  isplitl [HX HY HI HJ]
  · isplitl [HY HJ]
    · isplitl [HY]; · iexact HY
      iexact HJ
    isplitl [HX HI]
    · isplitl [HX]; · iexact HX
      iexact HI
    iempintro
  iexact HT

theorem xs0_start (c : Dev nD) :
    iprop(recs m κ ν ∗ (atPos ER (cell c (kX 0 0)) 0 ∅ 0 ∗ pos c (kX 0 1) 1) ∗ Win (xTok c 0) 0 8 ∗ (xBuf c 0 0 ∗ xBuf c 0 1)
      ∗ (inAll m c (qx 0 0) ∗ inAll m c (qx 0 1))) ⊢ XS m c 0 1 1 := by
  unfold XS
  rw [win_nil, win_pop (xPos c 0) (show 1 < 1 + 2 by omega), win_pop (xPos c 0) (show 1 + 1 < 1 + 2 by omega), win_nil,
    win_pop (xFree m c 0) (show 1 < 1 + 2 by omega), win_pop (xFree m c 0) (show 1 + 1 < 1 + 2 by omega), win_nil, win_pop (xTok c 0) (show 0 < 8 by omega),
    show xPos (F := F) c 0 1 = pos c (kX 0 0) 0 from rfl, show xPos (F := F) c 0 (1 + 1) = pos c (kX 0 1) 1 from rfl,
    show xFree m c 0 1 = iprop(xBuf c 0 0 ∗ inAll m c (qx 0 0)) from rfl, show xFree m c 0 (1 + 1) = iprop(xBuf c 0 1 ∗ inAll m c (qx 0 1)) from rfl]
  iintro ⟨#HR, ⟨HA, HB⟩, ⟨-, HT⟩, ⟨HX, HY⟩, HI, HJ⟩
  isplitl [HA HB]
  · isplitl [HA]
    · iapply (pos_start m κ ν c (kX 0 0))
      isplitr; · iexact HR
      iexact HA
    isplitl [HB]; · iexact HB
    iempintro
  isplitr; · iempintro
  isplitl [HX HY HI HJ]
  · isplitl [HX HI]
    · isplitl [HX]; · iexact HX
      iexact HI
    isplitl [HY HJ]
    · isplitl [HY]; · iexact HY
      iexact HJ
    iempintro
  iexact HT

theorem out_start (c : Dev nD) (f : C2 (F := F)) : (M2.view.loc (c : Thread nD τ) ↦[Finset.univ]{fullShare} f) ⊢ outFree m c 0 := by
  unfold outFree
  iintro H
  iexists f
  isplitr
  · ipureintro; exact fun n h => absurd h (Nat.not_lt_zero n)
  iexact H

/-- A device's buffers. -/
def Bufs (c : Dev nD) : sProp 𝕄 := iprop((∃ f, sAll c f) ∗ (∃ f, rAll c f) ∗ (∃ f, lAll c f) ∗ (∃ f, xAll c f) ∗ (∃ f, b7 c f))
/-- What a device has when its body begins, apart from the weights and the buffers. -/
def Have (c : Dev nD) : sProp 𝕄 :=
  iprop(lin c ∗ (((Win (recvTok c 0) 0 28 ∗ Win (recvTok c 1) 0 28) ∗ (Win (credTok c 0) 0 24 ∗ Win (credTok c 1) 0 24)) ∗ cred (tallyAt (cell c kB) 0 2))
    ∗ inAll m c fullShare ∗ ∃ f : C2 (F := F), M2.view.loc (c : Thread nD τ) ↦[Finset.univ]{fullShare} f)

theorem start_of (c : Dev nD) : iprop(recs m κ ν ∗ Have m c ∗ wAll m c ∗ Bufs c) ⊢ iprop(|={Set.univ}=> Start m c) := by
  have hs : (bigSep Finset.univ fun k : CK => (atPos ER (cell c k) 0 ∅ 0 : sProp 𝕄))
      = iprop(((Win (aW c fun i => kS 0 (eS i) (eH i)) 0 4 ∗ Win (aW c fun i => kS 1 (eS i) (eH i)) 0 4)
      ∗ (Win (aW c fun i => kR 0 (eS i) (eH i)) 0 4 ∗ Win (aW c fun i => kR 1 (eS i) (eH i)) 0 4)
      ∗ ((atPos ER (cell c (kX 0 0)) 0 ∅ 0 ∗ atPos ER (cell c (kX 0 1)) 0 ∅ 0) ∗ (atPos ER (cell c (kX 1 0)) 0 ∅ 0 ∗ atPos ER (cell c (kX 1 1)) 0 ∅ 0))
      ∗ (atPos ER (cell c (kC 0)) 0 ∅ 0 ∗ atPos ER (cell c (kC 1)) 0 ∅ 0) ∗ atPos ER (cell c kO) 0 ∅ 0) ∗ atPos ER (cell c kB) 0 ∅ 0) := by
    rw [split_all, split_own (fun k => (atPos ER (cell c k) 0 ∅ 0 : sProp 𝕄)) 0 rfl]; rfl
  unfold Have lin Paid Bufs Start Bar0 Out0 tB
  rw [hs]
  iintro ⟨#HR, ⟨⟨⟨⟨⟨HS0, HS1⟩, ⟨HV0, HV1⟩, ⟨⟨HX00, HX01⟩, HX1⟩, ⟨HC0, HC1⟩, HO⟩, HBa⟩,
    ⟨⟨HtS0, HtS1⟩, ⟨HtR0, HtR1⟩, ⟨HtC0, HtC1⟩, ⟨HtX0, HtX1⟩, HtO, HtB0, HtB1⟩, ⟨Hrd0, Hrd1⟩, HtW0, HtW1⟩,
    ⟨⟨⟨Hr0, Hr1⟩, Hg0, Hg1⟩, Hb⟩, HI, ⟨%fo, Hout⟩⟩, HW, Hs, ⟨%fr, Hr⟩, Hl, ⟨%fx, Hx⟩, H7⟩
  imod (xskip m κ ν c) $$ [HX01] with HX01
  · isplitr; · iexact HR
    iexact HX01
  imodintro
  icases (rAll_split c fr) $$ Hr with ⟨Hsl0, Hsl1⟩
  icases (xAll_split c fx) $$ Hx with ⟨Hxb0, Hxb1⟩
  icases (inAll_iff m c).1 $$ HI with ⟨HI0, HI1⟩
  isplitl [HS0 HS1 HV0 HV1 HC0 HC1 HtS0 HtS1 HtR0 HtR1 HtC0 HtC1 Hrd0 Hrd1 HtW0 HtW1 Hr0 Hr1 Hg0 Hg1 Hsl0 Hsl1]
  · isplitl [HS0 HV0 HC0 HtS0 HtR0 HtC0 Hrd0 HtW0 Hr0 Hg0 Hsl0]
    · iapply (dir_start m κ ν c 0)
      isplitr; · iexact HR
      isplitl [HS0]; · iexact HS0
      isplitl [HV0]; · iexact HV0
      isplitl [HC0]; · iexact HC0
      isplitl [HtS0 HtR0 HtW0]
      · isplitl [HtS0]; · iexact HtS0
        isplitl [HtR0]; · iexact HtR0
        iexact HtW0
      isplitl [HtC0]; · iexact HtC0
      isplitl [Hrd0 Hsl0]
      · isplitl [Hrd0]; · iexact Hrd0
        iexact Hsl0
      isplitl [Hr0]; · iexact Hr0
      iexact Hg0
    iapply (dir_start m κ ν c 1)
    isplitr; · iexact HR
    isplitl [HS1]; · iexact HS1
    isplitl [HV1]; · iexact HV1
    isplitl [HC1]; · iexact HC1
    isplitl [HtS1 HtR1 HtW1]
    · isplitl [HtS1]; · iexact HtS1
      isplitl [HtR1]; · iexact HtR1
      iexact HtW1
    isplitl [HtC1]; · iexact HtC1
    isplitl [Hrd1 Hsl1]
    · isplitl [Hrd1]; · iexact Hrd1
      iexact Hsl1
    isplitl [Hr1]; · iexact Hr1
    iexact Hg1
  isplitl [Hb HBa HtB0 HtB1]
  · isplitl [Hb]; · iexact Hb
    isplitl [HBa]; · iexact HBa
    isplitl [HtB0]; · iexact HtB0
    iexact HtB1
  isplitl [HX00 HX01 HX1 HtX0 HtX1 Hxb0 Hxb1 HI0 HI1]
  · isplitl [HX00 HX01 HtX0 Hxb0 HI0]
    · iapply (xs0_start m κ ν c)
      isplitr; · iexact HR
      isplitl [HX00 HX01]
      · isplitl [HX00]; · iexact HX00
        iexact HX01
      isplitl [HtX0]; · iexact HtX0
      isplitl [Hxb0]; · iexact Hxb0
      iexact HI0
    iapply (xs1_start m κ ν c)
    isplitr; · iexact HR
    isplitl [HX1]; · iexact HX1
    isplitl [HtX1]; · iexact HtX1
    isplitl [Hxb1]; · iexact Hxb1
    iexact HI1
  isplitl [HW]; · iexact HW
  isplitl [Hs]; · iexact Hs
  isplitl [Hl]; · iexact Hl
  isplitl [H7]; · iexact H7
  isplitl [Hout]
  · iapply (out_start m c fo); iexact Hout
  isplitl [HO]
  · iapply (pos_start m κ ν c kO)
    isplitr; · iexact HR
    iexact HO
  iexact HtO

end Cert.Proof

end
-- ==== Proof.End.lean ====
/-
  At the end every cell closes and every buffer is whole again.
-/
module

public import proofs.«01_k».proof.Proof.Begin

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (κ : Dev nD × CK → ℕ) (ν : SK → ℕ)

/-! ## The cells close -/

def zero (c : Dev nD) (k : CK) : sProp 𝕄 := semVal (cell c k) 0

theorem close_cell (c : Dev nD) (k : CK) (r : ℕ) (h : ∀ r', r ≤ r' → dutK k r' = ∅) :
    iprop(recs m κ ν ∗ atPos ER (cell c k) r ∅ 0) ⊢ iprop(|={Set.univ}=> zero c k) := by
  have hc := Rounds.cell_close ER (Rd m) (g := cell c k) (Set.mem_univ (κ (c, k))) (fun h => h) (R := r) fun r' hr => by rw [duties_cell]; exact h r' hr
  unfold zero
  iintro ⟨#HR, H⟩
  iapply hc
  isplitr
  · iapply (recs_cell m κ ν c k); iexact HR
  iexact H
theorem close_pos (c : Dev nD) (k : CK) (r : ℕ) (h : ∀ r', r ≤ r' → dutK k r' = ∅) :
    iprop(recs m κ ν ∗ pos c k r) ⊢ iprop(|={Set.univ}=> zero c k) := by
  have hc := close_cell m κ ν c k r h
  unfold pos
  iintro ⟨#HR, H, -⟩
  iapply hc
  isplitr; · iexact HR
  iexact H

theorem end_S (d sl s : Fin 2) (r : ℕ) (h : 7 ≤ r) : dutK (kS d sl s) r = ∅ := if_neg (Nat.not_lt.mpr h)
theorem end_R (d sl s : Fin 2) (r : ℕ) (h : 7 ≤ r) : dutK (kR d sl s) r = ∅ := if_neg (Nat.not_lt.mpr h)
theorem end_X (d sl : Fin 2) (r : ℕ) (h : 4 ≤ r) : dutK (kX d sl) r = ∅ := if_neg fun h' => Nat.not_lt.mpr h h'.1
theorem end_C (d : Fin 2) (r : ℕ) (h : 1 ≤ r) : dutK (kC d) r = ∅ := if_neg (by omega)
theorem end_O (r : ℕ) (h : 16 ≤ r) : dutK kO r = ∅ := if_neg (Nat.not_lt.mpr h)
theorem end_B (r : ℕ) (h : 1 ≤ r) : dutK kB r = ∅ := if_neg (by omega)

def zW (c : Dev nD) (k : ℕ → CK) (i : ℕ) : sProp 𝕄 := zero c (k i)

theorem close_win {Φ Ψ : ℕ → sProp 𝕄} (h : ∀ i ∈ Finset.Ico 28 32, iprop(recs m κ ν ∗ Φ i) ⊢ iprop(|={Set.univ}=> Ψ i)) :
    iprop(recs m κ ν ∗ Win Φ 28 32) ⊢ iprop(|={Set.univ}=> Win Ψ 28 32) :=
  (with_recs m κ ν h).trans (bigSep_fupd _ _)
theorem close_S (c : Dev nD) (d : Fin 2) : iprop(recs m κ ν ∗ Win (posS c d) 28 32) ⊢ iprop(|={Set.univ}=> Win (zW c fun i => kS d (eS i) (eH i)) 28 32) :=
  close_win m κ ν fun i hi => by
    have := Finset.mem_Ico.mp hi
    unfold posS; exact close_pos m κ ν c _ _ fun r h => end_S _ _ _ _ (by omega)
theorem close_R (c : Dev nD) (d : Fin 2) : iprop(recs m κ ν ∗ Win (posR c d) 28 32) ⊢ iprop(|={Set.univ}=> Win (zW c fun i => kR d (eS i) (eH i)) 28 32) :=
  close_win m κ ν fun i hi => by
    have := Finset.mem_Ico.mp hi
    unfold posR; exact close_pos m κ ν c _ _ fun r h => end_R _ _ _ _ (by omega)

theorem close_C (c : Dev nD) (d : Fin 2) : iprop(recs m κ ν ∗ credSt c d 24) ⊢ iprop(|={Set.univ}=> zero c (kC d)) := by
  have hd : dutK (kC d) 0 = Finset.range 24 := rfl
  have hs : ∀ T : Finset ℕ, T ⊆ Finset.range 24 ∧ 24 + (Finset.range 24 \ T).card ≤ 24 →
      iprop(cellInv ER (Rd m) (κ (c, kC d)) (cell c (kC d)) ∗ atPos ER (cell c (kC d)) 0 T 24)
        ⊢ iprop(|={Set.univ}=> (atPos ER (cell c (kC d)) (0 + 1) ∅ 0 ∗ reached ER (cell c (kC d)) (0 + 1))) := fun T hT => by
    have h0 : Finset.range 24 \ T = ∅ := Finset.card_eq_zero.mp (by omega)
    exact Rounds.fupd_skip ER (Rd m) (by rw [duties_cell, hd]; exact Finset.sdiff_eq_empty_iff_subset.mp h0)
      (by rw [expect_cell, hd, Finset.card_range]; rfl) (Set.mem_univ _)
  unfold credSt
  iintro ⟨#HR, ⟨%T, %hT, H, -⟩⟩
  imod (hs T hT) $$ [H] with ⟨H, -⟩
  · isplitr
    · iapply (recs_cell m κ ν c (kC d)); iexact HR
    iexact H
  iapply (close_cell m κ ν c (kC d) (0 + 1) fun r h => end_C d r (by omega))
  isplitr; · iexact HR
  iexact H

theorem xs_end (c : Dev nD) (d : Fin 2) : XS m c d 8 8 ⊢ iprop((pos c (kX d 0) 4 ∗ pos c (kX d 1) 4) ∗ (xBuf c d 0 ∗ xBuf c d 1) ∗ (inAll m c (qx d 0) ∗ inAll m c (qx d 1))) := by
  unfold XS
  rw [win_pop (xPos c d) (show 8 < 8 + 2 by omega), win_pop (xPos c d) (show 8 + 1 < 8 + 2 by omega),
    win_pop (xFree m c d) (show 8 < 8 + 2 by omega), win_pop (xFree m c d) (show 8 + 1 < 8 + 2 by omega),
    show xPos (F := F) c d 8 = pos c (kX d 1) 4 from rfl, show xPos (F := F) c d (8 + 1) = pos c (kX d 0) 4 from rfl,
    show xFree m c d 8 = iprop(xBuf c d 1 ∗ inAll m c (qx d 1)) from rfl, show xFree m c d (8 + 1) = iprop(xBuf c d 0 ∗ inAll m c (qx d 0)) from rfl]
  iintro ⟨⟨HA, HB, -⟩, -, ⟨⟨HX, HI⟩, ⟨HY, HJ⟩, -⟩, -⟩
  isplitl [HA HB]
  · isplitl [HB]; · iexact HB
    iexact HA
  isplitl [HX HY]
  · isplitl [HY]; · iexact HY
    iexact HX
  isplitl [HJ]; · iexact HJ
  iexact HI

theorem got_end (c : Dev nD) (d : Fin 2) : Win (got m c d) 24 28 ⊢ Win (slW c d) 24 28 := by
  have h (i : ℕ) : got m c d i ⊢ slW c d i := by
    unfold got slW Sl
    iintro H; iexists _; iexact H
  exact bigSep_mono fun i _ => h i

/-- One direction's channel at the end: cells at zero, and the halves that arrived last. -/
theorem chan_end (c : Dev nD) (d : Fin 2) : iprop(recs m κ ν ∗ Chan m c d 28 28 24)
    ⊢ iprop(|={Set.univ}=> (Win (zW c fun i => kS d (eS i) (eH i)) 28 32 ∗ Win (zW c fun i => kR d (eS i) (eH i)) 28 32 ∗ zero c (kC d) ∗ Win (slW c d) 24 28)) := by
  unfold Chan chW chS
  iintro ⟨#HR, ⟨HS, HV, -⟩, ⟨-, -, HC, -⟩, -, HG⟩
  imod (close_S m κ ν c d) $$ [HS] with HS
  · isplitr; · iexact HR
    iexact HS
  imod (close_R m κ ν c d) $$ [HV] with HV
  · isplitr; · iexact HR
    iexact HV
  imod (close_C m κ ν c d) $$ [HC] with HC
  · isplitr; · iexact HR
    iexact HC
  imodintro
  isplitl [HS]; · iexact HS
  isplitl [HV]; · iexact HV
  isplitl [HC]; · iexact HC
  iapply (got_end m c d); iexact HG

/-! ## The buffers -/

theorem sEnd_all (c : Dev nD) : sEnd m c ⊢ iprop(∃ f, sAll c f) := by
  have h : iprop(sBoth c 0 fullShare (SC m 13 c) ∗ sBoth c 1 fullShare (SC m 13 c)) ⊢ sAll c (SC m 13 c) := by
    unfold sBoth sAll
    refine (pts_pair (fun i => ?_) (fun i h h' => ?_)).2
    · rw [mem_rSB, mem_rSB]
      have h : (i 1).val < 1024 := (i 1).isLt
      refine iff_of_true (Finset.mem_univ i) ?_
      show (i 1).val / 512 = 0 ∨ (i 1).val / 512 = 1
      omega
    · rw [mem_rSB] at h h'
      have h1 : (i 1).val / 512 = 0 := h
      have h2 : (i 1).val / 512 = 1 := h'
      omega
  unfold sEnd
  iintro H
  iexists _
  iapply h
  iexact H

theorem outDone_at (c : Dev nD) (n : ℕ) (hn : n < 16) (f : C2 (F := F)) (h : outDone m c 16 f) (i : S8192x4096.Idx)
    (hr : (i 0).val / 1024 = (mv (oD n) ((oK n).val + 7) c).val ∧ (i 1).val / 2048 = (oD n).val) : f i = outC m c i := by
  have hi : i ∈ (mO c n).view.set := by rw [set_mOut, mem_rOut]; exact hr
  exact h n hn i hi
theorem outDone_all (c : Dev nD) (f : C2 (F := F)) (h : outDone m c 16 f) : f = outC m c := funext fun i => by
  have h0 : (i 0).val < 8192 := (i 0).isLt
  have h1 : (i 1).val < 4096 := (i 1).isLt
  have hk := kOf_lt ⟨(i 1).val / 2048, by omega⟩ c ((i 0).val / 1024)
  have hm := mv_kOf ⟨(i 1).val / 2048, by omega⟩ ⟨(i 0).val / 1024, by omega⟩ c
  generalize hd : (⟨(i 1).val / 2048, by omega⟩ : Fin 2) = d at hk hm
  generalize kOf d c ((i 0).val / 1024) = k at hk hm
  have hdv : (i 1).val / 2048 = d.val := congrArg Fin.val hd
  have hd2 : d.val < 2 := d.isLt
  have e1 : oD (2 * k + d.val) = d := Fin.ext (by show (2 * k + d.val) % 2 = d.val; omega)
  have e2 : (oK (2 * k + d.val)).val = k := by show (2 * k + d.val) / 2 % 8 = k; omega
  refine outDone_at m c (2 * k + d.val) (by omega) f h i ?_
  rw [e1, e2]
  exact ⟨hm.symm, hdv⟩
theorem out_end (c : Dev nD) : outFree m c 16 ⊢ (M2.view.loc (c : Thread nD τ) ↦[Finset.univ]{fullShare} outC m c) := by
  have h (f : C2 (F := F)) (hf : outDone m c 16 f) : (M2.view.loc (c : Thread nD τ) ↦[Finset.univ]{fullShare} f : sProp 𝕄)
      ⊢ (M2.view.loc (c : Thread nD τ) ↦[Finset.univ]{fullShare} outC m c) := by rw [outDone_all m c f hf]
  unfold outFree
  iintro ⟨%f, %hf, H⟩
  iapply (h f hf)
  iexact H

/-- What a device ends with. -/
def After (c : Dev nD) : sProp 𝕄 :=
  iprop((unscopedSems0 c ∗ inAll m c fullShare ∗ (M2.view.loc (c : Thread nD τ) ↦[Finset.univ]{fullShare} outC m c))
    ∗ Pipeline.ownSems0 (Ix := ℕ) (Name := ℕ) (U := UU) (Lvl := ℕ) (Val := Elt F) (τ := τ) osem c ∗ Bufs c)

theorem finish_to (c : Dev nD) : iprop(recs m κ ν ∗ Finish m c) ⊢ iprop(|={Set.univ}=> (After m c ∗ wAll m c)) := by
  have hs : iprop((Win (zW c fun i => kS 0 (eS i) (eH i)) 28 32 ∗ Win (zW c fun i => kS 1 (eS i) (eH i)) 28 32)
      ∗ (Win (zW c fun i => kR 0 (eS i) (eH i)) 28 32 ∗ Win (zW c fun i => kR 1 (eS i) (eH i)) 28 32)
      ∗ ((zero c (kX 0 0) ∗ zero c (kX 0 1)) ∗ (zero c (kX 1 0) ∗ zero c (kX 1 1))) ∗ (zero c (kC 0) ∗ zero c (kC 1)) ∗ zero c kO)
      ⊢ (Pipeline.ownSems0 (Ix := ℕ) (Name := ℕ) (U := UU) (Lvl := ℕ) (Val := Elt F) (τ := τ) osem c : sProp 𝕄) :=
    Entails.of_eq (split_own (fun k => zero (F := F) c k) 28 rfl).symm
  have hb : zero c kB ⊢ (unscopedSems0 c : sProp 𝕄) := Entails.of_eq (unscopedSems0_eq c).symm
  unfold Finish After Bufs
  iintro ⟨#HR, ⟨H0, H1⟩, HB, ⟨HX0, HX1⟩, HW, HS, HL, H7, HF, HO⟩
  imod (chan_end m κ ν c 0) $$ [H0] with ⟨HS0, HV0, HC0, HG0⟩
  · isplitr; · iexact HR
    iexact H0
  imod (chan_end m κ ν c 1) $$ [H1] with ⟨HS1, HV1, HC1, HG1⟩
  · isplitr; · iexact HR
    iexact H1
  imod (close_cell m κ ν c kB 1 end_B) $$ [HB] with HB
  · isplitr; · iexact HR
    iexact HB
  imod (close_pos m κ ν c kO 16 end_O) $$ [HO] with HO
  · isplitr; · iexact HR
    iexact HO
  icases (xs_end m c 0) $$ HX0 with ⟨⟨HA, HA'⟩, HX0, HI0⟩
  icases (xs_end m c 1) $$ HX1 with ⟨⟨HD, HD'⟩, HX1, HI1⟩
  imod (close_pos m κ ν c (kX 0 0) 4 (end_X 0 0)) $$ [HA] with HA
  · isplitr; · iexact HR
    iexact HA
  imod (close_pos m κ ν c (kX 0 1) 4 (end_X 0 1)) $$ [HA'] with HA'
  · isplitr; · iexact HR
    iexact HA'
  imod (close_pos m κ ν c (kX 1 0) 4 (end_X 1 0)) $$ [HD] with HD
  · isplitr; · iexact HR
    iexact HD
  imod (close_pos m κ ν c (kX 1 1) 4 (end_X 1 1)) $$ [HD'] with HD'
  · isplitr; · iexact HR
    iexact HD'
  imodintro
  isplitr [HW]
  · isplitl [HB HI0 HI1 HF]
    · isplitl [HB]
      · iapply hb; iexact HB
      isplitl [HI0 HI1]
      · iapply (inAll_iff m c).2
        isplitl [HI0]; · iexact HI0
        iexact HI1
      iapply (out_end m c); iexact HF
    isplitl [HS0 HS1 HV0 HV1 HA HA' HD HD' HC0 HC1 HO]
    · iapply hs
      isplitl [HS0 HS1]
      · isplitl [HS0]; · iexact HS0
        iexact HS1
      isplitl [HV0 HV1]
      · isplitl [HV0]; · iexact HV0
        iexact HV1
      isplitl [HA HA' HD HD']
      · isplitl [HA HA']
        · isplitl [HA]; · iexact HA
          iexact HA'
        isplitl [HD]; · iexact HD
        iexact HD'
      isplitl [HC0 HC1]
      · isplitl [HC0]; · iexact HC0
        iexact HC1
      iexact HO
    isplitl [HS]
    · iapply (sEnd_all m c); iexact HS
    isplitl [HG0 HG1]
    · iapply (rAll_join c)
      isplitl [HG0]; · iexact HG0
      iexact HG1
    isplitl [HL]; · iexact HL
    isplitl [HX0 HX1]
    · iapply (xAll_join c)
      isplitl [HX0]; · iexact HX0
      iexact HX1
    iexact H7
  iexact HW

end Cert.Proof

end
-- ==== Proof.Whole.lean ====
/-
  The run of the whole program: every device ends with the computed result.
-/
module

public import proofs.«01_k».proof.Proof.End
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

open Idealize.ShloMosaic.Pipeline (Dat BodyObligation)

local notation "𝕄" => MT nD τ sig ℕ (Elt F) ℕ UU ℕ

variable (m : (ℓ : Loc nD τ sig) → Buf (Elt F) ℓ) (ρ : Dev nD → PrngReg)

/-- The memory the run starts from. -/
abbrev s₀ : MemSt nD τ sig (Elt F) := ⟨m, fun _ => 0, ρ⟩

/-! ## The one point of the grid -/

def Known : sProp 𝕄 := iprop(∃ κ ν, recs m κ ν)
def Begin (c : Dev nD) : sProp 𝕄 := iprop(Known m ∗ Have m c)
def Left (c : Dev nD) : sProp 𝕄 :=
  iprop(unscopedSems0 c ∗ inAll m c fullShare ∗ (M2.view.loc (c : Thread nD τ) ↦[Finset.univ]{fullShare} outC m c))
def phi0 (c : Dev nD) : sProp 𝕄 := iprop(Begin m c ∗ Bufs c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => wC m c
  Φ t := match t with
    | ⟨0, _⟩ => phi0 m c
    | ⟨_ + 1, _⟩ => After m c
  q _ := fullShare
  owed t := match t with
    | ⟨0, _⟩ => O₀ c
    | ⟨_ + 1, _⟩ => 0

theorem fetch_w (t : Fin cfg0.N) : (cfg0.win (0 : Fin 1)).fetch t = true := by rw [fin_N0 t]; rfl
theorem before_w (c : Dev nD) (d) : (dats m ρ 0 c).before (0 : Fin 1) t0_0 d = wC m c := by
  unfold Dat.before; rw [if_pos (fetch_w t0_0)]; rfl

theorem owns_stage (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (X : cc0_stg0_0.ty.Contents (Elt F)) : sProp 𝕄 :=
  iprop(∃ f : Buf (Elt F) ((c : Thread nD τ).loc cc0_stg0_0), ⌜f = X⌝ ∗ (((c : Thread nD τ).loc cc0_stg0_0) ↦{fullShare} f))
def pointPre (c : Dev nD) : sProp 𝕄 :=
  iprop(phi0 m c ∗ (dats m ρ 0 c).owesAt (0 : ℕ) t0_0.castSucc ∗ (∃ d, stg c ((dats m ρ 0 c).before (0 : Fin 1) t0_0 d)))
def pointPost (c : Dev nD) : sProp 𝕄 := iprop(After m c ∗ (dats m ρ 0 c).owesAt (0 : ℕ) t0_0.succ ∗ stg c (wC m c))

theorem owes_in (c : Dev nD) : (dats m ρ 0 c).owesAt (0 : ℕ) t0_0.castSucc ⊢ own c (O₀ c) := by
  unfold Dat.owesAt Pipeline.owesWithin own
  rw [show (dats m ρ 0 c).owed t0_0.castSucc = O₀ c from rfl]
  iintro ⟨%W, -, H⟩
  iexists W; iexact H
theorem owes_out (c : Dev nD) : own c 0 ⊢ (dats m ρ 0 c).owesAt (0 : ℕ) t0_0.succ := by
  unfold Dat.owesAt Pipeline.owesWithin own
  rw [show (dats m ρ 0 c).owed t0_0.succ = 0 from rfl]
  iintro ⟨%W, H⟩
  iexists W
  isplitr; · ipureintro; exact fun _ _ => Or.inl trivial
  iexact H
theorem stg_in (c : Dev nD) : iprop(∃ d, stg c ((dats m ρ 0 c).before (0 : Fin 1) t0_0 d)) ⊢ wAll m c := by
  have h (d) : stg c ((dats m ρ 0 c).before (0 : Fin 1) t0_0 d) ⊢ wAll m c := by
    rw [before_w]
    unfold stg wAll
    iintro ⟨%f, %hf, H⟩
    subst hf
    iexact H
  iintro ⟨%d, H⟩
  iapply (h d); iexact H
theorem stg_out (c : Dev nD) : wAll m c ⊢ stg c (wC m c) := by
  unfold stg wAll
  iintro H
  iexists _
  isplitr; · ipureintro; rfl
  iexact H

theorem point (c : Dev nD) : pointPre m ρ c ⊢ WP c body fun _ => pointPost m ρ c := by
  unfold pointPre phi0 Begin Known
  iintro ⟨⟨⟨⟨%κ, %ν, #HR⟩, HH⟩, HB⟩, HO, HW⟩
  ihave HO := (owes_in m ρ c) $$ HO
  ihave HW := (stg_in m ρ c) $$ HW
  imod (start_of m κ ν c) $$ [HH HB HW] with HS
  · isplitr; · iexact HR
    isplitl [HH]; · iexact HH
    isplitl [HW]; · iexact HW
    iexact HB
  iapply (wp_fupd)
  iapply (body_tri m κ ν c _) $$ [HO HS]
  · isplitr; · iexact HR
    isplitl [HO]; · iexact HO
    iexact HS
  iintro ⟨HO, HF⟩
  imod (finish_to m κ ν c) $$ [HF] with ⟨HA, HW⟩
  · isplitr; · iexact HR
    iexact HF
  imodintro
  unfold pointPost
  isplitl [HA]; · iexact HA
  isplitl [HO]
  · iapply (owes_out m ρ c); iexact HO
  iapply (stg_out m c); iexact HW

set_option maxRecDepth 65536 in
theorem body_obligation (c : Dev nD) : BodyObligation (dats (F := F) m ρ 0 c) (defs₀ (F := F)) 𝒱₀ (0 : ℕ) Set.univ := fun t => by
  rw [fin_N0 t]
  rw [bigSep_W0, bigSep_W0]
  simp only [owns_stage]
  show pointPre m ρ c ⊢ wp frame (wpE (defs₀ (F := F)) 𝒱₀ (c : Thread nD τ) none) Set.univ (bodyAt0 (F := F) t0_0) (fun _ => pointPost m ρ c)
  rw [body_eq]
  exact point m ρ c

/-! ## The launch -/

set_option maxRecDepth 8000 in
theorem ownSemFacts : Pipeline.OwnSemFacts cfg0.spec osem := by decide

theorem share_eq (c : Dev nD) (w : Fin cfg0.W) : (dats m ρ 0 c).share w = fullShare := by unfold Dat.share; split <;> rfl

theorem stage_wait (c : Dev nD) (q : DmaSem sig) (hq : kindOf (SemLoc.dma q) = none) (O : CellTallies nD τ sig ℕ) (hO : Above 0 O) :
    (levAts L lv : sProp 𝕄) ⊢ MayWait (c : Thread nD τ) (.dma q) 0 O :=
  Pipeline.mayWait_of_levAts (by rw [L_tc]; exact Finset.mem_range.mpr (by decide)) fun g j hg => by
    have := hO g j hg
    rw [show lv ((c : Thread nD τ), SemLoc.dma q) 0 = 0 from by unfold lv; rw [hq]]
    exact this

set_option maxRecDepth 8000 in
theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    stage_wait c _ (by fin_cases w <;> fin_cases s <;> decide) _ (by
      rcases t with ⟨_ | _, ht⟩
      · exact above_O₀ c
      · exact Above.zero 0)

theorem begin_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Begin m c ∗ emp) := by
  have hu : (Pipeline.unscopedRestP Pipeline.Prefetch.none cfg0.spec c (fun b => m ((c : Thread nD τ).loc b)) : sProp 𝕄)
      ⊢ iprop(inAll m c fullShare ∗ (M2.view.loc (c : Thread nD τ) ↦[Finset.univ]{fullShare} (m ((c : Thread nD τ).loc main_v1) : C2 (F := F)))) :=
    Entails.of_eq (unscopedRest0_eq c fun b => m ((c : Thread nD τ).loc b))
  iintro ⟨HU, #Hlev, Hcr, -, HG⟩
  ihave Hc := (creds (F := F) c) $$ Hcr
  ihave HU := hu $$ HU
  icases HU with ⟨HI, HM⟩
  unfold G' everyone cellRecs slotRecs allReached
  icases HG with ⟨⟨⟨%κ, #HC⟩, ⟨%ν, #HS⟩, #HA⟩, HL⟩
  imodintro
  unfold Begin Known Have recs
  isplitl
  · isplitr
    · iexists κ; iexists ν
      isplitr; · iexact HC
      isplitr; · iexact HS
      isplitr; · iexact Hlev
      iexact HA
    isplitl [HL]; · iexact HL
    isplitl [Hc]; · iexact Hc
    isplitl [HI]; · iexact HI
    iexists _; iexact HM
  · iempintro

theorem bufs_eq (c : Dev nD) : (Pipeline.scopedRest (Ix := ℕ) (Name := ℕ) (U := UU) (Lvl := ℕ) (Val := Elt F) cfg0.spec c : sProp 𝕄) = Bufs c := by
  rw [show (Pipeline.scopedRest (Ix := ℕ) (Name := ℕ) (U := UU) (Lvl := ℕ) (Val := Elt F) cfg0.spec c : sProp 𝕄) = _ from scopedRest0_eq c]
  unfold Bufs b7
  rw [show M7.view.set = Finset.univ from View.set_whole _]
  rfl

theorem phi_in (c : Dev nD) :
    iprop(Begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 m c from rfl, bufs_eq]
  unfold phi0
  iintro ⟨Hs, -, HB⟩
  isplitl [Hs]; · iexact Hs
  iexact HB

theorem phi_out (c : Dev nD) :
    (dats m ρ 0 c).Φ (Fin.last cfg0.N) ⊢ iprop(Left m c ∗ Pipeline.ownSems0 osem c ∗ Pipeline.scopedRest cfg0.spec c) := by
  rw [show (dats m ρ 0 c).Φ (Fin.last cfg0.N) = After m c from rfl, bufs_eq]
  exact BI.Entails.refl _

/-! ## The run -/

/-- What the memory holds at the end on one device. -/
def Ends (c : Dev nD) (s : MemSt nD τ sig (Elt F)) : Prop :=
  (s.mem ((c : Thread nD τ).loc main_v1) = outC m c ∧ s.mem ((c : Thread nD τ).loc main_arg0) = m ((c : Thread nD τ).loc main_arg0))
    ∧ ∀ sm : SemLoc sig, sm.isScoped .tc = false → s.sem ((c.tc : Thread nD τ), sm) = 0

theorem left_read (c : Dev nD) (s' : Phys nD τ sig (Elt F)) :
    (iprop(Left m c ∗ emp ∗ SI s') : sProp 𝕄) ⊢ |={Set.univ}=> iprop(⌜Ends m c s'.mem⌝ ∗ SI s') := by
  have h1 : (iprop((M2.view.loc (c : Thread nD τ) ↦[Finset.univ]{fullShare} outC m c) ∗ SI s') : sProp 𝕄)
      ⊢ iprop(⌜s'.mem.mem ((c : Thread nD τ).loc main_v1) = outC m c⌝ ∗ SI s') := by
    iintro ⟨HI, HSI⟩
    icombine HSI HI gives %h
    isplitr; · ipureintro; exact Buf.eq_of_forall_mem_univ h
    iexact HSI
  have h2 : (iprop(inAll m c fullShare ∗ SI s') : sProp 𝕄)
      ⊢ iprop(⌜s'.mem.mem ((c : Thread nD τ).loc main_arg0) = m ((c : Thread nD τ).loc main_arg0)⌝ ∗ SI s') := by
    unfold inAll
    iintro ⟨HI, HSI⟩
    icombine HSI HI gives %h
    isplitr; · ipureintro; exact Buf.eq_of_forall_mem_univ h
    iexact HSI
  have h3 : iprop((unscopedSems0 c : sProp 𝕄) ∗ SI s')
      ⊢ |={Set.univ}=> iprop(⌜∀ sm : SemLoc sig, sm.isScoped .tc = false → s'.mem.sem ((c.tc : Thread nD τ), sm) = 0⌝ ∗ SI s') :=
    Pipeline.unscopedSems0_read (X := (unscopedSems0 c : sProp 𝕄)) (c := c) fupd_intro s'
  unfold Left
  iintro ⟨⟨HU, HI, HM⟩, -, HSI⟩
  ihave H := h1 $$ [HM HSI]
  · isplitl [HM]; · iexact HM
    iexact HSI
  icases H with ⟨%e1, HSI⟩
  ihave H := h2 $$ [HI HSI]
  · isplitl [HI]; · iexact HI
    iexact HSI
  icases H with ⟨%e2, HSI⟩
  imod h3 $$ [HU HSI] with ⟨%e3, HSI⟩
  · isplitl [HU]; · iexact HU
    iexact HSI
  imodintro
  isplitr; · ipureintro; exact ⟨⟨e1, e2⟩, e3⟩
  iexact HSI

def finalA (c : Dev nD) (w : Fin cfg0.W) : Buf (Elt F) ((cfg0.win w).arr.view.loc (c : Thread nD τ)) := (dats m ρ 0 c).arrAt w cfg0.N

theorem final_w (c : Dev nD) : finalA m ρ c (0 : Fin 1) = m ((c : Thread nD τ).loc main_arg1) :=
  (dats (F := F) m ρ 0 c).arrAt_in (0 : Fin 1) rfl _

/-- What a run of the program ends with: on every device the result, the inputs as they were. -/
def Good (r : PUnit × MemSt nD τ sig (Elt F)) : Prop := ∀ c : Dev nD,
  r.2.mem ((c : Thread nD τ).loc main_v1) = outC m c ∧ r.2.mem ((c : Thread nD τ).loc main_arg0) = m ((c : Thread nD τ).loc main_arg0)
    ∧ r.2.mem ((c : Thread nD τ).loc main_arg1) = m ((c : Thread nD τ).loc main_arg1)

set_option maxRecDepth 65536 in
theorem run_main : θ_run defs (onTc (τ := τ) (main (F := F))) (s₀ m ρ) (fun r => Good m r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀) (hu₀ := fund_all m) (hglob := glob m)
    (hA := fun _ _ => rfl) (hpf := fun _ k => k.elim0)
    (X := Begin m) (Y := Left m) (Z := fun _ => iprop(emp))
    (hX := begin_of m ρ) (hin := phi_in m ρ) (hout := phi_out m ρ)
    (QY := fun c s => Ends m c s) (hY := fun c s' => left_read m c s')
    (hQ := fun _ h hs => ⟨fun c => ⟨(h c).2.2.1.1, (h c).2.2.1.2, ((h c).1 (0 : Fin 1)).trans (final_w m ρ c)⟩, sem_eq_zero hs fun c => (h c).2.2.2⟩)

end Cert.Proof

end
-- ==== Proof.Value.lean ====
/-
  The stored values over the reals, element by element.
-/
module

public import proofs.«01_k».proof.Proof.Common
public import Idealize.ShloMosaic.Lib.ValueLayout
public import Idealize.ShloMosaic.Lib.MatmulPlain
public import Idealize.ShloMosaic.Lib.IdealHost
public import Idealize.ShloMosaic.Lib.Pipeline.Value

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

/-! ## The operations at an index -/

theorem cast_11 {a b : ℕ} {α : Type} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])
theorem cast_m1 {n a b : ℕ} {α : Type} (x : (⟨4, ![n, 1, a, b]⟩ : Shape).Idx → α)
    (h : (⟨4, ![n, 1, a, b]⟩ : Shape).ShapeCasts ⟨3, ![n, a, b]⟩) (d : Fin n) (i : Fin a) (j : Fin b) :
    shapeCast ⟨3, ![n, a, b]⟩ x h (ix3 d i j) = x (ix4 d (0 : Fin 1) i j) :=
  shapeCast_apply x h _ _ (by
    rw [Shape.rowMajor_val_four, Shape.rowMajor_val_three]
    show ((d.val * 1 + 0) * a + i.val) * b + j.val = (d.val * a + i.val) * b + j.val
    rw [Nat.mul_one, Nat.add_zero])

theorem dotA : dot_S1024x1024_S1024x4096_S1024x4096_1_0_0_1_n_n = DotDims.plain 1024 1024 4096 := rfl
theorem dotB : dot_S1024x1024_S1024x2048_S1024x2048_1_0_0_1_n_n = DotDims.plain 1024 1024 2048 := rfl

theorem mul_apply {M K N : ℕ} (l : FVec Ideal ⟨2, ![M, K]⟩ .bf16) (r : FVec Ideal ⟨2, ![K, N]⟩ .bf16) (i : Fin M) (j : Fin N) :
    matmul (DotDims.plain M K N) none l r (constant ⟨2, ![M, N]⟩ .f32 0x00000000#32) (ix2 i j) = ∑ k : Fin K, l (ix2 i k) * r (ix2 k j) := by
  simp only [matmul]
  rw [Ideal.matmul_plain_apply]
  show Ideal.ofBits .f32 0x00000000#32 + _ = _
  rw [Ideal.ofBits_zero_f32, zero_add]

theorem pay1_apply (a : Vec Ideal S1x1x1024x1024 .f32) (w : Vec Ideal S1024x4096 .bf16) (i : Fin 1024) (j : Fin 4096) :
    k0_pay1 a w (ix2 i j) = ∑ k : Fin 1024, a (ix4 (0 : Fin 1) (0 : Fin 1) i k) * w (ix2 k j) := by
  unfold k0_pay1
  rw [dotA, mul_apply]
  refine Finset.sum_congr rfl fun k _ => ?_
  rw [truncf_apply, cast_11, shapeCast_self]
theorem pay4_apply (a : Vec Ideal S1x1x1024x1024 .f32) (w : Vec Ideal S1024x2048 .bf16) (i : Fin 1024) (j : Fin 2048) :
    k0_pay4 a w (ix3 (0 : Fin 1) i j) = ∑ k : Fin 1024, a (ix4 (0 : Fin 1) (0 : Fin 1) i k) * w (ix2 k j) := by
  unfold k0_pay4
  rw [shapeCast_ab_1ab_apply, truncf_apply, dotB, mul_apply]
  refine Finset.sum_congr rfl fun k _ => ?_
  rw [truncf_apply, cast_11, shapeCast_self]
theorem pay2_apply (a : Vec Ideal S1x1x1024x1024 .f32) (w : Vec Ideal S1024x4096 .bf16) (i : Fin 1024) (j : Fin 2048) :
    k0_pay2 a w (ix3 (0 : Fin 1) i j) = k0_pay1 a w (ix2 i (⟨j.val, by omega⟩ : Fin 4096)) := by
  unfold k0_pay2
  rw [shapeCast_ab_1ab_apply, truncf_apply]
  exact slice2_axis1_apply 0 _ _ _ _ _ (Nat.zero_add _).symm
theorem pay3_apply (v : FVec Ideal S1024x4096 .f32) (i : Fin 1024) (j : Fin 2048) :
    k0_pay3 v (ix3 (0 : Fin 1) i j) = v (ix2 i (⟨2048 + j.val, by omega⟩ : Fin 4096)) := by
  unfold k0_pay3
  rw [shapeCast_ab_1ab_apply, truncf_apply]
  exact slice2_axis1_apply 2048 _ _ _ _ _ rfl
theorem pay6_apply (a : Vec Ideal S2x1x512x2048 .bf16) (b : Vec Ideal S2x512x2048 .bf16) (d : Fin 2) (i : Fin 512) (j : Fin 2048) :
    k0_pay6 a b (ix3 d i j) = a (ix4 d (0 : Fin 1) i j) + b (ix3 d i j) := by
  unfold k0_pay6
  rw [shapeCast_self, truncf_apply, addf_apply, extf_apply, extf_apply, cast_m1]
theorem pay36_apply (a : Vec Ideal S2x1x512x2048 .bf16) (d : Fin 2) (i : Fin 512) (j : Fin 2048) :
    k0_pay36 a (ix3 d i j) = a (ix4 d (0 : Fin 1) i j) := by
  unfold k0_pay36
  rw [shapeCast_self, cast_m1]

theorem relu_apply (v : FVec Ideal S1024x2048 .bf16) (i) :
    maximumf v (broadcast S1024x2048 (Scalar.ofBits .bf16 0x0000#16 : Ideal .bf16)) i = max (v i) 0 := by
  rw [maximumf_apply]
  show max (v i) (Ideal.ofBits .bf16 0x0000#16) = _
  rw [Ideal.ofBits_zero_bf16]
theorem pay32_apply (v : Vec Ideal S1x1024x2048 .bf16) (i : Fin 1024) (j : Fin 2048) :
    k0_pay32 v (ix2 i j) = max (v (ix3 (0 : Fin 1) i j)) 0 := by
  unfold k0_pay32
  rw [shapeCast_self, relu_apply, shapeCast_1ab_ab_apply]
theorem pay37_apply (v : Vec Ideal S1x1x1024x2048 .bf16) (i : Fin 1024) (j : Fin 2048) :
    k0_pay37 v (ix2 i j) = max (v (ix4 (0 : Fin 1) (0 : Fin 1) i j)) 0 := by
  unfold k0_pay37
  rw [shapeCast_self, relu_apply, cast_11]

/-! ## The loads at an index -/

theorem ld_X (d sl : Fin 2) (f : C6 (F := Ideal)) (i k : Fin 1024) :
    M6.view.readAt (Elt Ideal) (rX d sl).toLoadRect f (ix4 (0 : Fin 1) (0 : Fin 1) i k) = f (ix4 d sl i k) :=
  congrArg f (funext fun a => Fin.ext (by
    match a with
    | ⟨0, _⟩ => show d.val + 1 * 0 = d.val; omega
    | ⟨1, _⟩ => show sl.val + 1 * 0 = sl.val; omega
    | ⟨2, _⟩ => show 0 + 1 * i.val = i.val; omega
    | ⟨3, _⟩ => show 0 + 1 * k.val = k.val; omega))
theorem ld_W (d : Fin 2) (f : C1 (F := Ideal)) (k : Fin 1024) (j : Fin 2048) :
    M1.view.readAt (Elt Ideal) (rW d).toLoadRect f (ix2 k j) = f (ix2 k (⟨2048 * d.val + j.val, by omega⟩ : Fin 4096)) :=
  congrArg f (funext fun a => Fin.ext (by
    match a with
    | ⟨0, _⟩ => show 0 + 1 * k.val = k.val; omega
    | ⟨1, _⟩ => show 2048 * d.val + 1 * j.val = 2048 * d.val + j.val; omega))
theorem ld_WA (f : C1 (F := Ideal)) (k : Fin 1024) (j : Fin 4096) :
    M1.view.readAt (Elt Ideal) rWA.toLoadRect f (ix2 k j) = f (ix2 k j) :=
  congrArg f (funext fun a => Fin.ext (by
    match a with
    | ⟨0, _⟩ => show 0 + 1 * k.val = k.val; omega
    | ⟨1, _⟩ => show 0 + 1 * j.val = j.val; omega))
theorem ld_RB (sl s : Fin 2) (f : C4 (F := Ideal)) (d : Fin 2) (i : Fin 512) (j : Fin 2048) :
    M4.view.readAt (Elt Ideal) (rRB sl s).toLoadRect f (ix4 d (0 : Fin 1) i j) = f (ix4 d sl (⟨512 * s.val + i.val, by omega⟩ : Fin 1024) j) :=
  congrArg f (funext fun a => Fin.ext (by
    match a with
    | ⟨0, _⟩ => show 0 + 1 * d.val = d.val; omega
    | ⟨1, _⟩ => show sl.val + 1 * 0 = sl.val; omega
    | ⟨2, _⟩ => show 512 * s.val + 1 * i.val = 512 * s.val + i.val; omega
    | ⟨3, _⟩ => show 0 + 1 * j.val = j.val; omega))
theorem ld_SB (s : Fin 2) (f : C5 (F := Ideal)) (d : Fin 2) (i : Fin 512) (j : Fin 2048) :
    M5.view.readAt (Elt Ideal) (rSB s).toLoadRect f (ix3 d i j) = f (ix3 d (⟨512 * s.val + i.val, by omega⟩ : Fin 1024) j) :=
  congrArg f (funext fun a => Fin.ext (by
    match a with
    | ⟨0, _⟩ => show 0 + 1 * d.val = d.val; omega
    | ⟨1, _⟩ => show 512 * s.val + 1 * i.val = 512 * s.val + i.val; omega
    | ⟨2, _⟩ => show 0 + 1 * j.val = j.val; omega))
theorem ld_SW (d : Fin 2) (f : C3 (F := Ideal)) (i : Fin 1024) (j : Fin 2048) :
    M3.view.readAt (Elt Ideal) (rSW d).toLoadRect f (ix3 (0 : Fin 1) i j) = f (ix3 d i j) :=
  congrArg f (funext fun a => Fin.ext (by
    match a with
    | ⟨0, _⟩ => show d.val + 1 * 0 = d.val; omega
    | ⟨1, _⟩ => show 0 + 1 * i.val = i.val; omega
    | ⟨2, _⟩ => show 0 + 1 * j.val = j.val; omega))
theorem ld_RW (d sl : Fin 2) (f : C4 (F := Ideal)) (i : Fin 1024) (j : Fin 2048) :
    M4.view.readAt (Elt Ideal) (rRW d sl).toLoadRect f (ix4 (0 : Fin 1) (0 : Fin 1) i j) = f (ix4 d sl i j) :=
  congrArg f (funext fun a => Fin.ext (by
    match a with
    | ⟨0, _⟩ => show d.val + 1 * 0 = d.val; omega
    | ⟨1, _⟩ => show sl.val + 1 * 0 = sl.val; omega
    | ⟨2, _⟩ => show 0 + 1 * i.val = i.val; omega
    | ⟨3, _⟩ => show 0 + 1 * j.val = j.val; omega))

/-! ## What is sent, element by element -/

variable (m : (ℓ : Loc nD τ sig) → Buf (Elt Ideal) ℓ)

abbrev rowAt (c : Dev nD) (i : Fin 1024) : Fin 8192 := ⟨1024 * c.val + i.val, by have : c.val < 8 := c.isLt; omega⟩
abbrev colAt (d : Fin 2) (j : Fin 2048) : Fin 4096 := ⟨2048 * d.val + j.val, by omega⟩

theorem w_eq (c : Dev nD) : wC m c = m ((c : Thread nD τ).loc main_arg1) := by
  unfold wC
  funext i
  refine congrArg (m ((c : Thread nD τ).loc main_arg1)) (funext fun a => Fin.ext ?_)
  match a with
  | ⟨0, _⟩ => show 0 * 1024 + 1 * (i 0).val = (i 0).val; omega
  | ⟨1, _⟩ => show 0 * 4096 + 1 * (i 1).val = (i 1).val; omega

/-- Device `c`'s part of an element of the product. -/
def part (c : Dev nD) (r : Fin 8192) (j : Fin 4096) : EReal := ∑ k : Fin 1024, (xC m c (ix2 r k) : EReal) * wC m c (ix2 k j)

theorem X_apply (e : ℕ) (c : Dev nD) (d sl : Fin 2) (i k : Fin 1024) : XC m e c (ix4 d sl i k) = xC m c (ix2 (rowAt (mv d e c) i) k) := rfl

theorem loc_apply (h : ℕ) (c : Dev nD) (d : Fin 2) (i : Fin 1024) (j : Fin 2048) :
    locC m h c (ix3 d i j) = part m c (rowAt (mv d (h + 1) c) i) (colAt d j) := by
  show k0_pay4 _ _ (ix3 (0 : Fin 1) i j) = _
  rw [pay4_apply]
  unfold part
  refine Finset.sum_congr rfl fun k _ => ?_
  exact congrArg₂ (fun a b : EReal => a * b) (ld_X _ _ _ _ _) (ld_W _ _ _ _)

theorem own_apply (c : Dev nD) (d : Fin 2) (i : Fin 1024) (j : Fin 2048) :
    ownC m c (ix3 d i j) = part m c (rowAt (mv d 0 c) i) (colAt d j) := by
  have hx (n : Fin 4096) : (k0_pay1 (M6.view.readAt (Elt Ideal) (rX 1 1).toLoadRect (XC m 0 c)) (M1.view.readAt (Elt Ideal) rWA.toLoadRect (wC m c)) (ix2 i n) : EReal)
      = part m c (rowAt c i) n := by
    rw [pay1_apply]
    unfold part
    refine Finset.sum_congr rfl fun k _ => ?_
    refine congrArg₂ (fun a b : EReal => a * b) ((ld_X _ _ _ _ _).trans ?_) (ld_WA _ _ _)
    rw [X_apply, mv_zero]
  rw [mv_zero]
  unfold ownC
  by_cases hd : d.val = 0
  · refine (if_pos hd).trans ((pay2_apply _ _ i j).trans ((hx _).trans ?_))
    exact congrArg (part m c (rowAt c i)) (Fin.ext (by show j.val = 2048 * d.val + j.val; omega))
  · refine (if_neg hd).trans ((pay3_apply _ i j).trans ((hx _).trans ?_))
    exact congrArg (part m c (rowAt c i)) (Fin.ext (by show 2048 + j.val = 2048 * d.val + j.val; omega))

theorem up_eq (d : Fin 2) (c : Dev nD) : up d c = mv d 1 c := by revert d c; decide

/-- One hop: what arrives, with the local products added on the way out, unchanged on the way back. -/
theorem next_apply (h : ℕ) (c : Dev nD) (d : Fin 2) (i : Fin 1024) (j : Fin 2048) :
    (SC m (h + 1) c (ix3 d i j) : EReal) = if h < 7 then (SC m h (up d c) (ix3 d i j) : EReal) + locC m h c (ix3 d i j) else SC m h (up d c) (ix3 d i j) := by
  have hi : (⟨512 * (i.val / 512) + i.val % 512, by omega⟩ : Fin 1024) = i := Fin.ext (by show 512 * (i.val / 512) + i.val % 512 = i.val; omega)
  show nextHalf m h c (arrive (SC m h) c) ⟨i.val / 512, by omega⟩ (ix3 d (⟨i.val % 512, Nat.mod_lt _ (by decide)⟩ : Fin 512) j) = _
  unfold nextHalf
  by_cases hh : h < 7
  · rw [if_pos hh, if_pos hh, pay6_apply]
    refine congrArg₂ (fun a b : EReal => a + b) ((ld_RB _ _ _ _ _ _).trans ?_) ((ld_SB _ _ _ _ _).trans ?_)
    · rw [hi]; rfl
    · rw [hi]
  · rw [if_neg hh, if_neg hh, pay36_apply]
    refine (ld_RB _ _ _ _ _ _).trans ?_
    rw [hi]; rfl

/-- On the way out: the parts of the devices passed. -/
theorem out_apply (h : ℕ) (hh : h ≤ 7) (c : Dev nD) (d : Fin 2) (i : Fin 1024) (j : Fin 2048) :
    (SC m h c (ix3 d i j) : EReal) = ∑ t ∈ Finset.range (h + 1), part m (mv d t c) (rowAt (mv d h c) i) (colAt d j) := by
  induction h generalizing c with
  | zero =>
    rw [Finset.sum_range_one]
    refine (own_apply m c d i j).trans ?_
    rw [mv_zero]
  | succ h ih =>
    rw [next_apply, if_pos (by omega), ih (by omega), loc_apply, Finset.sum_range_succ' _ (h + 1), mv_zero, up_eq, mv_mv]
    refine congrArg (· + _) (Finset.sum_congr rfl fun t _ => ?_)
    rw [mv_mv]

/-- An element of the whole product. -/
def full (r : Fin 8192) (j : Fin 4096) : EReal := ∑ c : Dev nD, part m c r j

theorem mv_bij (d : Fin 2) (c : Dev nD) : Function.Bijective fun t : Fin 8 => mv d t.val c := by revert d c; decide +kernel

theorem all_apply (c : Dev nD) (d : Fin 2) (i : Fin 1024) (j : Fin 2048) :
    (SC m 7 c (ix3 d i j) : EReal) = full m (rowAt (mv d 7 c) i) (colAt d j) := by
  rw [out_apply m 7 le_rfl]
  unfold full
  rw [← Function.Bijective.sum_comp (mv_bij d c) fun c' => part m c' (rowAt (mv d 7 c) i) (colAt d j)]
  exact Finset.sum_range fun t => part m (mv d t c) (rowAt (mv d 7 c) i) (colAt d j)

/-- On the way back: the whole sums. -/
theorem back_apply (k : ℕ) (c : Dev nD) (d : Fin 2) (i : Fin 1024) (j : Fin 2048) :
    (SC m (k + 7) c (ix3 d i j) : EReal) = full m (rowAt (mv d (k + 7) c) i) (colAt d j) := by
  induction k generalizing c with
  | zero => exact all_apply m c d i j
  | succ k ih =>
    rw [show k + 1 + 7 = k + 7 + 1 by omega, next_apply, if_neg (by omega), ih, up_eq, mv_mv]

theorem ob_apply (c : Dev nD) (d : Fin 2) (k : ℕ) (i : Fin 1024) (j : Fin 2048) :
    (OB m c d k (ix2 i j) : EReal) = max (full m (rowAt (mv d (k + 7) c) i) (colAt d j)) 0 := by
  cases k with
  | zero =>
    show k0_pay32 _ (ix2 i j) = _
    rw [pay32_apply]
    exact congrArg (fun a : EReal => max a 0) ((ld_SW _ _ _ _).trans (back_apply m 0 c d i j))
  | succ k =>
    show k0_pay37 _ (ix2 i j) = _
    rw [pay37_apply]
    refine congrArg (fun a : EReal => max a 0) ((ld_RW _ _ _ _ _).trans ?_)
    show (SC m (k + 7) (up d c) (ix3 d i j) : EReal) = _
    rw [back_apply, up_eq, mv_mv, show k + 7 + 1 = k + 1 + 7 by omega]

/-- The result over the reals: the rectified product, the same on every device. -/
theorem out_value (c : Dev nD) (r : Fin 8192) (j : Fin 4096) : (outC m c (ix2 r j) : EReal) = max (full m r j) 0 := by
  refine (ob_apply m c ⟨j.val / 2048, by omega⟩ (kOf ⟨j.val / 2048, by omega⟩ c (r.val / 1024)) ⟨r.val % 1024, by omega⟩ ⟨j.val % 2048, by omega⟩).trans ?_
  have hm := mv_kOf ⟨j.val / 2048, by omega⟩ ⟨r.val / 1024, by omega⟩ c
  have e1 : rowAt (mv ⟨j.val / 2048, by omega⟩ (kOf ⟨j.val / 2048, by omega⟩ c (r.val / 1024) + 7) c) ⟨r.val % 1024, by omega⟩ = r :=
    Fin.ext (by
      show 1024 * (mv ⟨j.val / 2048, by omega⟩ (kOf ⟨j.val / 2048, by omega⟩ c (r.val / 1024) + 7) c).val + r.val % 1024 = r.val
      rw [hm]
      show 1024 * (r.val / 1024) + r.val % 1024 = r.val
      omega)
  have e2 : colAt ⟨j.val / 2048, by omega⟩ ⟨j.val % 2048, by omega⟩ = j := Fin.ext (by show 2048 * (j.val / 2048) + j.val % 2048 = j.val; omega)
  rw [e1, e2]

end Cert.Proof

end
-- ==== Proof.Same.lean ====
/-
  The value of the reference, and that the kernel computes it.
-/
module

public import proofs.«01_k».proof.Proof.Value
public import proofs.«01_k».proof.Proof.Gen.ReferenceIdeal.Run
public import Idealize.ShloMosaic.Lib.StackMember
public import Idealize.ShloMosaic.Lib.Layout

@[expose] public section

noncomputable section

namespace Cert.Proof

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

/-- The reference's value of its two arrays. -/
def refVal (x : FVec Ideal Cert.ReferenceIdeal.S8192x8192 .f32) (w : FVec Ideal S8192x4096 .bf16) : FVec Ideal S8192x4096 .bf16 :=
  truncf .bf16 (maximumf (extf .f32 (truncf .bf16 (Host.dotGeneral Cert.ReferenceIdeal.dot_S8192x8192_S8192x4096_S8192x4096_1_0_0_1_n_n none
    (truncf .bf16 x Cert.ReferenceIdeal.Gen.bitsLt_bf16_f32) w) Cert.ReferenceIdeal.Gen.bitsLt_bf16_f32) Cert.ReferenceIdeal.Gen.bitsLt_bf16_f32)
    (broadcastInDim S8192x4096 ![] Cert.ReferenceIdeal.Gen.bcast_S_S8192x4096 (constant Cert.ReferenceIdeal.S_ .f32 0x00000000#32))) Cert.ReferenceIdeal.Gen.bitsLt_bf16_f32

theorem dotR : Cert.ReferenceIdeal.dot_S8192x8192_S8192x4096_S8192x4096_1_0_0_1_n_n = DotDims.plain 8192 8192 4096 := rfl

theorem ref_apply (x : FVec Ideal Cert.ReferenceIdeal.S8192x8192 .f32) (w : FVec Ideal S8192x4096 .bf16) (r : Fin 8192) (j : Fin 4096) :
    (refVal x w (ix2 r j) : EReal) = max (∑ k : Fin 8192, (x (ix2 r k) : EReal) * w (ix2 k j)) 0 := by
  unfold refVal
  rw [truncf_apply, maximumf_apply, extf_apply, truncf_apply, dotR, StackMember.dotGeneral_plain_apply]
  refine congrArg₂ (fun a b : EReal => max a b) rfl ?_
  show Ideal.ofBits .f32 0x00000000#32 = 0
  exact Ideal.ofBits_zero_f32

/-- A sum over the 8192 positions, device by device. -/
theorem sum_split (f : Fin 8192 → EReal) : ∑ k : Fin 8192, f k = ∑ c : Fin 8, ∑ k : Fin 1024, f (rowAt c k) := by
  rw [← Fintype.sum_prod_type' (fun (c : Fin 8) (k : Fin 1024) => f (rowAt c k))]
  symm
  refine Fintype.sum_equiv (finProdFinEquiv (m := 8) (n := 1024)) _ (fun k : Fin 8192 => f k) fun p => congrArg f (Fin.ext ?_)
  show 1024 * p.1.val + p.2.val = p.2.val + 1024 * p.1.val
  omega

variable (m : (ℓ : Loc nD τ sig) → Buf (Elt Ideal) ℓ)

theorem full_eq (x : FVec Ideal Cert.ReferenceIdeal.S8192x8192 .f32) (w : FVec Ideal S8192x4096 .bf16)
    (h : ∀ c : Dev nD, m ((c : Thread nD τ).loc main_arg0) = Layout.block ⟨2, ![8192, 1024]⟩ ⟨2, ![8192, 8192]⟩ 1 8 c x
      ∧ m ((c : Thread nD τ).loc main_arg1) = Layout.block ⟨2, ![1024, 4096]⟩ ⟨2, ![8192, 4096]⟩ 0 8 c w) (r : Fin 8192) (j : Fin 4096) :
    full m r j = ∑ k : Fin 8192, (x (ix2 r k) : EReal) * w (ix2 k j) := by
  rw [sum_split]
  unfold full
  refine Finset.sum_congr rfl fun c _ => ?_
  unfold part
  refine Finset.sum_congr rfl fun k _ => congrArg₂ (fun a b : EReal => a * b) ?_ ?_
  · refine (congrFun (h c).1 (ix2 r k)).trans (congrArg x (funext fun a => Fin.ext ?_))
    match a with
    | ⟨0, _⟩ => rfl
    | ⟨1, _⟩ => show c.val * 1024 + k.val = 1024 * c.val + k.val; omega
  · rw [w_eq]
    refine (congrFun (h c).2 (ix2 k j)).trans (congrArg w (funext fun a => Fin.ext ?_))
    match a with
    | ⟨0, _⟩ => show c.val * 1024 + k.val = 1024 * c.val + k.val; omega
    | ⟨1, _⟩ => rfl

/-- Every device's result is the reference's. -/
theorem out_eq (x : FVec Ideal Cert.ReferenceIdeal.S8192x8192 .f32) (w : FVec Ideal S8192x4096 .bf16)
    (h : ∀ c : Dev nD, m ((c : Thread nD τ).loc main_arg0) = Layout.block ⟨2, ![8192, 1024]⟩ ⟨2, ![8192, 8192]⟩ 1 8 c x
      ∧ m ((c : Thread nD τ).loc main_arg1) = Layout.block ⟨2, ![1024, 4096]⟩ ⟨2, ![8192, 4096]⟩ 0 8 c w) (c : Dev nD) :
    outC m c = refVal x w := by
  funext i
  obtain ⟨r, j, rfl⟩ : ∃ (r : Fin 8192) (j : Fin 4096), i = ix2 r j := ⟨i 0, i 1, eq_ix2 i⟩
  exact (out_value m c r j).trans (by rw [full_eq m x w h, ref_apply])

end Cert.Proof

end
-- ==== Proof.Text.lean ====
/-
  The two printed programs have the same text.
-/
module

public import proofs.«01_k».proof.Defs
public import proofs.«01_k».proof.Proof.Gen.Kernel
public import proofs.«01_k».proof.Proof.Gen.KernelIdeal

@[expose] public section

set_option maxRecDepth 65536

noncomputable section

namespace Cert.Proof

open Idealize.ShloMosaic Idealize.SL.Sem

/-- The kernels' body tables, label by label. -/
theorem text₀ : Cert.Kernel.defs₀ (F := Bits) = Cert.KernelIdeal.defs₀ (F := Bits) := by
  funext κ l
  match κ with
  | .tc =>
    match l with
    | ⟨0, _⟩ => rfl
    | ⟨_ + 1, h⟩ => exact absurd h (Nat.not_lt.2 (Nat.le_add_left _ _))
  | .scScalar _ => rfl
  | .scVector _ _ => rfl

/-- The whole tables. -/
theorem text : Cert.Kernel.defs (F := Bits) = Cert.KernelIdeal.defs (F := Bits) :=
  congrArg (Pipeline.defs (Cert.KernelIdeal.pcfgs (F := Bits))) text₀

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import proofs.«01_k».proof.Proof.Same
public import proofs.«01_k».proof.Proof.Text
public import Idealize.ShloMosaic.Lib.Quiescent
public import Idealize.ShloMosaic.Adequacy
public import Idealize.ShloMosaic.Init

@[expose] public section

noncomputable section

namespace Cert.Proof

open Idealize.ShloMosaic Idealize.SL.Sem

/-- The idealized kernel runs, keeps its arguments and ends with every counter at zero. -/
theorem frame_ideal : Cert.quiescent_KernelIdeal := fun m ρ _ =>
  (θ_run Cert.KernelIdeal.defs _ _).mono (fun _ h => ⟨fun c => ⟨(h.1 c).2.1, (h.1 c).2.2⟩, h.2⟩) (run_main (F := Ideal) m ρ)

/-- The same text over machine floats. -/
theorem frame_kernel : Cert.quiescent_Kernel := by
  intro m ρ _
  have h := (θ_run Cert.KernelIdeal.defs _ _).mono (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) (fun _ h => ⟨fun c => ⟨(h.1 c).2.1, (h.1 c).2.2⟩, h.2⟩) (run_main (F := Bits) m ρ)
  exact (congrArg (fun D => (θ_run D (onTc (τ := Cert.KernelIdeal.τ) (Cert.KernelIdeal.main (F := Bits))) (s₀ m ρ)) _) text).mpr h

/-- The reference has no counters at all. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩) (Cert.ReferenceIdeal.Value.run m ρ)

/-- Every device ends with the whole of the reference's result. -/
theorem same_value : Cert.algebraic_KernelIdeal_ReferenceIdeal := fun m ρ m' ρ' _ h =>
  ⟨refVal (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c).1.trans (out_eq m _ _ h c), (hr.1 c).2.1, (hr.1 c).2.2⟩) (run_main (F := Ideal) m ρ),
    (θ_run Cert.ReferenceIdeal.defs _ _).mono (fun _ hr => hr 0) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, same_value⟩

end Cert.Proof

end
